-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nonneg [hPre_nonneg : Cert.Pre_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonneg [hPre_nonneg : Cert.Pre_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_nonneg [hKernelIdeal : Cert.KernelIdeal.Facts] [hPre_nonneg : Cert.Pre_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_nonneg [hReferenceIdeal : Cert.ReferenceIdeal.Facts] [hPre_nonneg : Cert.Pre_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def preserves_Kernel_KernelIdeal : Prop :=
  True

def algebraic_KernelIdeal_ReferenceIdeal_pre_nonneg [hKernelIdeal : Cert.KernelIdeal.Facts] [hReferenceIdeal : Cert.ReferenceIdeal.Facts] [hPre_nonneg : Cert.Pre_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v267) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  IdealRules.named_const.Statement Cert.Kernel2Ideal.κ "qs" .f32 0x3E38AA3B#32 (((8 * (Real.log 2))⁻¹ : ℝ) : EReal)
  ∧ IdealRules.named_const.Statement Cert.Kernel2Ideal.κ "mask" .f32 0xF149F2CA#32 ⊥

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v80) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_nonneg : Cert.Pre_nonneg.Facts) (hPre_finite : Cert.Pre_finite.Facts),
    quiescent_Kernel (hKernel := hKernel)
    ∧ quiescent_KernelIdeal (hKernelIdeal := hKernelIdeal)
    ∧ quiescent_KernelIdeal_pre_nonneg (hKernelIdeal := hKernelIdeal) (hPre_nonneg := hPre_nonneg)
    ∧ quiescent_ReferenceIdeal (hReferenceIdeal := hReferenceIdeal)
    ∧ quiescent_ReferenceIdeal_pre_nonneg (hReferenceIdeal := hReferenceIdeal) (hPre_nonneg := hPre_nonneg)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ preserves_Kernel_KernelIdeal
    ∧ algebraic_KernelIdeal_ReferenceIdeal_pre_nonneg (hKernelIdeal := hKernelIdeal) (hReferenceIdeal := hReferenceIdeal) (hPre_nonneg := hPre_nonneg)
    ∧ preserves_Kernel2_Kernel2Ideal
    ∧ algebraic_Kernel2Ideal_Reference2Ideal_pre_finite (hKernel2Ideal := hKernel2Ideal) (hReference2Ideal := hReference2Ideal) (hPre_finite := hPre_finite)
-- ==== Pre_finite.lean ====
abbrev S16896x5120 : Shape := ⟨2, ![16896, 5120]⟩
abbrev S16896x1024 : Shape := ⟨2, ![16896, 1024]⟩
abbrev S64 : Shape := ⟨1, ![64]⟩
abbrev S128 : Shape := ⟨1, ![128]⟩
abbrev S_ : Shape := ⟨0, ![]⟩

class Facts : Prop where
  bcast_S_S16896x1024 : S_.BroadcastsInDim S16896x1024 (![] : Fin 0 → Fin S16896x1024.rank)
  reducesTo_S16896x1024_S_d0_1 : S16896x1024.ReducesTo [0, 1] S_
  h_S_ : 0 < S_.numel
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S16896x5120 .f32) (main_arg1 : FVec F S16896x1024 .f32) (main_arg2 : FVec F S16896x1024 .f32) (main_arg3 : FVec F S64 .f32) (main_arg4 : FVec F S64 .f32) (main_arg5 : FVec F S64 .f32) (main_arg6 : FVec F S64 .f32) (main_arg7 : FVec F S128 .f32) : IVec S_ 1 :=
  let main_v0 : FVec F S16896x1024 .f32 := Host.absf main_arg2
  let main_cst : FVec F S_ .f32 := constant S_ .f32 0x7F800000#32
  let main_v1 : FVec F S16896x1024 .f32 := broadcastInDim S16896x1024 ![] bcast_S_S16896x1024 main_cst
  let main_v2 : IVec S16896x1024 1 := cmpf .olt main_v0 main_v1
  let main_c : IVec S_ 1 := constantI S_ 1 1#1
  let main_v3 : IVec S_ 1 := (fun x v => Host.reduce IntOp.andi x v reducesTo_S16896x1024_S_d0_1 h_S_) main_v2 main_c
  let main_v4 : FVec F S64 .f32 := Host.absf main_arg3
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_v13 main_v16
-- ==== Pre_nonneg.lean ====
abbrev S16896x1024 : Shape := ⟨2, ![16896, 1024]⟩
abbrev S16896x16 : Shape := ⟨2, ![16896, 16]⟩
abbrev S16x1024x1024 : Shape := ⟨3, ![16, 1024, 1024]⟩
abbrev S1024 : Shape := ⟨1, ![1024]⟩
abbrev S_ : Shape := ⟨0, ![]⟩

class Facts : Prop where
  bcast_S_S16896x16 : S_.BroadcastsInDim S16896x16 (![] : Fin 0 → Fin S16896x16.rank)
  reducesTo_S16896x16_S_d0_1 : S16896x16.ReducesTo [0, 1] S_
  h_S_ : 0 < S_.numel

variable [Facts]

def fn {F : FTy → Type} [FloatOps F] (main_arg0 : FVec F S16896x1024 .f32) (main_arg1 : FVec F S16896x16 .f32) (main_arg2 : FVec F S16x1024x1024 .f32) (main_arg3 : FVec F S16x1024x1024 .f32) (main_arg4 : FVec F S16x1024x1024 .f32) (main_arg5 : FVec F S1024 .f32) (main_arg6 : FVec F S1024 .f32) : IVec S_ 1 :=
  let main_cst : FVec F S_ .f32 := constant S_ .f32 0x00000000#32
  let main_v0 : FVec F S16896x16 .f32 := broadcastInDim S16896x16 ![] bcast_S_S16896x16 main_cst
  let main_v1 : IVec S16896x16 1 := cmpf .oge main_arg1 main_v0
  let main_c : IVec S_ 1 := constantI S_ 1 1#1
  let main_v2 : IVec S_ 1 := (fun x v => Host.reduce IntOp.andi x v reducesTo_S16896x16_S_d0_1 h_S_) main_v1 main_c
  main_v2
-- ==== Kernel.lean ====
abbrev S16896x1024 : Shape := ⟨2, ![16896, 1024]⟩
abbrev S16896x16 : Shape := ⟨2, ![16896, 16]⟩
abbrev S16x1024x1024 : Shape := ⟨3, ![16, 1024, 1024]⟩
abbrev S1024 : Shape := ⟨1, ![1024]⟩
abbrev S16x16896 : Shape := ⟨2, ![16, 16896]⟩
abbrev S1x1024 : Shape := ⟨2, ![1, 1024]⟩
abbrev S1536x1024 : Shape := ⟨2, ![1536, 1024]⟩
abbrev S16x1536 : Shape := ⟨2, ![16, 1536]⟩
abbrev S1x1024x1024 : Shape := ⟨3, ![1, 1024, 1024]⟩
abbrev S1536x1536 : Shape := ⟨2, ![1536, 1536]⟩
abbrev S1x1536 : Shape := ⟨2, ![1, 1536]⟩
abbrev S1x1x1536 : Shape := ⟨3, ![1, 1, 1536]⟩
abbrev S1 : Shape := ⟨1, ![1]⟩
abbrev S1x1x1 : Shape := ⟨3, ![1, 1, 1]⟩
abbrev S256x1536 : Shape := ⟨2, ![256, 1536]⟩
abbrev S256 : Shape := ⟨1, ![256]⟩
abbrev S256x1 : Shape := ⟨2, ![256, 1]⟩
abbrev S256x1024 : Shape := ⟨2, ![256, 1024]⟩
abbrev S1024x1024 : Shape := ⟨2, ![1024, 1024]⟩
abbrev S1536 : Shape := ⟨1, ![1536]⟩
abbrev S1536x1 : Shape := ⟨2, ![1536, 1]⟩

abbrev nBuf : Space → Nat
  | .hbm => 14
  | .vmem => 16
  | .smem => 0
  | _ => 0

abbrev bufTy : (tb : Table) → Fin (tcTables nBuf tb) → BufTy
  | .hbm, ⟨0, _⟩ => ⟨S16896x1024, .f32⟩
  | .hbm, ⟨1, _⟩ => ⟨S16896x16, .f32⟩
  | .hbm, ⟨2, _⟩ => ⟨S16x1024x1024, .f32⟩
  | .hbm, ⟨3, _⟩ => ⟨S16x1024x1024, .f32⟩
  | .hbm, ⟨4, _⟩ => ⟨S16x1024x1024, .f32⟩
  | .hbm, ⟨5, _⟩ => ⟨S1024, .f32⟩
  | .hbm, ⟨6, _⟩ => ⟨S1024, .f32⟩
  | .hbm, ⟨7, _⟩ => ⟨S16x16896, .f32⟩
  | .hbm, ⟨8, _⟩ => ⟨S16x1024x1024, .bf16⟩
  | .hbm, ⟨9, _⟩ => ⟨S16x1024x1024, .bf16⟩
  | .hbm, ⟨10, _⟩ => ⟨S16x1024x1024, .bf16⟩
  | .hbm, ⟨11, _⟩ => ⟨S1x1024, .f32⟩
  | .hbm, ⟨12, _⟩ => ⟨S1x1024, .f32⟩
  | .hbm, ⟨13, _⟩ => ⟨S16896x1024, .f32⟩
  | .local _ .vmem, ⟨0, _⟩ => ⟨S1536x1024, .f32⟩
  | .local _ .vmem, ⟨1, _⟩ => ⟨S16x1536, .f32⟩
  | .local _ .vmem, ⟨2, _⟩ => ⟨S16x1536, .f32⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1x1024, .f32⟩
  | .local _ .vmem, ⟨10, _⟩ => ⟨S1x1024, .f32⟩
  | .local _ .vmem, ⟨11, _⟩ => ⟨S1536x1024, .f32⟩
  | .local _ .vmem, ⟨12, _⟩ => ⟨S1536x1024, .f32⟩
  | .local _ .vmem, ⟨13, _⟩ => ⟨S1536x1024, .bf16⟩
  | .local _ .vmem, ⟨14, _⟩ => ⟨S1536x1024, .f32⟩
  | .local _ .vmem, ⟨15, _⟩ => ⟨S16x1536, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![11, 16], ![false, false]⟩

def k0_off1 (i : grid0.Coords) : Fin 2 → Nat :=
  let arg1 : BitVec 32 := BitVec.ofNat 32 (i 1).val
  let v3 : Index := Scalar.indexCast arg1
  let c0 : Index := 0#32
  ![v3.toNat, 0]
@[reducible] def k0_t1_loop (v17 : BitVec 32) : Scf.Loop 32 :=
  let c0_i32_13 : BitVec 32 := 0#32
  let c256_i32 : BitVec 32 := 256#32
  let v18 : BitVec 32 := Scalar.addi v17 c256_i32
  let c1_i32 : BitVec 32 := 1#32
  let v19 : BitVec 32 := Scalar.subi v18 c1_i32
  let c0_i32_6 : BitVec 32 := 0#32
  let v21 : BitVec 1 := Scalar.cmpi .sgt v19 c0_i32_6
  let v22 : BitVec 32 := Scalar.extui v21
  let c0_i32_7 : BitVec 32 := 0#32
  let v23 : BitVec 1 := Scalar.cmpi .slt v19 c0_i32_7
  let v24 : BitVec 32 := Scalar.extui v23
  let v25 : BitVec 32 := Scalar.subi v22 v24
  let c256_i32_5 : BitVec 32 := 256#32
  let c0_i32_8 : BitVec 32 := 0#32
  let v26 : BitVec 1 := Scalar.cmpi .sgt c256_i32_5 c0_i32_8
  let v27 : BitVec 32 := Scalar.extui v26
  let c0_i32_9 : BitVec 32 := 0#32
  let v28 : BitVec 1 := Scalar.cmpi .slt c256_i32_5 c0_i32_9
  let v29 : BitVec 32 := Scalar.extui v28
  let v30 : BitVec 32 := Scalar.subi v27 v29
  let v31 : BitVec 1 := Scalar.cmpi .ne v25 v30
  let v32 : BitVec 32 := Scalar.remsi v19 c256_i32_5
  let c0_i32_10 : BitVec 32 := 0#32
  let v33 : BitVec 1 := Scalar.cmpi .ne v32 c0_i32_10
  let v34 : BitVec 1 := Scalar.andi v31 v33
  let v20 : BitVec 32 := Scalar.divsi v19 c256_i32_5
  let c1_i32_11 : BitVec 32 := 1#32
  let v35 : BitVec 32 := Scalar.subi v20 c1_i32_11
  let v36 : BitVec 32 := Scalar.select v34 v35 v20
  let v37 : BitVec 32 := Scalar.subi v36 c0_i32_13
  let c1_i32_14 : BitVec 32 := 1#32
  let v39 : BitVec 32 := Scalar.divsi v37 c1_i32_14
  let v40 : BitVec 32 := Scalar.muli v39 c1_i32_14
  let v41 : BitVec 32 := Scalar.addi c0_i32_13 v40
  let c1_i32_15 : BitVec 32 := 1#32
  ⟨c0_i32_13, v41, c1_i32_15⟩

@[reducible] def k0_t2_loop (v17 : BitVec 32) : Scf.Loop 32 :=
  let c0_i32_13 : BitVec 32 := 0#32
  let c256_i32 : BitVec 32 := 256#32
  let v18 : BitVec 32 := Scalar.addi v17 c256_i32
  let c1_i32 : BitVec 32 := 1#32
  let v19 : BitVec 32 := Scalar.subi v18 c1_i32
  let c0_i32_6 : BitVec 32 := 0#32
  let v21 : BitVec 1 := Scalar.cmpi .sgt v19 c0_i32_6
  let v22 : BitVec 32 := Scalar.extui v21
  let c0_i32_7 : BitVec 32 := 0#32
  let v23 : BitVec 1 := Scalar.cmpi .slt v19 c0_i32_7
  let v24 : BitVec 32 := Scalar.extui v23
  let v25 : BitVec 32 := Scalar.subi v22 v24
  let c256_i32_5 : BitVec 32 := 256#32
  let c0_i32_8 : BitVec 32 := 0#32
  let v26 : BitVec 1 := Scalar.cmpi .sgt c256_i32_5 c0_i32_8
  let v27 : BitVec 32 := Scalar.extui v26
  let c0_i32_9 : BitVec 32 := 0#32
  let v28 : BitVec 1 := Scalar.cmpi .slt c256_i32_5 c0_i32_9
  let v29 : BitVec 32 := Scalar.extui v28
  let v30 : BitVec 32 := Scalar.subi v27 v29
  let v31 : BitVec 1 := Scalar.cmpi .ne v25 v30
  let v32 : BitVec 32 := Scalar.remsi v19 c256_i32_5
  let c0_i32_10 : BitVec 32 := 0#32
  let v33 : BitVec 1 := Scalar.cmpi .ne v32 c0_i32_10
  let v34 : BitVec 1 := Scalar.andi v31 v33
  let v20 : BitVec 32 := Scalar.divsi v19 c256_i32_5
  let c1_i32_11 : BitVec 32 := 1#32
  let v35 : BitVec 32 := Scalar.subi v20 c1_i32_11
  let v36 : BitVec 32 := Scalar.select v34 v35 v20
  let v37 : BitVec 32 := Scalar.subi v36 c0_i32_13
  let c1_i32_14 : BitVec 32 := 1#32
  let v39 : BitVec 32 := Scalar.divsi v37 c1_i32_14
  let v40 : BitVec 32 := Scalar.muli v39 c1_i32_14
  let v41 : BitVec 32 := Scalar.addi c0_i32_13 v40
  let v38 : BitVec 32 := Scalar.addi c0_i32_13 v37
  let c1_i32_16 : BitVec 32 := 1#32
  ⟨v41, v38, c1_i32_16⟩

def k0_chk1 (v17 : BitVec 32) : Prop :=
  ((k0_t1_loop v17).OK) ∧
  ((k0_t2_loop v17).OK)
theorem k0_t1_ok : ∀ (v17 : BitVec 32) (k0_hw1 : k0_chk1 v17), (k0_t1_loop v17).OK := fun v17 k0_hw1 => k0_hw1.1
theorem k0_t2_ok : ∀ (v17 : BitVec 32) (k0_hw1 : k0_chk1 v17), (k0_t2_loop v17).OK := fun v17 k0_hw1 => k0_hw1.2

def k0_cond2 (i : grid0.Coords) : BitVec 1 :=
  let arg1 : BitVec 32 := BitVec.ofNat 32 (i 1).val
  let c15_i32 : BitVec 32 := 15#32
  let v42 : BitVec 1 := Scalar.cmpi .eq arg1 c15_i32
  let v43 : BitVec 32 := Scalar.extui v42
  let c0_i32_17 : BitVec 32 := 0#32
  let v44 : BitVec 1 := Scalar.cmpi .ne v43 c0_i32_17
  v44

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1536x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S16x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1536x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S16896x1024 : Shape := ⟨2, ![16896, 1024]⟩
abbrev S16896x16 : Shape := ⟨2, ![16896, 16]⟩
abbrev S16x1024x1024 : Shape := ⟨3, ![16, 1024, 1024]⟩
abbrev S1024 : Shape := ⟨1, ![1024]⟩
abbrev S_ : Shape := ⟨0, ![]⟩
abbrev S1x1024x1024 : Shape := ⟨3, ![1, 1024, 1024]⟩
abbrev S1024x1024 : Shape := ⟨2, ![1024, 1024]⟩
abbrev S16896x1 : Shape := ⟨2, ![16896, 1]⟩
abbrev S16896 : Shape := ⟨1, ![16896]⟩
abbrev S1x1024 : Shape := ⟨2, ![1, 1024]⟩

abbrev nBuf : Space → Nat
  | .hbm => 410
  | .vmem => 0
  | .smem => 0
  | _ => 0

abbrev hbmTy0_0 (i : Nat) : BufTy := match i % 128 with
  | 0 => ⟨S16896x1024, .f32⟩
  | 1 => ⟨S16896x16, .f32⟩
  | 2 => ⟨S16x1024x1024, .f32⟩
  | 3 => ⟨S16x1024x1024, .f32⟩
  | 4 => ⟨S16x1024x1024, .f32⟩
  | 5 => ⟨S1024, .f32⟩
  | 6 => ⟨S1024, .f32⟩
  | 7 => ⟨S_, .f32⟩
  | 8 => ⟨S16896x1024, .f32⟩
  | 9 => ⟨S1x1024x1024, .f32⟩
  | 10 => ⟨S1024x1024, .f32⟩
  | 11 => ⟨S16896x1024, .f32⟩
  | 12 => ⟨S16896x1024, .f32⟩
  | 13 => ⟨S16896x1024, .f32⟩
  | 14 => ⟨S_, .f32⟩
  | 15 => ⟨S16896x1024, .f32⟩
  | 16 => ⟨S16896x1024, .f32⟩
  | 17 => ⟨S_, .f32⟩
  | 18 => ⟨S16896x1024, .f32⟩
  | 19 => ⟨S16896x1024, .f32⟩
  | 20 => ⟨S16896x1024, .f32⟩
  | 21 => ⟨S1x1024x1024, .f32⟩
  | 22 => ⟨S1024x1024, .f32⟩
  | 23 => ⟨S16896x1024, .f32⟩
  | 24 => ⟨S16896x1024, .f32⟩
  | 25 => ⟨S16896x1, .f32⟩
  | 26 => ⟨S1x1024x1024, .f32⟩
  | 27 => ⟨S1024x1024, .f32⟩
  | 28 => ⟨S16896x1024, .f32⟩
  | 29 => ⟨S16896x1024, .f32⟩
  | 30 => ⟨S16896x1024, .f32⟩
  | 31 => ⟨S16896x1024, .f32⟩
  | 32 => ⟨S1x1024x1024, .f32⟩
  | 33 => ⟨S1024x1024, .f32⟩
  | 34 => ⟨S16896x1024, .f32⟩
  | 35 => ⟨S16896x1024, .f32⟩
  | 36 => ⟨S16896x1024, .f32⟩
  | 37 => ⟨S_, .f32⟩
  | 38 => ⟨S16896x1024, .f32⟩
  | 39 => ⟨S16896x1024, .f32⟩
  | 40 => ⟨S_, .f32⟩
  | 41 => ⟨S16896x1024, .f32⟩
  | 42 => ⟨S16896x1024, .f32⟩
  | 43 => ⟨S16896x1024, .f32⟩
  | 44 => ⟨S1x1024x1024, .f32⟩
  | 45 => ⟨S1024x1024, .f32⟩
  | 46 => ⟨S16896x1024, .f32⟩
  | 47 => ⟨S16896x1024, .f32⟩
  | 48 => ⟨S16896x1, .f32⟩
  | 49 => ⟨S1x1024x1024, .f32⟩
  | 50 => ⟨S1024x1024, .f32⟩
  | 51 => ⟨S16896x1024, .f32⟩
  | 52 => ⟨S16896x1024, .f32⟩
  | 53 => ⟨S16896x1024, .f32⟩
  | 54 => ⟨S16896x1024, .f32⟩
  | 55 => ⟨S1x1024x1024, .f32⟩
  | 56 => ⟨S1024x1024, .f32⟩
  | 57 => ⟨S16896x1024, .f32⟩
  | 58 => ⟨S16896x1024, .f32⟩
  | 59 => ⟨S16896x1024, .f32⟩
  | 60 => ⟨S_, .f32⟩
  | 61 => ⟨S16896x1024, .f32⟩
  | 62 => ⟨S16896x1024, .f32⟩
  | 63 => ⟨S_, .f32⟩
  | 64 => ⟨S16896x1024, .f32⟩
  | 65 => ⟨S16896x1024, .f32⟩
  | 66 => ⟨S16896x1024, .f32⟩
  | 67 => ⟨S1x1024x1024, .f32⟩
  | 68 => ⟨S1024x1024, .f32⟩
  | 69 => ⟨S16896x1024, .f32⟩
  | 70 => ⟨S16896x1024, .f32⟩
  | 71 => ⟨S16896x1, .f32⟩
  | 72 => ⟨S1x1024x1024, .f32⟩
  | 73 => ⟨S1024x1024, .f32⟩
  | 74 => ⟨S16896x1024, .f32⟩
  | 75 => ⟨S16896x1024, .f32⟩
  | 76 => ⟨S16896x1024, .f32⟩
  | 77 => ⟨S16896x1024, .f32⟩
  | 78 => ⟨S1x1024x1024, .f32⟩
  | 79 => ⟨S1024x1024, .f32⟩
  | 80 => ⟨S16896x1024, .f32⟩
  | 81 => ⟨S16896x1024, .f32⟩
  | 82 => ⟨S16896x1024, .f32⟩
  | 83 => ⟨S_, .f32⟩
  | 84 => ⟨S16896x1024, .f32⟩
  | 85 => ⟨S16896x1024, .f32⟩
  | 86 => ⟨S_, .f32⟩
  | 87 => ⟨S16896x1024, .f32⟩
  | 88 => ⟨S16896x1024, .f32⟩
  | 89 => ⟨S16896x1024, .f32⟩
  | 90 => ⟨S1x1024x1024, .f32⟩
  | 91 => ⟨S1024x1024, .f32⟩
  | 92 => ⟨S16896x1024, .f32⟩
  | 93 => ⟨S16896x1024, .f32⟩
  | 94 => ⟨S16896x1, .f32⟩
  | 95 => ⟨S1x1024x1024, .f32⟩
  | 96 => ⟨S1024x1024, .f32⟩
  | 97 => ⟨S16896x1024, .f32⟩
  | 98 => ⟨S16896x1024, .f32⟩
  | 99 => ⟨S16896x1024, .f32⟩
  | 100 => ⟨S16896x1024, .f32⟩
  | 101 => ⟨S1x1024x1024, .f32⟩
  | 102 => ⟨S1024x1024, .f32⟩
  | 103 => ⟨S16896x1024, .f32⟩
  | 104 => ⟨S16896x1024, .f32⟩
  | 105 => ⟨S16896x1024, .f32⟩
  | 106 => ⟨S_, .f32⟩
  | 107 => ⟨S16896x1024, .f32⟩
  | 108 => ⟨S16896x1024, .f32⟩
  | 109 => ⟨S_, .f32⟩
  | 110 => ⟨S16896x1024, .f32⟩
  | 111 => ⟨S16896x1024, .f32⟩
  | 112 => ⟨S16896x1024, .f32⟩
  | 113 => ⟨S1x1024x1024, .f32⟩
  | 114 => ⟨S1024x1024, .f32⟩
  | 115 => ⟨S16896x1024, .f32⟩
  | 116 => ⟨S16896x1024, .f32⟩
  | 117 => ⟨S16896x1, .f32⟩
  | 118 => ⟨S1x1024x1024, .f32⟩
  | 119 => ⟨S1024x1024, .f32⟩
  | 120 => ⟨S16896x1024, .f32⟩
  | 121 => ⟨S16896x1024, .f32⟩
  | 122 => ⟨S16896x1024, .f32⟩
  | 123 => ⟨S16896x1024, .f32⟩
  | 124 => ⟨S1x1024x1024, .f32⟩
  | 125 => ⟨S1024x1024, .f32⟩
  | 126 => ⟨S16896x1024, .f32⟩
  | 127 => ⟨S16896x1024, .f32⟩
  | _ => ⟨S16896x1024, .f32⟩

abbrev hbmTy0_1 (i : Nat) : BufTy := match i % 128 with
  | 0 => ⟨S16896x1024, .f32⟩
  | 1 => ⟨S_, .f32⟩
  | 2 => ⟨S16896x1024, .f32⟩
  | 3 => ⟨S16896x1024, .f32⟩
  | 4 => ⟨S_, .f32⟩
  | 5 => ⟨S16896x1024, .f32⟩
  | 6 => ⟨S16896x1024, .f32⟩
  | 7 => ⟨S16896x1024, .f32⟩
  | 8 => ⟨S1x1024x1024, .f32⟩
  | 9 => ⟨S1024x1024, .f32⟩
  | 10 => ⟨S16896x1024, .f32⟩
  | 11 => ⟨S16896x1024, .f32⟩
  | 12 => ⟨S16896x1, .f32⟩
  | 13 => ⟨S1x1024x1024, .f32⟩
  | 14 => ⟨S1024x1024, .f32⟩
  | 15 => ⟨S16896x1024, .f32⟩
  | 16 => ⟨S16896x1024, .f32⟩
  | 17 => ⟨S16896x1024, .f32⟩
  | 18 => ⟨S16896x1024, .f32⟩
  | 19 => ⟨S1x1024x1024, .f32⟩
  | 20 => ⟨S1024x1024, .f32⟩
  | 21 => ⟨S16896x1024, .f32⟩
  | 22 => ⟨S16896x1024, .f32⟩
  | 23 => ⟨S16896x1024, .f32⟩
  | 24 => ⟨S_, .f32⟩
  | 25 => ⟨S16896x1024, .f32⟩
  | 26 => ⟨S16896x1024, .f32⟩
  | 27 => ⟨S_, .f32⟩
  | 28 => ⟨S16896x1024, .f32⟩
  | 29 => ⟨S16896x1024, .f32⟩
  | 30 => ⟨S16896x1024, .f32⟩
  | 31 => ⟨S1x1024x1024, .f32⟩
  | 32 => ⟨S1024x1024, .f32⟩
  | 33 => ⟨S16896x1024, .f32⟩
  | 34 => ⟨S16896x1024, .f32⟩
  | 35 => ⟨S16896x1, .f32⟩
  | 36 => ⟨S1x1024x1024, .f32⟩
  | 37 => ⟨S1024x1024, .f32⟩
  | 38 => ⟨S16896x1024, .f32⟩
  | 39 => ⟨S16896x1024, .f32⟩
  | 40 => ⟨S16896x1024, .f32⟩
  | 41 => ⟨S16896x1024, .f32⟩
  | 42 => ⟨S1x1024x1024, .f32⟩
  | 43 => ⟨S1024x1024, .f32⟩
  | 44 => ⟨S16896x1024, .f32⟩
  | 45 => ⟨S16896x1024, .f32⟩
  | 46 => ⟨S16896x1024, .f32⟩
  | 47 => ⟨S_, .f32⟩
  | 48 => ⟨S16896x1024, .f32⟩
  | 49 => ⟨S16896x1024, .f32⟩
  | 50 => ⟨S_, .f32⟩
  | 51 => ⟨S16896x1024, .f32⟩
  | 52 => ⟨S16896x1024, .f32⟩
  | 53 => ⟨S16896x1024, .f32⟩
  | 54 => ⟨S1x1024x1024, .f32⟩
  | 55 => ⟨S1024x1024, .f32⟩
  | 56 => ⟨S16896x1024, .f32⟩
  | 57 => ⟨S16896x1024, .f32⟩
  | 58 => ⟨S16896x1, .f32⟩
  | 59 => ⟨S1x1024x1024, .f32⟩
  | 60 => ⟨S1024x1024, .f32⟩
  | 61 => ⟨S16896x1024, .f32⟩
  | 62 => ⟨S16896x1024, .f32⟩
  | 63 => ⟨S16896x1024, .f32⟩
  | 64 => ⟨S16896x1024, .f32⟩
  | 65 => ⟨S1x1024x1024, .f32⟩
  | 66 => ⟨S1024x1024, .f32⟩
  | 67 => ⟨S16896x1024, .f32⟩
  | 68 => ⟨S16896x1024, .f32⟩
  | 69 => ⟨S16896x1024, .f32⟩
  | 70 => ⟨S_, .f32⟩
  | 71 => ⟨S16896x1024, .f32⟩
  | 72 => ⟨S16896x1024, .f32⟩
  | 73 => ⟨S_, .f32⟩
  | 74 => ⟨S16896x1024, .f32⟩
  | 75 => ⟨S16896x1024, .f32⟩
  | 76 => ⟨S16896x1024, .f32⟩
  | 77 => ⟨S1x1024x1024, .f32⟩
  | 78 => ⟨S1024x1024, .f32⟩
  | 79 => ⟨S16896x1024, .f32⟩
  | 80 => ⟨S16896x1024, .f32⟩
  | 81 => ⟨S16896x1, .f32⟩
  | 82 => ⟨S1x1024x1024, .f32⟩
  | 83 => ⟨S1024x1024, .f32⟩
  | 84 => ⟨S16896x1024, .f32⟩
  | 85 => ⟨S16896x1024, .f32⟩
  | 86 => ⟨S16896x1024, .f32⟩
  | 87 => ⟨S16896x1024, .f32⟩
  | 88 => ⟨S1x1024x1024, .f32⟩
  | 89 => ⟨S1024x1024, .f32⟩
  | 90 => ⟨S16896x1024, .f32⟩
  | 91 => ⟨S16896x1024, .f32⟩
  | 92 => ⟨S16896x1024, .f32⟩
  | 93 => ⟨S_, .f32⟩
  | 94 => ⟨S16896x1024, .f32⟩
  | 95 => ⟨S16896x1024, .f32⟩
  | 96 => ⟨S_, .f32⟩
  | 97 => ⟨S16896x1024, .f32⟩
  | 98 => ⟨S16896x1024, .f32⟩
  | 99 => ⟨S16896x1024, .f32⟩
  | 100 => ⟨S1x1024x1024, .f32⟩
  | 101 => ⟨S1024x1024, .f32⟩
  | 102 => ⟨S16896x1024, .f32⟩
  | 103 => ⟨S16896x1024, .f32⟩
  | 104 => ⟨S16896x1, .f32⟩
  | 105 => ⟨S1x1024x1024, .f32⟩
  | 106 => ⟨S1024x1024, .f32⟩
  | 107 => ⟨S16896x1024, .f32⟩
  | 108 => ⟨S16896x1024, .f32⟩
  | 109 => ⟨S16896x1024, .f32⟩
  | 110 => ⟨S16896x1024, .f32⟩
  | 111 => ⟨S1x1024x1024, .f32⟩
  | 112 => ⟨S1024x1024, .f32⟩
  | 113 => ⟨S16896x1024, .f32⟩
  | 114 => ⟨S16896x1024, .f32⟩
  | 115 => ⟨S16896x1024, .f32⟩
  | 116 => ⟨S_, .f32⟩
  | 117 => ⟨S16896x1024, .f32⟩
  | 118 => ⟨S16896x1024, .f32⟩
  | 119 => ⟨S_, .f32⟩
  | 120 => ⟨S16896x1024, .f32⟩
  | 121 => ⟨S16896x1024, .f32⟩
  | 122 => ⟨S16896x1024, .f32⟩
  | 123 => ⟨S1x1024x1024, .f32⟩
  | 124 => ⟨S1024x1024, .f32⟩
  | 125 => ⟨S16896x1024, .f32⟩
  | 126 => ⟨S16896x1024, .f32⟩
  | 127 => ⟨S16896x1, .f32⟩
  | _ => ⟨S16896x1024, .f32⟩

abbrev hbmTy0_2 (i : Nat) : BufTy := match i % 128 with
  | 0 => ⟨S1x1024x1024, .f32⟩
  | 1 => ⟨S1024x1024, .f32⟩
  | 2 => ⟨S16896x1024, .f32⟩
  | 3 => ⟨S16896x1024, .f32⟩
  | 4 => ⟨S16896x1024, .f32⟩
  | 5 => ⟨S16896x1024, .f32⟩
  | 6 => ⟨S1x1024x1024, .f32⟩
  | 7 => ⟨S1024x1024, .f32⟩
  | 8 => ⟨S16896x1024, .f32⟩
  | 9 => ⟨S16896x1024, .f32⟩
  | 10 => ⟨S16896x1024, .f32⟩
  | 11 => ⟨S_, .f32⟩
  | 12 => ⟨S16896x1024, .f32⟩
  | 13 => ⟨S16896x1024, .f32⟩
  | 14 => ⟨S_, .f32⟩
  | 15 => ⟨S16896x1024, .f32⟩
  | 16 => ⟨S16896x1024, .f32⟩
  | 17 => ⟨S16896x1024, .f32⟩
  | 18 => ⟨S1x1024x1024, .f32⟩
  | 19 => ⟨S1024x1024, .f32⟩
  | 20 => ⟨S16896x1024, .f32⟩
  | 21 => ⟨S16896x1024, .f32⟩
  | 22 => ⟨S16896x1, .f32⟩
  | 23 => ⟨S1x1024x1024, .f32⟩
  | 24 => ⟨S1024x1024, .f32⟩
  | 25 => ⟨S16896x1024, .f32⟩
  | 26 => ⟨S16896x1024, .f32⟩
  | 27 => ⟨S16896x1024, .f32⟩
  | 28 => ⟨S16896x1024, .f32⟩
  | 29 => ⟨S1x1024x1024, .f32⟩
  | 30 => ⟨S1024x1024, .f32⟩
  | 31 => ⟨S16896x1024, .f32⟩
  | 32 => ⟨S16896x1024, .f32⟩
  | 33 => ⟨S16896x1024, .f32⟩
  | 34 => ⟨S_, .f32⟩
  | 35 => ⟨S16896x1024, .f32⟩
  | 36 => ⟨S16896x1024, .f32⟩
  | 37 => ⟨S_, .f32⟩
  | 38 => ⟨S16896x1024, .f32⟩
  | 39 => ⟨S16896x1024, .f32⟩
  | 40 => ⟨S16896x1024, .f32⟩
  | 41 => ⟨S1x1024x1024, .f32⟩
  | 42 => ⟨S1024x1024, .f32⟩
  | 43 => ⟨S16896x1024, .f32⟩
  | 44 => ⟨S16896x1024, .f32⟩
  | 45 => ⟨S16896x1, .f32⟩
  | 46 => ⟨S1x1024x1024, .f32⟩
  | 47 => ⟨S1024x1024, .f32⟩
  | 48 => ⟨S16896x1024, .f32⟩
  | 49 => ⟨S16896x1024, .f32⟩
  | 50 => ⟨S16896x1024, .f32⟩
  | 51 => ⟨S16896x1024, .f32⟩
  | 52 => ⟨S1x1024x1024, .f32⟩
  | 53 => ⟨S1024x1024, .f32⟩
  | 54 => ⟨S16896x1024, .f32⟩
  | 55 => ⟨S16896x1024, .f32⟩
  | 56 => ⟨S16896x1024, .f32⟩
  | 57 => ⟨S_, .f32⟩
  | 58 => ⟨S16896x1024, .f32⟩
  | 59 => ⟨S16896x1024, .f32⟩
  | 60 => ⟨S_, .f32⟩
  | 61 => ⟨S16896x1024, .f32⟩
  | 62 => ⟨S16896x1024, .f32⟩
  | 63 => ⟨S16896x1024, .f32⟩
  | 64 => ⟨S1x1024x1024, .f32⟩
  | 65 => ⟨S1024x1024, .f32⟩
  | 66 => ⟨S16896x1024, .f32⟩
  | 67 => ⟨S16896x1024, .f32⟩
  | 68 => ⟨S16896x1, .f32⟩
  | 69 => ⟨S1x1024x1024, .f32⟩
  | 70 => ⟨S1024x1024, .f32⟩
  | 71 => ⟨S16896x1024, .f32⟩
  | 72 => ⟨S16896x1024, .f32⟩
  | 73 => ⟨S16896x1024, .f32⟩
  | 74 => ⟨S16896x1024, .f32⟩
  | 75 => ⟨S1x1024x1024, .f32⟩
  | 76 => ⟨S1024x1024, .f32⟩
  | 77 => ⟨S16896x1024, .f32⟩
  | 78 => ⟨S16896x1024, .f32⟩
  | 79 => ⟨S16896x1024, .f32⟩
  | 80 => ⟨S_, .f32⟩
  | 81 => ⟨S16896x1024, .f32⟩
  | 82 => ⟨S16896x1024, .f32⟩
  | 83 => ⟨S_, .f32⟩
  | 84 => ⟨S16896x1024, .f32⟩
  | 85 => ⟨S16896x1024, .f32⟩
  | 86 => ⟨S16896x1024, .f32⟩
  | 87 => ⟨S1x1024x1024, .f32⟩
  | 88 => ⟨S1024x1024, .f32⟩
  | 89 => ⟨S16896x1024, .f32⟩
  | 90 => ⟨S16896x1024, .f32⟩
  | 91 => ⟨S16896x1, .f32⟩
  | 92 => ⟨S1x1024x1024, .f32⟩
  | 93 => ⟨S1024x1024, .f32⟩
  | 94 => ⟨S16896x1024, .f32⟩
  | 95 => ⟨S16896x1024, .f32⟩
  | 96 => ⟨S16896x1024, .f32⟩
  | 97 => ⟨S16896x1024, .f32⟩
  | 98 => ⟨S1x1024x1024, .f32⟩
  | 99 => ⟨S1024x1024, .f32⟩
  | 100 => ⟨S16896x1024, .f32⟩
  | 101 => ⟨S16896x1024, .f32⟩
  | 102 => ⟨S16896x1024, .f32⟩
  | 103 => ⟨S_, .f32⟩
  | 104 => ⟨S16896x1024, .f32⟩
  | 105 => ⟨S16896x1024, .f32⟩
  | 106 => ⟨S_, .f32⟩
  | 107 => ⟨S16896x1024, .f32⟩
  | 108 => ⟨S16896x1024, .f32⟩
  | 109 => ⟨S16896x1024, .f32⟩
  | 110 => ⟨S1x1024x1024, .f32⟩
  | 111 => ⟨S1024x1024, .f32⟩
  | 112 => ⟨S16896x1024, .f32⟩
  | 113 => ⟨S16896x1024, .f32⟩
  | 114 => ⟨S16896x1, .f32⟩
  | 115 => ⟨S1x1024x1024, .f32⟩
  | 116 => ⟨S1024x1024, .f32⟩
  | 117 => ⟨S16896x1024, .f32⟩
  | 118 => ⟨S16896x1024, .f32⟩
  | 119 => ⟨S16896x1024, .f32⟩
  | 120 => ⟨S16896x1024, .f32⟩
  | 121 => ⟨S_, .f32⟩
  | 122 => ⟨S16896x1024, .f32⟩
  | 123 => ⟨S16896x1024, .f32⟩
  | 124 => ⟨S16896x1024, .f32⟩
  | 125 => ⟨S_, .f32⟩
  | 126 => ⟨S16896, .f32⟩
  | 127 => ⟨S16896x1, .f32⟩
  | _ => ⟨S16896x1024, .f32⟩

abbrev hbmTy0_3 (i : Nat) : BufTy := match i % 128 with
  | 0 => ⟨S_, .f32⟩
  | 1 => ⟨S16896x1, .f32⟩
  | 2 => ⟨S16896x1, .f32⟩
  | 3 => ⟨S16896x1024, .f32⟩
  | 4 => ⟨S16896x1024, .f32⟩
  | 5 => ⟨S16896x1024, .f32⟩
  | 6 => ⟨S_, .f32⟩
  | 7 => ⟨S16896, .f32⟩
  | 8 => ⟨S16896x1, .f32⟩
  | 9 => ⟨S_, .f32⟩
  | 10 => ⟨S16896x1, .f32⟩
  | 11 => ⟨S16896x1, .f32⟩
  | 12 => ⟨S16896x1024, .f32⟩
  | 13 => ⟨S16896x1024, .f32⟩
  | 14 => ⟨S_, .f32⟩
  | 15 => ⟨S16896x1, .f32⟩
  | 16 => ⟨S16896x1, .f32⟩
  | 17 => ⟨S16896x1, .f32⟩
  | 18 => ⟨S16896x1024, .f32⟩
  | 19 => ⟨S16896x1024, .f32⟩
  | 20 => ⟨S1x1024, .f32⟩
  | 21 => ⟨S16896x1024, .f32⟩
  | 22 => ⟨S16896x1024, .f32⟩
  | 23 => ⟨S1x1024, .f32⟩
  | 24 => ⟨S16896x1024, .f32⟩
  | 25 => ⟨S16896x1024, .f32⟩
  | _ => ⟨S16896x1024, .f32⟩

abbrev hbmTy (i : Nat) : BufTy := match i / 128 with
  | 0 => hbmTy0_0 i
  | 1 => hbmTy0_1 i
  | 2 => hbmTy0_2 i
  | 3 => hbmTy0_3 i
  | _ => ⟨S16896x1024, .f32⟩

abbrev bufTy : (tb : Table) → Fin (tcTables nBuf tb) → BufTy
  | .hbm, ⟨i, _⟩ => hbmTy i
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call1_v0 : Ref sig .tc := ⟨.hbm, 35, rfl⟩
abbrev main_call1_v1 : Ref sig .tc := ⟨.hbm, 36, rfl⟩
abbrev main_call1_cst : Ref sig .tc := ⟨.hbm, 37, rfl⟩
abbrev main_call1_v2 : Ref sig .tc := ⟨.hbm, 38, rfl⟩
abbrev main_call1_v3 : Ref sig .tc := ⟨.hbm, 39, rfl⟩
abbrev main_call1_cst_0 : Ref sig .tc := ⟨.hbm, 40, rfl⟩
abbrev main_call1_v4 : Ref sig .tc := ⟨.hbm, 41, rfl⟩
abbrev main_call1_v5 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_call2_v0 : Ref sig .tc := ⟨.hbm, 58, rfl⟩
abbrev main_call2_v1 : Ref sig .tc := ⟨.hbm, 59, rfl⟩
abbrev main_call2_cst : Ref sig .tc := ⟨.hbm, 60, rfl⟩
abbrev main_call2_v2 : Ref sig .tc := ⟨.hbm, 61, rfl⟩
abbrev main_call2_v3 : Ref sig .tc := ⟨.hbm, 62, rfl⟩
abbrev main_call2_cst_0 : Ref sig .tc := ⟨.hbm, 63, rfl⟩
abbrev main_call2_v4 : Ref sig .tc := ⟨.hbm, 64, rfl⟩
abbrev main_call2_v5 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_call3_v0 : Ref sig .tc := ⟨.hbm, 81, rfl⟩
abbrev main_call3_v1 : Ref sig .tc := ⟨.hbm, 82, rfl⟩
abbrev main_call3_cst : Ref sig .tc := ⟨.hbm, 83, rfl⟩
abbrev main_call3_v2 : Ref sig .tc := ⟨.hbm, 84, rfl⟩
abbrev main_call3_v3 : Ref sig .tc := ⟨.hbm, 85, rfl⟩
abbrev main_call3_cst_0 : Ref sig .tc := ⟨.hbm, 86, rfl⟩
abbrev main_call3_v4 : Ref sig .tc := ⟨.hbm, 87, rfl⟩
abbrev main_call3_v5 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_call4_v0 : Ref sig .tc := ⟨.hbm, 104, rfl⟩
abbrev main_call4_v1 : Ref sig .tc := ⟨.hbm, 105, rfl⟩
abbrev main_call4_cst : Ref sig .tc := ⟨.hbm, 106, rfl⟩
abbrev main_call4_v2 : Ref sig .tc := ⟨.hbm, 107, rfl⟩
abbrev main_call4_v3 : Ref sig .tc := ⟨.hbm, 108, rfl⟩
abbrev main_call4_cst_0 : Ref sig .tc := ⟨.hbm, 109, rfl⟩
abbrev main_call4_v4 : Ref sig .tc := ⟨.hbm, 110, rfl⟩
abbrev main_call4_v5 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_call5_v0 : Ref sig .tc := ⟨.hbm, 127, rfl⟩
abbrev main_call5_v1 : Ref sig .tc := ⟨.hbm, 128, rfl⟩
abbrev main_call5_cst : Ref sig .tc := ⟨.hbm, 129, rfl⟩
abbrev main_call5_v2 : Ref sig .tc := ⟨.hbm, 130, rfl⟩
abbrev main_call5_v3 : Ref sig .tc := ⟨.hbm, 131, rfl⟩
abbrev main_call5_cst_0 : Ref sig .tc := ⟨.hbm, 132, rfl⟩
abbrev main_call5_v4 : Ref sig .tc := ⟨.hbm, 133, rfl⟩
abbrev main_call5_v5 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_call6_v0 : Ref sig .tc := ⟨.hbm, 150, rfl⟩
abbrev main_call6_v1 : Ref sig .tc := ⟨.hbm, 151, rfl⟩
abbrev main_call6_cst : Ref sig .tc := ⟨.hbm, 152, rfl⟩
abbrev main_call6_v2 : Ref sig .tc := ⟨.hbm, 153, rfl⟩
abbrev main_call6_v3 : Ref sig .tc := ⟨.hbm, 154, rfl⟩
abbrev main_call6_cst_0 : Ref sig .tc := ⟨.hbm, 155, rfl⟩
abbrev main_call6_v4 : Ref sig .tc := ⟨.hbm, 156, rfl⟩
abbrev main_call6_v5 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_call7_v0 : Ref sig .tc := ⟨.hbm, 173, rfl⟩
abbrev main_call7_v1 : Ref sig .tc := ⟨.hbm, 174, rfl⟩
abbrev main_call7_cst : Ref sig .tc := ⟨.hbm, 175, rfl⟩
abbrev main_call7_v2 : Ref sig .tc := ⟨.hbm, 176, rfl⟩
abbrev main_call7_v3 : Ref sig .tc := ⟨.hbm, 177, rfl⟩
abbrev main_call7_cst_0 : Ref sig .tc := ⟨.hbm, 178, rfl⟩
abbrev main_call7_v4 : Ref sig .tc := ⟨.hbm, 179, rfl⟩
abbrev main_call7_v5 : Ref sig .tc := ⟨.hbm, 180, rfl⟩
abbrev main_v109 : Ref sig .tc := ⟨.hbm, 181, rfl⟩
abbrev main_v110 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_v119 : Ref sig .tc := ⟨.hbm, 191, rfl⟩
abbrev main_v120 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_call8_v0 : Ref sig .tc := ⟨.hbm, 196, rfl⟩
abbrev main_call8_v1 : Ref sig .tc := ⟨.hbm, 197, rfl⟩
abbrev main_call8_cst : Ref sig .tc := ⟨.hbm, 198, rfl⟩
abbrev main_call8_v2 : Ref sig .tc := ⟨.hbm, 199, rfl⟩
abbrev main_call8_v3 : Ref sig .tc := ⟨.hbm, 200, rfl⟩
abbrev main_call8_cst_0 : Ref sig .tc := ⟨.hbm, 201, rfl⟩
abbrev main_call8_v4 : Ref sig .tc := ⟨.hbm, 202, rfl⟩
abbrev main_call8_v5 : Ref sig .tc := ⟨.hbm, 203, rfl⟩
abbrev main_v124 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_v128 : Ref sig .tc := ⟨.hbm, 208, rfl⟩
abbrev main_v129 : Ref sig .tc := ⟨.hbm, 209, rfl⟩
abbrev main_v130 : Ref sig .tc := ⟨.hbm, 210, rfl⟩
abbrev main_v131 : Ref sig .tc := ⟨.hbm, 211, rfl⟩
abbrev main_v132 : Ref sig .tc := ⟨.hbm, 212, rfl⟩
abbrev main_v133 : Ref sig .tc := ⟨.hbm, 213, rfl⟩
abbrev main_v134 : Ref sig .tc := ⟨.hbm, 214, rfl⟩
abbrev main_v135 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_call9_v0 : Ref sig .tc := ⟨.hbm, 219, rfl⟩
abbrev main_call9_v1 : Ref sig .tc := ⟨.hbm, 220, rfl⟩
abbrev main_call9_cst : Ref sig .tc := ⟨.hbm, 221, rfl⟩
abbrev main_call9_v2 : Ref sig .tc := ⟨.hbm, 222, rfl⟩
abbrev main_call9_v3 : Ref sig .tc := ⟨.hbm, 223, rfl⟩
abbrev main_call9_cst_0 : Ref sig .tc := ⟨.hbm, 224, rfl⟩
abbrev main_call9_v4 : Ref sig .tc := ⟨.hbm, 225, rfl⟩
abbrev main_call9_v5 : Ref sig .tc := ⟨.hbm, 226, rfl⟩
abbrev main_v139 : Ref sig .tc := ⟨.hbm, 227, rfl⟩
abbrev main_v140 : Ref sig .tc := ⟨.hbm, 228, rfl⟩
abbrev main_v141 : Ref sig .tc := ⟨.hbm, 229, rfl⟩
abbrev main_v142 : Ref sig .tc := ⟨.hbm, 230, rfl⟩
abbrev main_v143 : Ref sig .tc := ⟨.hbm, 231, rfl⟩
abbrev main_v144 : Ref sig .tc := ⟨.hbm, 232, rfl⟩
abbrev main_v145 : Ref sig .tc := ⟨.hbm, 233, rfl⟩
abbrev main_v146 : Ref sig .tc := ⟨.hbm, 234, rfl⟩
abbrev main_v147 : Ref sig .tc := ⟨.hbm, 235, rfl⟩
abbrev main_v148 : Ref sig .tc := ⟨.hbm, 236, rfl⟩
abbrev main_v149 : Ref sig .tc := ⟨.hbm, 237, rfl⟩
abbrev main_v150 : Ref sig .tc := ⟨.hbm, 238, rfl⟩
abbrev main_v151 : Ref sig .tc := ⟨.hbm, 239, rfl⟩
abbrev main_v152 : Ref sig .tc := ⟨.hbm, 240, rfl⟩
abbrev main_v153 : Ref sig .tc := ⟨.hbm, 241, rfl⟩
abbrev main_call10_v0 : Ref sig .tc := ⟨.hbm, 242, rfl⟩
abbrev main_call10_v1 : Ref sig .tc := ⟨.hbm, 243, rfl⟩
abbrev main_call10_cst : Ref sig .tc := ⟨.hbm, 244, rfl⟩
abbrev main_call10_v2 : Ref sig .tc := ⟨.hbm, 245, rfl⟩
abbrev main_call10_v3 : Ref sig .tc := ⟨.hbm, 246, rfl⟩
abbrev main_call10_cst_0 : Ref sig .tc := ⟨.hbm, 247, rfl⟩
abbrev main_call10_v4 : Ref sig .tc := ⟨.hbm, 248, rfl⟩
abbrev main_call10_v5 : Ref sig .tc := ⟨.hbm, 249, rfl⟩
abbrev main_v154 : Ref sig .tc := ⟨.hbm, 250, rfl⟩
abbrev main_v155 : Ref sig .tc := ⟨.hbm, 251, rfl⟩
abbrev main_v156 : Ref sig .tc := ⟨.hbm, 252, rfl⟩
abbrev main_v157 : Ref sig .tc := ⟨.hbm, 253, rfl⟩
abbrev main_v158 : Ref sig .tc := ⟨.hbm, 254, rfl⟩
abbrev main_v159 : Ref sig .tc := ⟨.hbm, 255, rfl⟩
abbrev main_v160 : Ref sig .tc := ⟨.hbm, 256, rfl⟩
abbrev main_v161 : Ref sig .tc := ⟨.hbm, 257, rfl⟩
abbrev main_v162 : Ref sig .tc := ⟨.hbm, 258, rfl⟩
abbrev main_v163 : Ref sig .tc := ⟨.hbm, 259, rfl⟩
abbrev main_v164 : Ref sig .tc := ⟨.hbm, 260, rfl⟩
abbrev main_v165 : Ref sig .tc := ⟨.hbm, 261, rfl⟩
abbrev main_v166 : Ref sig .tc := ⟨.hbm, 262, rfl⟩
abbrev main_v167 : Ref sig .tc := ⟨.hbm, 263, rfl⟩
abbrev main_v168 : Ref sig .tc := ⟨.hbm, 264, rfl⟩
abbrev main_call11_v0 : Ref sig .tc := ⟨.hbm, 265, rfl⟩
abbrev main_call11_v1 : Ref sig .tc := ⟨.hbm, 266, rfl⟩
abbrev main_call11_cst : Ref sig .tc := ⟨.hbm, 267, rfl⟩
abbrev main_call11_v2 : Ref sig .tc := ⟨.hbm, 268, rfl⟩
abbrev main_call11_v3 : Ref sig .tc := ⟨.hbm, 269, rfl⟩
abbrev main_call11_cst_0 : Ref sig .tc := ⟨.hbm, 270, rfl⟩
abbrev main_call11_v4 : Ref sig .tc := ⟨.hbm, 271, rfl⟩
abbrev main_call11_v5 : Ref sig .tc := ⟨.hbm, 272, rfl⟩
abbrev main_v169 : Ref sig .tc := ⟨.hbm, 273, rfl⟩
abbrev main_v170 : Ref sig .tc := ⟨.hbm, 274, rfl⟩
abbrev main_v171 : Ref sig .tc := ⟨.hbm, 275, rfl⟩
abbrev main_v172 : Ref sig .tc := ⟨.hbm, 276, rfl⟩
abbrev main_v173 : Ref sig .tc := ⟨.hbm, 277, rfl⟩
abbrev main_v174 : Ref sig .tc := ⟨.hbm, 278, rfl⟩
abbrev main_v175 : Ref sig .tc := ⟨.hbm, 279, rfl⟩
abbrev main_v176 : Ref sig .tc := ⟨.hbm, 280, rfl⟩
abbrev main_v177 : Ref sig .tc := ⟨.hbm, 281, rfl⟩
abbrev main_v178 : Ref sig .tc := ⟨.hbm, 282, rfl⟩
abbrev main_v179 : Ref sig .tc := ⟨.hbm, 283, rfl⟩
abbrev main_v180 : Ref sig .tc := ⟨.hbm, 284, rfl⟩
abbrev main_v181 : Ref sig .tc := ⟨.hbm, 285, rfl⟩
abbrev main_v182 : Ref sig .tc := ⟨.hbm, 286, rfl⟩
abbrev main_v183 : Ref sig .tc := ⟨.hbm, 287, rfl⟩
abbrev main_call12_v0 : Ref sig .tc := ⟨.hbm, 288, rfl⟩
abbrev main_call12_v1 : Ref sig .tc := ⟨.hbm, 289, rfl⟩
abbrev main_call12_cst : Ref sig .tc := ⟨.hbm, 290, rfl⟩
abbrev main_call12_v2 : Ref sig .tc := ⟨.hbm, 291, rfl⟩
abbrev main_call12_v3 : Ref sig .tc := ⟨.hbm, 292, rfl⟩
abbrev main_call12_cst_0 : Ref sig .tc := ⟨.hbm, 293, rfl⟩
abbrev main_call12_v4 : Ref sig .tc := ⟨.hbm, 294, rfl⟩
abbrev main_call12_v5 : Ref sig .tc := ⟨.hbm, 295, rfl⟩
abbrev main_v184 : Ref sig .tc := ⟨.hbm, 296, rfl⟩
abbrev main_v185 : Ref sig .tc := ⟨.hbm, 297, rfl⟩
abbrev main_v186 : Ref sig .tc := ⟨.hbm, 298, rfl⟩
abbrev main_v187 : Ref sig .tc := ⟨.hbm, 299, rfl⟩
abbrev main_v188 : Ref sig .tc := ⟨.hbm, 300, rfl⟩
abbrev main_v189 : Ref sig .tc := ⟨.hbm, 301, rfl⟩
abbrev main_v190 : Ref sig .tc := ⟨.hbm, 302, rfl⟩
abbrev main_v191 : Ref sig .tc := ⟨.hbm, 303, rfl⟩
abbrev main_v192 : Ref sig .tc := ⟨.hbm, 304, rfl⟩
abbrev main_v193 : Ref sig .tc := ⟨.hbm, 305, rfl⟩
abbrev main_v194 : Ref sig .tc := ⟨.hbm, 306, rfl⟩
abbrev main_v195 : Ref sig .tc := ⟨.hbm, 307, rfl⟩
abbrev main_v196 : Ref sig .tc := ⟨.hbm, 308, rfl⟩
abbrev main_v197 : Ref sig .tc := ⟨.hbm, 309, rfl⟩
abbrev main_v198 : Ref sig .tc := ⟨.hbm, 310, rfl⟩
abbrev main_call13_v0 : Ref sig .tc := ⟨.hbm, 311, rfl⟩
abbrev main_call13_v1 : Ref sig .tc := ⟨.hbm, 312, rfl⟩
abbrev main_call13_cst : Ref sig .tc := ⟨.hbm, 313, rfl⟩
abbrev main_call13_v2 : Ref sig .tc := ⟨.hbm, 314, rfl⟩
abbrev main_call13_v3 : Ref sig .tc := ⟨.hbm, 315, rfl⟩
abbrev main_call13_cst_0 : Ref sig .tc := ⟨.hbm, 316, rfl⟩
abbrev main_call13_v4 : Ref sig .tc := ⟨.hbm, 317, rfl⟩
abbrev main_call13_v5 : Ref sig .tc := ⟨.hbm, 318, rfl⟩
abbrev main_v199 : Ref sig .tc := ⟨.hbm, 319, rfl⟩
abbrev main_v200 : Ref sig .tc := ⟨.hbm, 320, rfl⟩
abbrev main_v201 : Ref sig .tc := ⟨.hbm, 321, rfl⟩
abbrev main_v202 : Ref sig .tc := ⟨.hbm, 322, rfl⟩
abbrev main_v203 : Ref sig .tc := ⟨.hbm, 323, rfl⟩
abbrev main_v204 : Ref sig .tc := ⟨.hbm, 324, rfl⟩
abbrev main_v205 : Ref sig .tc := ⟨.hbm, 325, rfl⟩
abbrev main_v206 : Ref sig .tc := ⟨.hbm, 326, rfl⟩
abbrev main_v207 : Ref sig .tc := ⟨.hbm, 327, rfl⟩
abbrev main_v208 : Ref sig .tc := ⟨.hbm, 328, rfl⟩
abbrev main_v209 : Ref sig .tc := ⟨.hbm, 329, rfl⟩
abbrev main_v210 : Ref sig .tc := ⟨.hbm, 330, rfl⟩
abbrev main_v211 : Ref sig .tc := ⟨.hbm, 331, rfl⟩
abbrev main_v212 : Ref sig .tc := ⟨.hbm, 332, rfl⟩
abbrev main_v213 : Ref sig .tc := ⟨.hbm, 333, rfl⟩
abbrev main_call14_v0 : Ref sig .tc := ⟨.hbm, 334, rfl⟩
abbrev main_call14_v1 : Ref sig .tc := ⟨.hbm, 335, rfl⟩
abbrev main_call14_cst : Ref sig .tc := ⟨.hbm, 336, rfl⟩
abbrev main_call14_v2 : Ref sig .tc := ⟨.hbm, 337, rfl⟩
abbrev main_call14_v3 : Ref sig .tc := ⟨.hbm, 338, rfl⟩
abbrev main_call14_cst_0 : Ref sig .tc := ⟨.hbm, 339, rfl⟩
abbrev main_call14_v4 : Ref sig .tc := ⟨.hbm, 340, rfl⟩
abbrev main_call14_v5 : Ref sig .tc := ⟨.hbm, 341, rfl⟩
abbrev main_v214 : Ref sig .tc := ⟨.hbm, 342, rfl⟩
abbrev main_v215 : Ref sig .tc := ⟨.hbm, 343, rfl⟩
abbrev main_v216 : Ref sig .tc := ⟨.hbm, 344, rfl⟩
abbrev main_v217 : Ref sig .tc := ⟨.hbm, 345, rfl⟩
abbrev main_v218 : Ref sig .tc := ⟨.hbm, 346, rfl⟩
abbrev main_v219 : Ref sig .tc := ⟨.hbm, 347, rfl⟩
abbrev main_v220 : Ref sig .tc := ⟨.hbm, 348, rfl⟩
abbrev main_v221 : Ref sig .tc := ⟨.hbm, 349, rfl⟩
abbrev main_v222 : Ref sig .tc := ⟨.hbm, 350, rfl⟩
abbrev main_v223 : Ref sig .tc := ⟨.hbm, 351, rfl⟩
abbrev main_v224 : Ref sig .tc := ⟨.hbm, 352, rfl⟩
abbrev main_v225 : Ref sig .tc := ⟨.hbm, 353, rfl⟩
abbrev main_v226 : Ref sig .tc := ⟨.hbm, 354, rfl⟩
abbrev main_v227 : Ref sig .tc := ⟨.hbm, 355, rfl⟩
abbrev main_v228 : Ref sig .tc := ⟨.hbm, 356, rfl⟩
abbrev main_call15_v0 : Ref sig .tc := ⟨.hbm, 357, rfl⟩
abbrev main_call15_v1 : Ref sig .tc := ⟨.hbm, 358, rfl⟩
abbrev main_call15_cst : Ref sig .tc := ⟨.hbm, 359, rfl⟩
abbrev main_call15_v2 : Ref sig .tc := ⟨.hbm, 360, rfl⟩
abbrev main_call15_v3 : Ref sig .tc := ⟨.hbm, 361, rfl⟩
abbrev main_call15_cst_0 : Ref sig .tc := ⟨.hbm, 362, rfl⟩
abbrev main_call15_v4 : Ref sig .tc := ⟨.hbm, 363, rfl⟩
abbrev main_call15_v5 : Ref sig .tc := ⟨.hbm, 364, rfl⟩
abbrev main_v229 : Ref sig .tc := ⟨.hbm, 365, rfl⟩
abbrev main_v230 : Ref sig .tc := ⟨.hbm, 366, rfl⟩
abbrev main_v231 : Ref sig .tc := ⟨.hbm, 367, rfl⟩
abbrev main_v232 : Ref sig .tc := ⟨.hbm, 368, rfl⟩
abbrev main_v233 : Ref sig .tc := ⟨.hbm, 369, rfl⟩
abbrev main_v234 : Ref sig .tc := ⟨.hbm, 370, rfl⟩
abbrev main_v235 : Ref sig .tc := ⟨.hbm, 371, rfl⟩
abbrev main_v236 : Ref sig .tc := ⟨.hbm, 372, rfl⟩
abbrev main_v237 : Ref sig .tc := ⟨.hbm, 373, rfl⟩
abbrev main_v238 : Ref sig .tc := ⟨.hbm, 374, rfl⟩
abbrev main_v239 : Ref sig .tc := ⟨.hbm, 375, rfl⟩
abbrev main_v240 : Ref sig .tc := ⟨.hbm, 376, rfl⟩
abbrev main_cst_0 : Ref sig .tc := ⟨.hbm, 377, rfl⟩
abbrev main_v241 : Ref sig .tc := ⟨.hbm, 378, rfl⟩
abbrev main_v242 : Ref sig .tc := ⟨.hbm, 379, rfl⟩
abbrev main_v243 : Ref sig .tc := ⟨.hbm, 380, rfl⟩
abbrev main_cst_1 : Ref sig .tc := ⟨.hbm, 381, rfl⟩
abbrev main_v244 : Ref sig .tc := ⟨.hbm, 382, rfl⟩
abbrev main_v245 : Ref sig .tc := ⟨.hbm, 383, rfl⟩
abbrev main_cst_2 : Ref sig .tc := ⟨.hbm, 384, rfl⟩
abbrev main_v246 : Ref sig .tc := ⟨.hbm, 385, rfl⟩
abbrev main_v247 : Ref sig .tc := ⟨.hbm, 386, rfl⟩
abbrev main_v248 : Ref sig .tc := ⟨.hbm, 387, rfl⟩
abbrev main_v249 : Ref sig .tc := ⟨.hbm, 388, rfl⟩
abbrev main_v250 : Ref sig .tc := ⟨.hbm, 389, rfl⟩
abbrev main_cst_3 : Ref sig .tc := ⟨.hbm, 390, rfl⟩
abbrev main_v251 : Ref sig .tc := ⟨.hbm, 391, rfl⟩
abbrev main_v252 : Ref sig .tc := ⟨.hbm, 392, rfl⟩
abbrev main_cst_4 : Ref sig .tc := ⟨.hbm, 393, rfl⟩
abbrev main_v253 : Ref sig .tc := ⟨.hbm, 394, rfl⟩
abbrev main_v254 : Ref sig .tc := ⟨.hbm, 395, rfl⟩
abbrev main_v255 : Ref sig .tc := ⟨.hbm, 396, rfl⟩
abbrev main_v256 : Ref sig .tc := ⟨.hbm, 397, rfl⟩
abbrev main_cst_5 : Ref sig .tc := ⟨.hbm, 398, rfl⟩
abbrev main_v257 : Ref sig .tc := ⟨.hbm, 399, rfl⟩
abbrev main_v258 : Ref sig .tc := ⟨.hbm, 400, rfl⟩
abbrev main_v259 : Ref sig .tc := ⟨.hbm, 401, rfl⟩
abbrev main_v260 : Ref sig .tc := ⟨.hbm, 402, rfl⟩
abbrev main_v261 : Ref sig .tc := ⟨.hbm, 403, rfl⟩
abbrev main_v262 : Ref sig .tc := ⟨.hbm, 404, rfl⟩
abbrev main_v263 : Ref sig .tc := ⟨.hbm, 405, rfl⟩
abbrev main_v264 : Ref sig .tc := ⟨.hbm, 406, rfl⟩
abbrev main_v265 : Ref sig .tc := ⟨.hbm, 407, rfl⟩
abbrev main_v266 : Ref sig .tc := ⟨.hbm, 408, rfl⟩
abbrev main_v267 : Ref sig .tc := ⟨.hbm, 409, rfl⟩

abbrev nD : Nat := 1
abbrev τ : Topo := Topo.v7x

variable {F : FTy → Type} [FloatOps F]
-- ==== Kernel2.lean ====
abbrev S16896x5120 : Shape := ⟨2, ![16896, 5120]⟩
abbrev S16896x1024 : Shape := ⟨2, ![16896, 1024]⟩
abbrev S64 : Shape := ⟨1, ![64]⟩
abbrev S128 : Shape := ⟨1, ![128]⟩
abbrev S22x768x1024 : Shape := ⟨3, ![22, 768, 1024]⟩
abbrev S22x1024x768 : Shape := ⟨3, ![22, 1024, 768]⟩
abbrev S1x64 : Shape := ⟨2, ![1, 64]⟩
abbrev S128x1 : Shape := ⟨2, ![128, 1]⟩
abbrev S2x128x768 : Shape := ⟨3, ![2, 128, 768]⟩
abbrev S16896x128 : Shape := ⟨2, ![16896, 128]⟩
abbrev S22x128x768 : Shape := ⟨3, ![22, 128, 768]⟩
abbrev S1536x128 : Shape := ⟨2, ![1536, 128]⟩
abbrev S128x3072 : Shape := ⟨2, ![128, 3072]⟩
abbrev S768x3072 : Shape := ⟨2, ![768, 3072]⟩
abbrev S1x3072 : Shape := ⟨2, ![1, 3072]⟩
abbrev S144x3072 : Shape := ⟨2, ![144, 3072]⟩
abbrev S1x128x768 : Shape := ⟨3, ![1, 128, 768]⟩
abbrev S128x768 : Shape := ⟨2, ![128, 768]⟩
abbrev S16x768 : Shape := ⟨2, ![16, 768]⟩
abbrev S768x128 : Shape := ⟨2, ![768, 128]⟩
abbrev S128x256 : Shape := ⟨2, ![128, 256]⟩
abbrev S768x256 : Shape := ⟨2, ![768, 256]⟩
abbrev S256 : Shape := ⟨1, ![256]⟩
abbrev S1x256 : Shape := ⟨2, ![1, 256]⟩
abbrev S144x768 : Shape := ⟨2, ![144, 768]⟩
abbrev S144x256 : Shape := ⟨2, ![144, 256]⟩
abbrev S1 : Shape := ⟨1, ![1]⟩
abbrev S1x1 : Shape := ⟨2, ![1, 1]⟩
abbrev S128x1536 : Shape := ⟨2, ![128, 1536]⟩
abbrev S1536 : Shape := ⟨1, ![1536]⟩
abbrev S1x1536 : Shape := ⟨2, ![1, 1536]⟩

abbrev nBuf : Space → Nat
  | .hbm => 20
  | .vmem => 20
  | .smem => 0
  | _ => 0

abbrev bufTy : (tb : Table) → Fin (tcTables nBuf tb) → BufTy
  | .hbm, ⟨0, _⟩ => ⟨S16896x5120, .f32⟩
  | .hbm, ⟨1, _⟩ => ⟨S16896x1024, .f32⟩
  | .hbm, ⟨2, _⟩ => ⟨S16896x1024, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S16896x5120, .bf16⟩
  | .hbm, ⟨9, _⟩ => ⟨S22x768x1024, .f32⟩
  | .hbm, ⟨10, _⟩ => ⟨S22x1024x768, .f32⟩
  | .hbm, ⟨11, _⟩ => ⟨S16896x1024, .bf16⟩
  | .hbm, ⟨12, _⟩ => ⟨S22x768x1024, .bf16⟩
  | .hbm, ⟨13, _⟩ => ⟨S22x1024x768, .bf16⟩
  | .hbm, ⟨14, _⟩ => ⟨S1x64, .f32⟩
  | .hbm, ⟨15, _⟩ => ⟨S1x64, .f32⟩
  | .hbm, ⟨16, _⟩ => ⟨S1x64, .f32⟩
  | .hbm, ⟨17, _⟩ => ⟨S1x64, .f32⟩
  | .hbm, ⟨18, _⟩ => ⟨S128x1, .f32⟩
  | .hbm, ⟨19, _⟩ => ⟨S16896x1024, .bf16⟩
  | .local _ .vmem, ⟨0, _⟩ => ⟨S2x128x768, .f32⟩
  | .local _ .vmem, ⟨1, _⟩ => ⟨S2x128x768, .f32⟩
  | .local _ .vmem, ⟨2, _⟩ => ⟨S16896x128, .bf16⟩
  | .local _ .vmem, ⟨3, _⟩ => ⟨S16896x128, .bf16⟩
  | .local _ .vmem, ⟨4, _⟩ => ⟨S22x128x768, .bf16⟩
  | .local _ .vmem, ⟨5, _⟩ => ⟨S22x128x768, .bf16⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S128x1, .f32⟩
  | .local _ .vmem, ⟨11, _⟩ => ⟨S1536x128, .bf16⟩
  | .local _ .vmem, ⟨12, _⟩ => ⟨S1536x128, .bf16⟩
  | .local _ .vmem, ⟨13, _⟩ => ⟨S128x3072, .bf16⟩
  | .local _ .vmem, ⟨14, _⟩ => ⟨S768x3072, .f32⟩
  | .local _ .vmem, ⟨15, _⟩ => ⟨S768x3072, .f32⟩
  | .local _ .vmem, ⟨16, _⟩ => ⟨S1x3072, .f32⟩
  | .local _ .vmem, ⟨17, _⟩ => ⟨S1x3072, .f32⟩
  | .local _ .vmem, ⟨18, _⟩ => ⟨S1x3072, .f32⟩
  | .local _ .vmem, ⟨19, _⟩ => ⟨S144x3072, .f32⟩
  | _, _ => ⟨S16896x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_scratch6 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![8, 11], ![false, false]⟩

def k0_mult1 : BitVec 32 :=
  let c0_i32 : BitVec 32 := 0#32
  c0_i32
def k0_mult2 : BitVec 32 :=
  let c0_i32_38 : BitVec 32 := 0#32
  c0_i32_38
def k0_mult3 : BitVec 32 :=
  let c0_i32_54 : BitVec 32 := 0#32
  c0_i32_54
def k0_mult4 : BitVec 32 :=
  let c0_i32_70 : BitVec 32 := 0#32
  c0_i32_70
def k0_mult5 : BitVec 32 :=
  let c0_i32_87 : BitVec 32 := 0#32
  c0_i32_87
def k0_mult6 : BitVec 32 :=
  let c0_i32_103 : BitVec 32 := 0#32
  c0_i32_103
def k0_mult7 : BitVec 32 :=
  let c0_i32_119 : BitVec 32 := 0#32
  c0_i32_119
def k0_mult8 : BitVec 32 :=
  let c0_i32_137 : BitVec 32 := 0#32
  c0_i32_137
def k0_mult9 : BitVec 32 :=
  let c0_i32_153 : BitVec 32 := 0#32
  c0_i32_153
def k0_mult10 : BitVec 32 :=
  let c0_i32_169 : BitVec 32 := 0#32
  c0_i32_169
def k0_mult11 : BitVec 32 :=
  let c0_i32_186 : BitVec 32 := 0#32
  c0_i32_186
def k0_mult12 : BitVec 32 :=
  let c0_i32_202 : BitVec 32 := 0#32
  c0_i32_202
@[reducible] def k0_t1_loop (i : grid0.Coords) : Scf.Loop 32 :=
  let c0_i32_220 : BitVec 32 := 0#32
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_218 : BitVec 32 := 1#32
  let v470 : BitVec 32 := Scalar.subi v49 c1_i32_218
  let v471 : BitVec 32 := Scalar.subi v470 c0_i32_220
  let c1_i32_221 : BitVec 32 := 1#32
  let v473 : BitVec 32 := Scalar.divsi v471 c1_i32_221
  let v474 : BitVec 32 := Scalar.muli v473 c1_i32_221
  let v475 : BitVec 32 := Scalar.addi c0_i32_220 v474
  let c1_i32_222 : BitVec 32 := 1#32
  ⟨c0_i32_220, v475, c1_i32_222⟩
def k0_cond1 (i : grid0.Coords) (k0_t1 : Fin (k0_t1_loop i).trips) : BitVec 1 :=
  let c0_i32_220 : BitVec 32 := 0#32
  let c1_i32_222 : BitVec 32 := 1#32
  let arg18 : BitVec 32 := Scf.iv c0_i32_220 c1_i32_222 k0_t1
  let c2_i32_283 : BitVec 32 := 2#32
  let c0_i32_284 : BitVec 32 := 0#32
  let v581 : BitVec 1 := Scalar.cmpi .eq c2_i32_283 c0_i32_284
  let c1_i32_285 : BitVec 32 := 1#32
  let v582 : BitVec 32 := Scalar.select v581 c1_i32_285 c2_i32_283
  let v583 : BitVec 32 := Scalar.remsi arg18 v582
  let c0_i32_287 : BitVec 32 := 0#32
  let v585 : BitVec 1 := Scalar.cmpi .slt v583 c0_i32_287
  let c0_i32_288 : BitVec 32 := 0#32
  let v586 : BitVec 1 := Scalar.cmpi .slt v582 c0_i32_288
  let v587 : BitVec 1 := Scalar.xori v585 v586
  let c0_i32_286 : BitVec 32 := 0#32
  let v584 : BitVec 1 := Scalar.cmpi .ne v583 c0_i32_286
  let v588 : BitVec 1 := Scalar.andi v587 v584
  let v589 : BitVec 32 := Scalar.addi v583 v582
  let v590 : BitVec 32 := Scalar.select v588 v589 v583
  let c0_i32_289 : BitVec 32 := 0#32
  let v591 : BitVec 1 := Scalar.cmpi .eq v590 c0_i32_289
  let v592 : BitVec 32 := Scalar.extui v591
  let c0_i32_290 : BitVec 32 := 0#32
  let v593 : BitVec 1 := Scalar.cmpi .ne v592 c0_i32_290
  v593

def k0_off1 (i : grid0.Coords) (k0_t1 : Fin (k0_t1_loop i).trips) : Fin 3 → Nat :=
  let c0_i32_220 : BitVec 32 := 0#32
  let c1_i32_222 : BitVec 32 := 1#32
  let arg18 : BitVec 32 := Scf.iv c0_i32_220 c1_i32_222 k0_t1
  let v620 : Index := Scalar.indexCast arg18
  let c0_307 : Index := 0#32
  let c0_308 : Index := 0#32
  ![v620.toNat, 0, 0]
def k0_mult13 (i : grid0.Coords) (k0_t1 : Fin (k0_t1_loop i).trips) : BitVec 32 :=
  let c0_i32_220 : BitVec 32 := 0#32
  let c1_i32_222 : BitVec 32 := 1#32
  let arg18 : BitVec 32 := Scf.iv c0_i32_220 c1_i32_222 k0_t1
  let c1_i32_314 : BitVec 32 := 1#32
  let v632 : BitVec 32 := Scalar.addi arg18 c1_i32_314
  let c768_i32_315 : BitVec 32 := 768#32
  let v633 : BitVec 32 := Scalar.muli v632 c768_i32_315
  v633
def k0_off2 (i : grid0.Coords) (k0_t1 : Fin (k0_t1_loop i).trips) : Fin 2 → Nat :=
  let c0_i32_220 : BitVec 32 := 0#32
  let c1_i32_222 : BitVec 32 := 1#32
  let arg18 : BitVec 32 := Scf.iv c0_i32_220 c1_i32_222 k0_t1
  let c1_i32_314 : BitVec 32 := 1#32
  let v632 : BitVec 32 := Scalar.addi arg18 c1_i32_314
  let c768_i32_315 : BitVec 32 := 768#32
  let v633 : BitVec 32 := Scalar.muli v632 c768_i32_315
  let v634 : BitVec 32 := v633
  let v635 : Index := Scalar.indexCast v634
  let c0_316 : Index := 0#32
  ![v635.toNat, 0]
def k0_mult14 (i : grid0.Coords) (k0_t1 : Fin (k0_t1_loop i).trips) : BitVec 32 :=
  let c0_i32_220 : BitVec 32 := 0#32
  let c1_i32_222 : BitVec 32 := 1#32
  let arg18 : BitVec 32 := Scf.iv c0_i32_220 c1_i32_222 k0_t1
  let c1_i32_340 : BitVec 32 := 1#32
  let v673 : BitVec 32 := Scalar.addi arg18 c1_i32_340
  let c768_i32_341 : BitVec 32 := 768#32
  let v674 : BitVec 32 := Scalar.muli v673 c768_i32_341
  v674
def k0_mult15 (i : grid0.Coords) (k0_t1 : Fin (k0_t1_loop i).trips) : BitVec 32 :=
  let c0_i32_220 : BitVec 32 := 0#32
  let c1_i32_222 : BitVec 32 := 1#32
  let arg18 : BitVec 32 := Scf.iv c0_i32_220 c1_i32_222 k0_t1
  let c1_i32_366 : BitVec 32 := 1#32
  let v714 : BitVec 32 := Scalar.addi arg18 c1_i32_366
  let c768_i32_367 : BitVec 32 := 768#32
  let v715 : BitVec 32 := Scalar.muli v714 c768_i32_367
  v715
def k0_mult16 (i : grid0.Coords) (k0_t1 : Fin (k0_t1_loop i).trips) : BitVec 32 :=
  let c0_i32_220 : BitVec 32 := 0#32
  let c1_i32_222 : BitVec 32 := 1#32
  let arg18 : BitVec 32 := Scf.iv c0_i32_220 c1_i32_222 k0_t1
  let c1_i32_392 : BitVec 32 := 1#32
  let v755 : BitVec 32 := Scalar.addi arg18 c1_i32_392
  let c768_i32_393 : BitVec 32 := 768#32
  let v756 : BitVec 32 := Scalar.muli v755 c768_i32_393
  v756
def k0_mult17 (i : grid0.Coords) (k0_t1 : Fin (k0_t1_loop i).trips) : BitVec 32 :=
  let c0_i32_220 : BitVec 32 := 0#32
  let c1_i32_222 : BitVec 32 := 1#32
  let arg18 : BitVec 32 := Scf.iv c0_i32_220 c1_i32_222 k0_t1
  let c1_i32_418 : BitVec 32 := 1#32
  let v796 : BitVec 32 := Scalar.addi arg18 c1_i32_418
  let c768_i32_419 : BitVec 32 := 768#32
  let v797 : BitVec 32 := Scalar.muli v796 c768_i32_419
  v797
def k0_mult18 (i : grid0.Coords) (k0_t1 : Fin (k0_t1_loop i).trips) : BitVec 32 :=
  let c0_i32_220 : BitVec 32 := 0#32
  let c1_i32_222 : BitVec 32 := 1#32
  let arg18 : BitVec 32 := Scf.iv c0_i32_220 c1_i32_222 k0_t1
  let c1_i32_444 : BitVec 32 := 1#32
  let v837 : BitVec 32 := Scalar.addi arg18 c1_i32_444
  let c768_i32_445 : BitVec 32 := 768#32
  let v838 : BitVec 32 := Scalar.muli v837 c768_i32_445
  v838
def k0_mult19 (i : grid0.Coords) (k0_t1 : Fin (k0_t1_loop i).trips) : BitVec 32 :=
  let c0_i32_220 : BitVec 32 := 0#32
  let c1_i32_222 : BitVec 32 := 1#32
  let arg18 : BitVec 32 := Scf.iv c0_i32_220 c1_i32_222 k0_t1
  let c1_i32_470 : BitVec 32 := 1#32
  let v878 : BitVec 32 := Scalar.addi arg18 c1_i32_470
  let c768_i32_471 : BitVec 32 := 768#32
  let v879 : BitVec 32 := Scalar.muli v878 c768_i32_471
  v879
def k0_mult20 (i : grid0.Coords) (k0_t1 : Fin (k0_t1_loop i).trips) : BitVec 32 :=
  let c0_i32_220 : BitVec 32 := 0#32
  let c1_i32_222 : BitVec 32 := 1#32
  let arg18 : BitVec 32 := Scf.iv c0_i32_220 c1_i32_222 k0_t1
  let c1_i32_496 : BitVec 32 := 1#32
  let v919 : BitVec 32 := Scalar.addi arg18 c1_i32_496
  let c768_i32_497 : BitVec 32 := 768#32
  let v920 : BitVec 32 := Scalar.muli v919 c768_i32_497
  v920
def k0_mult21 (i : grid0.Coords) (k0_t1 : Fin (k0_t1_loop i).trips) : BitVec 32 :=
  let c0_i32_220 : BitVec 32 := 0#32
  let c1_i32_222 : BitVec 32 := 1#32
  let arg18 : BitVec 32 := Scf.iv c0_i32_220 c1_i32_222 k0_t1
  let c1_i32_522 : BitVec 32 := 1#32
  let v960 : BitVec 32 := Scalar.addi arg18 c1_i32_522
  let c768_i32_523 : BitVec 32 := 768#32
  let v961 : BitVec 32 := Scalar.muli v960 c768_i32_523
  v961
def k0_mult22 (i : grid0.Coords) (k0_t1 : Fin (k0_t1_loop i).trips) : BitVec 32 :=
  let c0_i32_220 : BitVec 32 := 0#32
  let c1_i32_222 : BitVec 32 := 1#32
  let arg18 : BitVec 32 := Scf.iv c0_i32_220 c1_i32_222 k0_t1
  let c1_i32_548 : BitVec 32 := 1#32
  let v1001 : BitVec 32 := Scalar.addi arg18 c1_i32_548
  let c768_i32_549 : BitVec 32 := 768#32
  let v1002 : BitVec 32 := Scalar.muli v1001 c768_i32_549
  v1002
def k0_mult23 (i : grid0.Coords) (k0_t1 : Fin (k0_t1_loop i).trips) : BitVec 32 :=
  let c0_i32_220 : BitVec 32 := 0#32
  let c1_i32_222 : BitVec 32 := 1#32
  let arg18 : BitVec 32 := Scf.iv c0_i32_220 c1_i32_222 k0_t1
  let c1_i32_574 : BitVec 32 := 1#32
  let v1042 : BitVec 32 := Scalar.addi arg18 c1_i32_574
  let c768_i32_575 : BitVec 32 := 768#32
  let v1043 : BitVec 32 := Scalar.muli v1042 c768_i32_575
  v1043
def k0_mult24 (i : grid0.Coords) (k0_t1 : Fin (k0_t1_loop i).trips) : BitVec 32 :=
  let c0_i32_220 : BitVec 32 := 0#32
  let c1_i32_222 : BitVec 32 := 1#32
  let arg18 : BitVec 32 := Scf.iv c0_i32_220 c1_i32_222 k0_t1
  let c1_i32_600 : BitVec 32 := 1#32
  let v1083 : BitVec 32 := Scalar.addi arg18 c1_i32_600
  let c768_i32_601 : BitVec 32 := 768#32
  let v1084 : BitVec 32 := Scalar.muli v1083 c768_i32_601
  v1084
def k0_cond2 (i : grid0.Coords) (k0_t1 : Fin (k0_t1_loop i).trips) : BitVec 1 :=
  let c0_i32_220 : BitVec 32 := 0#32
  let c1_i32_222 : BitVec 32 := 1#32
  let arg18 : BitVec 32 := Scf.iv c0_i32_220 c1_i32_222 k0_t1
  let c2_i32_291 : BitVec 32 := 2#32
  let c0_i32_292 : BitVec 32 := 0#32
  let v594 : BitVec 1 := Scalar.cmpi .eq c2_i32_291 c0_i32_292
  let c1_i32_293 : BitVec 32 := 1#32
  let v595 : BitVec 32 := Scalar.select v594 c1_i32_293 c2_i32_291
  let v596 : BitVec 32 := Scalar.remsi arg18 v595
  let c0_i32_295 : BitVec 32 := 0#32
  let v598 : BitVec 1 := Scalar.cmpi .slt v596 c0_i32_295
  let c0_i32_296 : BitVec 32 := 0#32
  let v599 : BitVec 1 := Scalar.cmpi .slt v595 c0_i32_296
  let v600 : BitVec 1 := Scalar.xori v598 v599
  let c0_i32_294 : BitVec 32 := 0#32
  let v597 : BitVec 1 := Scalar.cmpi .ne v596 c0_i32_294
  let v601 : BitVec 1 := Scalar.andi v600 v597
  let v602 : BitVec 32 := Scalar.addi v596 v595
  let v603 : BitVec 32 := Scalar.select v601 v602 v596
  let c1_i32_297 : BitVec 32 := 1#32
  let v604 : BitVec 1 := Scalar.cmpi .eq v603 c1_i32_297
  let v605 : BitVec 32 := Scalar.extui v604
  let c0_i32_298 : BitVec 32 := 0#32
  let v606 : BitVec 1 := Scalar.cmpi .ne v605 c0_i32_298
  v606

def k0_off3 (i : grid0.Coords) (k0_t1 : Fin (k0_t1_loop i).trips) : Fin 3 → Nat :=
  let c0_i32_220 : BitVec 32 := 0#32
  let c1_i32_222 : BitVec 32 := 1#32
  let arg18 : BitVec 32 := Scf.iv c0_i32_220 c1_i32_222 k0_t1
  let v620 : Index := Scalar.indexCast arg18
  let c0_307 : Index := 0#32
  let c0_308 : Index := 0#32
  ![v620.toNat, 0, 0]
def k0_mult25 (i : grid0.Coords) (k0_t1 : Fin (k0_t1_loop i).trips) : BitVec 32 :=
  let c0_i32_220 : BitVec 32 := 0#32
  let c1_i32_222 : BitVec 32 := 1#32
  let arg18 : BitVec 32 := Scf.iv c0_i32_220 c1_i32_222 k0_t1
  let c1_i32_314 : BitVec 32 := 1#32
  let v632 : BitVec 32 := Scalar.addi arg18 c1_i32_314
  let c768_i32_315 : BitVec 32 := 768#32
  let v633 : BitVec 32 := Scalar.muli v632 c768_i32_315
  v633
def k0_off4 (i : grid0.Coords) (k0_t1 : Fin (k0_t1_loop i).trips) : Fin 2 → Nat :=
  let c0_i32_220 : BitVec 32 := 0#32
  let c1_i32_222 : BitVec 32 := 1#32
  let arg18 : BitVec 32 := Scf.iv c0_i32_220 c1_i32_222 k0_t1
  let c1_i32_314 : BitVec 32 := 1#32
  let v632 : BitVec 32 := Scalar.addi arg18 c1_i32_314
  let c768_i32_315 : BitVec 32 := 768#32
  let v633 : BitVec 32 := Scalar.muli v632 c768_i32_315
  let v634 : BitVec 32 := v633
  let v635 : Index := Scalar.indexCast v634
  let c0_316 : Index := 0#32
  ![v635.toNat, 0]
def k0_mult26 (i : grid0.Coords) (k0_t1 : Fin (k0_t1_loop i).trips) : BitVec 32 :=
  let c0_i32_220 : BitVec 32 := 0#32
  let c1_i32_222 : BitVec 32 := 1#32
  let arg18 : BitVec 32 := Scf.iv c0_i32_220 c1_i32_222 k0_t1
  let c1_i32_340 : BitVec 32 := 1#32
  let v673 : BitVec 32 := Scalar.addi arg18 c1_i32_340
  let c768_i32_341 : BitVec 32 := 768#32
  let v674 : BitVec 32 := Scalar.muli v673 c768_i32_341
  v674
def k0_mult27 (i : grid0.Coords) (k0_t1 : Fin (k0_t1_loop i).trips) : BitVec 32 :=
  let c0_i32_220 : BitVec 32 := 0#32
  let c1_i32_222 : BitVec 32 := 1#32
  let arg18 : BitVec 32 := Scf.iv c0_i32_220 c1_i32_222 k0_t1
  let c1_i32_366 : BitVec 32 := 1#32
  let v714 : BitVec 32 := Scalar.addi arg18 c1_i32_366
  let c768_i32_367 : BitVec 32 := 768#32
  let v715 : BitVec 32 := Scalar.muli v714 c768_i32_367
  v715
def k0_mult28 (i : grid0.Coords) (k0_t1 : Fin (k0_t1_loop i).trips) : BitVec 32 :=
  let c0_i32_220 : BitVec 32 := 0#32
  let c1_i32_222 : BitVec 32 := 1#32
  let arg18 : BitVec 32 := Scf.iv c0_i32_220 c1_i32_222 k0_t1
  let c1_i32_392 : BitVec 32 := 1#32
  let v755 : BitVec 32 := Scalar.addi arg18 c1_i32_392
  let c768_i32_393 : BitVec 32 := 768#32
  let v756 : BitVec 32 := Scalar.muli v755 c768_i32_393
  v756
def k0_mult29 (i : grid0.Coords) (k0_t1 : Fin (k0_t1_loop i).trips) : BitVec 32 :=
  let c0_i32_220 : BitVec 32 := 0#32
  let c1_i32_222 : BitVec 32 := 1#32
  let arg18 : BitVec 32 := Scf.iv c0_i32_220 c1_i32_222 k0_t1
  let c1_i32_418 : BitVec 32 := 1#32
  let v796 : BitVec 32 := Scalar.addi arg18 c1_i32_418
  let c768_i32_419 : BitVec 32 := 768#32
  let v797 : BitVec 32 := Scalar.muli v796 c768_i32_419
  v797
def k0_mult30 (i : grid0.Coords) (k0_t1 : Fin (k0_t1_loop i).trips) : BitVec 32 :=
  let c0_i32_220 : BitVec 32 := 0#32
  let c1_i32_222 : BitVec 32 := 1#32
  let arg18 : BitVec 32 := Scf.iv c0_i32_220 c1_i32_222 k0_t1
  let c1_i32_444 : BitVec 32 := 1#32
  let v837 : BitVec 32 := Scalar.addi arg18 c1_i32_444
  let c768_i32_445 : BitVec 32 := 768#32
  let v838 : BitVec 32 := Scalar.muli v837 c768_i32_445
  v838
def k0_mult31 (i : grid0.Coords) (k0_t1 : Fin (k0_t1_loop i).trips) : BitVec 32 :=
  let c0_i32_220 : BitVec 32 := 0#32
  let c1_i32_222 : BitVec 32 := 1#32
  let arg18 : BitVec 32 := Scf.iv c0_i32_220 c1_i32_222 k0_t1
  let c1_i32_470 : BitVec 32 := 1#32
  let v878 : BitVec 32 := Scalar.addi arg18 c1_i32_470
  let c768_i32_471 : BitVec 32 := 768#32
  let v879 : BitVec 32 := Scalar.muli v878 c768_i32_471
  v879
def k0_mult32 (i : grid0.Coords) (k0_t1 : Fin (k0_t1_loop i).trips) : BitVec 32 :=
  let c0_i32_220 : BitVec 32 := 0#32
  let c1_i32_222 : BitVec 32 := 1#32
  let arg18 : BitVec 32 := Scf.iv c0_i32_220 c1_i32_222 k0_t1
  let c1_i32_496 : BitVec 32 := 1#32
  let v919 : BitVec 32 := Scalar.addi arg18 c1_i32_496
  let c768_i32_497 : BitVec 32 := 768#32
  let v920 : BitVec 32 := Scalar.muli v919 c768_i32_497
  v920
def k0_mult33 (i : grid0.Coords) (k0_t1 : Fin (k0_t1_loop i).trips) : BitVec 32 :=
  let c0_i32_220 : BitVec 32 := 0#32
  let c1_i32_222 : BitVec 32 := 1#32
  let arg18 : BitVec 32 := Scf.iv c0_i32_220 c1_i32_222 k0_t1
  let c1_i32_522 : BitVec 32 := 1#32
  let v960 : BitVec 32 := Scalar.addi arg18 c1_i32_522
  let c768_i32_523 : BitVec 32 := 768#32
  let v961 : BitVec 32 := Scalar.muli v960 c768_i32_523
  v961
def k0_mult34 (i : grid0.Coords) (k0_t1 : Fin (k0_t1_loop i).trips) : BitVec 32 :=
  let c0_i32_220 : BitVec 32 := 0#32
  let c1_i32_222 : BitVec 32 := 1#32
  let arg18 : BitVec 32 := Scf.iv c0_i32_220 c1_i32_222 k0_t1
  let c1_i32_548 : BitVec 32 := 1#32
  let v1001 : BitVec 32 := Scalar.addi arg18 c1_i32_548
  let c768_i32_549 : BitVec 32 := 768#32
  let v1002 : BitVec 32 := Scalar.muli v1001 c768_i32_549
  v1002
def k0_mult35 (i : grid0.Coords) (k0_t1 : Fin (k0_t1_loop i).trips) : BitVec 32 :=
  let c0_i32_220 : BitVec 32 := 0#32
  let c1_i32_222 : BitVec 32 := 1#32
  let arg18 : BitVec 32 := Scf.iv c0_i32_220 c1_i32_222 k0_t1
  let c1_i32_574 : BitVec 32 := 1#32
  let v1042 : BitVec 32 := Scalar.addi arg18 c1_i32_574
  let c768_i32_575 : BitVec 32 := 768#32
  let v1043 : BitVec 32 := Scalar.muli v1042 c768_i32_575
  v1043
def k0_mult36 (i : grid0.Coords) (k0_t1 : Fin (k0_t1_loop i).trips) : BitVec 32 :=
  let c0_i32_220 : BitVec 32 := 0#32
  let c1_i32_222 : BitVec 32 := 1#32
  let arg18 : BitVec 32 := Scf.iv c0_i32_220 c1_i32_222 k0_t1
  let c1_i32_600 : BitVec 32 := 1#32
  let v1083 : BitVec 32 := Scalar.addi arg18 c1_i32_600
  let c768_i32_601 : BitVec 32 := 768#32
  let v1084 : BitVec 32 := Scalar.muli v1083 c768_i32_601
  v1084
@[reducible] def k0_t2_loop (i : grid0.Coords) : Scf.Loop 32 :=
  let c0_i32_220 : BitVec 32 := 0#32
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_218 : BitVec 32 := 1#32
  let v470 : BitVec 32 := Scalar.subi v49 c1_i32_218
  let v471 : BitVec 32 := Scalar.subi v470 c0_i32_220
  let c1_i32_221 : BitVec 32 := 1#32
  let v473 : BitVec 32 := Scalar.divsi v471 c1_i32_221
  let v474 : BitVec 32 := Scalar.muli v473 c1_i32_221
  let v475 : BitVec 32 := Scalar.addi c0_i32_220 v474
  let v472 : BitVec 32 := Scalar.addi c0_i32_220 v471
  let c1_i32_223 : BitVec 32 := 1#32
  ⟨v475, v472, c1_i32_223⟩
def k0_cond3 (i : grid0.Coords) (k0_t2 : Fin (k0_t2_loop i).trips) : BitVec 1 :=
  let c0_i32_220 : BitVec 32 := 0#32
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_218 : BitVec 32 := 1#32
  let v470 : BitVec 32 := Scalar.subi v49 c1_i32_218
  let v471 : BitVec 32 := Scalar.subi v470 c0_i32_220
  let c1_i32_221 : BitVec 32 := 1#32
  let v473 : BitVec 32 := Scalar.divsi v471 c1_i32_221
  let v474 : BitVec 32 := Scalar.muli v473 c1_i32_221
  let v475 : BitVec 32 := Scalar.addi c0_i32_220 v474
  let c1_i32_223 : BitVec 32 := 1#32
  let arg18 : BitVec 32 := Scf.iv v475 c1_i32_223 k0_t2
  let c2_i32_283 : BitVec 32 := 2#32
  let c0_i32_284 : BitVec 32 := 0#32
  let v581 : BitVec 1 := Scalar.cmpi .eq c2_i32_283 c0_i32_284
  let c1_i32_285 : BitVec 32 := 1#32
  let v582 : BitVec 32 := Scalar.select v581 c1_i32_285 c2_i32_283
  let v583 : BitVec 32 := Scalar.remsi arg18 v582
  let c0_i32_287 : BitVec 32 := 0#32
  let v585 : BitVec 1 := Scalar.cmpi .slt v583 c0_i32_287
  let c0_i32_288 : BitVec 32 := 0#32
  let v586 : BitVec 1 := Scalar.cmpi .slt v582 c0_i32_288
  let v587 : BitVec 1 := Scalar.xori v585 v586
  let c0_i32_286 : BitVec 32 := 0#32
  let v584 : BitVec 1 := Scalar.cmpi .ne v583 c0_i32_286
  let v588 : BitVec 1 := Scalar.andi v587 v584
  let v589 : BitVec 32 := Scalar.addi v583 v582
  let v590 : BitVec 32 := Scalar.select v588 v589 v583
  let c0_i32_289 : BitVec 32 := 0#32
  let v591 : BitVec 1 := Scalar.cmpi .eq v590 c0_i32_289
  let v592 : BitVec 32 := Scalar.extui v591
  let c0_i32_290 : BitVec 32 := 0#32
  let v593 : BitVec 1 := Scalar.cmpi .ne v592 c0_i32_290
  v593

def k0_off5 (i : grid0.Coords) (k0_t2 : Fin (k0_t2_loop i).trips) : Fin 3 → Nat :=
  let c0_i32_220 : BitVec 32 := 0#32
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_218 : BitVec 32 := 1#32
  let v470 : BitVec 32 := Scalar.subi v49 c1_i32_218
  let v471 : BitVec 32 := Scalar.subi v470 c0_i32_220
  let c1_i32_221 : BitVec 32 := 1#32
  let v473 : BitVec 32 := Scalar.divsi v471 c1_i32_221
  let v474 : BitVec 32 := Scalar.muli v473 c1_i32_221
  let v475 : BitVec 32 := Scalar.addi c0_i32_220 v474
  let c1_i32_223 : BitVec 32 := 1#32
  let arg18 : BitVec 32 := Scf.iv v475 c1_i32_223 k0_t2
  let v620 : Index := Scalar.indexCast arg18
  let c0_307 : Index := 0#32
  let c0_308 : Index := 0#32
  ![v620.toNat, 0, 0]
def k0_mult37 (i : grid0.Coords) (k0_t2 : Fin (k0_t2_loop i).trips) : BitVec 32 :=
  let c0_i32_220 : BitVec 32 := 0#32
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_218 : BitVec 32 := 1#32
  let v470 : BitVec 32 := Scalar.subi v49 c1_i32_218
  let v471 : BitVec 32 := Scalar.subi v470 c0_i32_220
  let c1_i32_221 : BitVec 32 := 1#32
  let v473 : BitVec 32 := Scalar.divsi v471 c1_i32_221
  let v474 : BitVec 32 := Scalar.muli v473 c1_i32_221
  let v475 : BitVec 32 := Scalar.addi c0_i32_220 v474
  let c1_i32_223 : BitVec 32 := 1#32
  let arg18 : BitVec 32 := Scf.iv v475 c1_i32_223 k0_t2
  let c1_i32_314 : BitVec 32 := 1#32
  let v632 : BitVec 32 := Scalar.addi arg18 c1_i32_314
  let c768_i32_315 : BitVec 32 := 768#32
  let v633 : BitVec 32 := Scalar.muli v632 c768_i32_315
  v633
def k0_off6 (i : grid0.Coords) (k0_t2 : Fin (k0_t2_loop i).trips) : Fin 2 → Nat :=
  let c0_i32_220 : BitVec 32 := 0#32
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_218 : BitVec 32 := 1#32
  let v470 : BitVec 32 := Scalar.subi v49 c1_i32_218
  let v471 : BitVec 32 := Scalar.subi v470 c0_i32_220
  let c1_i32_221 : BitVec 32 := 1#32
  let v473 : BitVec 32 := Scalar.divsi v471 c1_i32_221
  let v474 : BitVec 32 := Scalar.muli v473 c1_i32_221
  let v475 : BitVec 32 := Scalar.addi c0_i32_220 v474
  let c1_i32_223 : BitVec 32 := 1#32
  let arg18 : BitVec 32 := Scf.iv v475 c1_i32_223 k0_t2
  let c1_i32_314 : BitVec 32 := 1#32
  let v632 : BitVec 32 := Scalar.addi arg18 c1_i32_314
  let c768_i32_315 : BitVec 32 := 768#32
  let v633 : BitVec 32 := Scalar.muli v632 c768_i32_315
  let v634 : BitVec 32 := v633
  let v635 : Index := Scalar.indexCast v634
  let c0_316 : Index := 0#32
  ![v635.toNat, 0]
def k0_mult38 (i : grid0.Coords) (k0_t2 : Fin (k0_t2_loop i).trips) : BitVec 32 :=
  let c0_i32_220 : BitVec 32 := 0#32
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_218 : BitVec 32 := 1#32
  let v470 : BitVec 32 := Scalar.subi v49 c1_i32_218
  let v471 : BitVec 32 := Scalar.subi v470 c0_i32_220
  let c1_i32_221 : BitVec 32 := 1#32
  let v473 : BitVec 32 := Scalar.divsi v471 c1_i32_221
  let v474 : BitVec 32 := Scalar.muli v473 c1_i32_221
  let v475 : BitVec 32 := Scalar.addi c0_i32_220 v474
  let c1_i32_223 : BitVec 32 := 1#32
  let arg18 : BitVec 32 := Scf.iv v475 c1_i32_223 k0_t2
  let c1_i32_340 : BitVec 32 := 1#32
  let v673 : BitVec 32 := Scalar.addi arg18 c1_i32_340
  let c768_i32_341 : BitVec 32 := 768#32
  let v674 : BitVec 32 := Scalar.muli v673 c768_i32_341
  v674
def k0_mult39 (i : grid0.Coords) (k0_t2 : Fin (k0_t2_loop i).trips) : BitVec 32 :=
  let c0_i32_220 : BitVec 32 := 0#32
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_218 : BitVec 32 := 1#32
  let v470 : BitVec 32 := Scalar.subi v49 c1_i32_218
  let v471 : BitVec 32 := Scalar.subi v470 c0_i32_220
  let c1_i32_221 : BitVec 32 := 1#32
  let v473 : BitVec 32 := Scalar.divsi v471 c1_i32_221
  let v474 : BitVec 32 := Scalar.muli v473 c1_i32_221
  let v475 : BitVec 32 := Scalar.addi c0_i32_220 v474
  let c1_i32_223 : BitVec 32 := 1#32
  let arg18 : BitVec 32 := Scf.iv v475 c1_i32_223 k0_t2
  let c1_i32_366 : BitVec 32 := 1#32
  let v714 : BitVec 32 := Scalar.addi arg18 c1_i32_366
  let c768_i32_367 : BitVec 32 := 768#32
  let v715 : BitVec 32 := Scalar.muli v714 c768_i32_367
  v715
def k0_mult40 (i : grid0.Coords) (k0_t2 : Fin (k0_t2_loop i).trips) : BitVec 32 :=
  let c0_i32_220 : BitVec 32 := 0#32
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_218 : BitVec 32 := 1#32
  let v470 : BitVec 32 := Scalar.subi v49 c1_i32_218
  let v471 : BitVec 32 := Scalar.subi v470 c0_i32_220
  let c1_i32_221 : BitVec 32 := 1#32
  let v473 : BitVec 32 := Scalar.divsi v471 c1_i32_221
  let v474 : BitVec 32 := Scalar.muli v473 c1_i32_221
  let v475 : BitVec 32 := Scalar.addi c0_i32_220 v474
  let c1_i32_223 : BitVec 32 := 1#32
  let arg18 : BitVec 32 := Scf.iv v475 c1_i32_223 k0_t2
  let c1_i32_392 : BitVec 32 := 1#32
  let v755 : BitVec 32 := Scalar.addi arg18 c1_i32_392
  let c768_i32_393 : BitVec 32 := 768#32
  let v756 : BitVec 32 := Scalar.muli v755 c768_i32_393
  v756
def k0_mult41 (i : grid0.Coords) (k0_t2 : Fin (k0_t2_loop i).trips) : BitVec 32 :=
  let c0_i32_220 : BitVec 32 := 0#32
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_218 : BitVec 32 := 1#32
  let v470 : BitVec 32 := Scalar.subi v49 c1_i32_218
  let v471 : BitVec 32 := Scalar.subi v470 c0_i32_220
  let c1_i32_221 : BitVec 32 := 1#32
  let v473 : BitVec 32 := Scalar.divsi v471 c1_i32_221
  let v474 : BitVec 32 := Scalar.muli v473 c1_i32_221
  let v475 : BitVec 32 := Scalar.addi c0_i32_220 v474
  let c1_i32_223 : BitVec 32 := 1#32
  let arg18 : BitVec 32 := Scf.iv v475 c1_i32_223 k0_t2
  let c1_i32_418 : BitVec 32 := 1#32
  let v796 : BitVec 32 := Scalar.addi arg18 c1_i32_418
  let c768_i32_419 : BitVec 32 := 768#32
  let v797 : BitVec 32 := Scalar.muli v796 c768_i32_419
  v797
def k0_mult42 (i : grid0.Coords) (k0_t2 : Fin (k0_t2_loop i).trips) : BitVec 32 :=
  let c0_i32_220 : BitVec 32 := 0#32
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_218 : BitVec 32 := 1#32
  let v470 : BitVec 32 := Scalar.subi v49 c1_i32_218
  let v471 : BitVec 32 := Scalar.subi v470 c0_i32_220
  let c1_i32_221 : BitVec 32 := 1#32
  let v473 : BitVec 32 := Scalar.divsi v471 c1_i32_221
  let v474 : BitVec 32 := Scalar.muli v473 c1_i32_221
  let v475 : BitVec 32 := Scalar.addi c0_i32_220 v474
  let c1_i32_223 : BitVec 32 := 1#32
  let arg18 : BitVec 32 := Scf.iv v475 c1_i32_223 k0_t2
  let c1_i32_444 : BitVec 32 := 1#32
  let v837 : BitVec 32 := Scalar.addi arg18 c1_i32_444
  let c768_i32_445 : BitVec 32 := 768#32
  let v838 : BitVec 32 := Scalar.muli v837 c768_i32_445
  v838
def k0_mult43 (i : grid0.Coords) (k0_t2 : Fin (k0_t2_loop i).trips) : BitVec 32 :=
  let c0_i32_220 : BitVec 32 := 0#32
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_218 : BitVec 32 := 1#32
  let v470 : BitVec 32 := Scalar.subi v49 c1_i32_218
  let v471 : BitVec 32 := Scalar.subi v470 c0_i32_220
  let c1_i32_221 : BitVec 32 := 1#32
  let v473 : BitVec 32 := Scalar.divsi v471 c1_i32_221
  let v474 : BitVec 32 := Scalar.muli v473 c1_i32_221
  let v475 : BitVec 32 := Scalar.addi c0_i32_220 v474
  let c1_i32_223 : BitVec 32 := 1#32
  let arg18 : BitVec 32 := Scf.iv v475 c1_i32_223 k0_t2
  let c1_i32_470 : BitVec 32 := 1#32
  let v878 : BitVec 32 := Scalar.addi arg18 c1_i32_470
  let c768_i32_471 : BitVec 32 := 768#32
  let v879 : BitVec 32 := Scalar.muli v878 c768_i32_471
  v879
def k0_mult44 (i : grid0.Coords) (k0_t2 : Fin (k0_t2_loop i).trips) : BitVec 32 :=
  let c0_i32_220 : BitVec 32 := 0#32
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_218 : BitVec 32 := 1#32
  let v470 : BitVec 32 := Scalar.subi v49 c1_i32_218
  let v471 : BitVec 32 := Scalar.subi v470 c0_i32_220
  let c1_i32_221 : BitVec 32 := 1#32
  let v473 : BitVec 32 := Scalar.divsi v471 c1_i32_221
  let v474 : BitVec 32 := Scalar.muli v473 c1_i32_221
  let v475 : BitVec 32 := Scalar.addi c0_i32_220 v474
  let c1_i32_223 : BitVec 32 := 1#32
  let arg18 : BitVec 32 := Scf.iv v475 c1_i32_223 k0_t2
  let c1_i32_496 : BitVec 32 := 1#32
  let v919 : BitVec 32 := Scalar.addi arg18 c1_i32_496
  let c768_i32_497 : BitVec 32 := 768#32
  let v920 : BitVec 32 := Scalar.muli v919 c768_i32_497
  v920
def k0_mult45 (i : grid0.Coords) (k0_t2 : Fin (k0_t2_loop i).trips) : BitVec 32 :=
  let c0_i32_220 : BitVec 32 := 0#32
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_218 : BitVec 32 := 1#32
  let v470 : BitVec 32 := Scalar.subi v49 c1_i32_218
  let v471 : BitVec 32 := Scalar.subi v470 c0_i32_220
  let c1_i32_221 : BitVec 32 := 1#32
  let v473 : BitVec 32 := Scalar.divsi v471 c1_i32_221
  let v474 : BitVec 32 := Scalar.muli v473 c1_i32_221
  let v475 : BitVec 32 := Scalar.addi c0_i32_220 v474
  let c1_i32_223 : BitVec 32 := 1#32
  let arg18 : BitVec 32 := Scf.iv v475 c1_i32_223 k0_t2
  let c1_i32_522 : BitVec 32 := 1#32
  let v960 : BitVec 32 := Scalar.addi arg18 c1_i32_522
  let c768_i32_523 : BitVec 32 := 768#32
  let v961 : BitVec 32 := Scalar.muli v960 c768_i32_523
  v961
def k0_mult46 (i : grid0.Coords) (k0_t2 : Fin (k0_t2_loop i).trips) : BitVec 32 :=
  let c0_i32_220 : BitVec 32 := 0#32
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_218 : BitVec 32 := 1#32
  let v470 : BitVec 32 := Scalar.subi v49 c1_i32_218
  let v471 : BitVec 32 := Scalar.subi v470 c0_i32_220
  let c1_i32_221 : BitVec 32 := 1#32
  let v473 : BitVec 32 := Scalar.divsi v471 c1_i32_221
  let v474 : BitVec 32 := Scalar.muli v473 c1_i32_221
  let v475 : BitVec 32 := Scalar.addi c0_i32_220 v474
  let c1_i32_223 : BitVec 32 := 1#32
  let arg18 : BitVec 32 := Scf.iv v475 c1_i32_223 k0_t2
  let c1_i32_548 : BitVec 32 := 1#32
  let v1001 : BitVec 32 := Scalar.addi arg18 c1_i32_548
  let c768_i32_549 : BitVec 32 := 768#32
  let v1002 : BitVec 32 := Scalar.muli v1001 c768_i32_549
  v1002
def k0_mult47 (i : grid0.Coords) (k0_t2 : Fin (k0_t2_loop i).trips) : BitVec 32 :=
  let c0_i32_220 : BitVec 32 := 0#32
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_218 : BitVec 32 := 1#32
  let v470 : BitVec 32 := Scalar.subi v49 c1_i32_218
  let v471 : BitVec 32 := Scalar.subi v470 c0_i32_220
  let c1_i32_221 : BitVec 32 := 1#32
  let v473 : BitVec 32 := Scalar.divsi v471 c1_i32_221
  let v474 : BitVec 32 := Scalar.muli v473 c1_i32_221
  let v475 : BitVec 32 := Scalar.addi c0_i32_220 v474
  let c1_i32_223 : BitVec 32 := 1#32
  let arg18 : BitVec 32 := Scf.iv v475 c1_i32_223 k0_t2
  let c1_i32_574 : BitVec 32 := 1#32
  let v1042 : BitVec 32 := Scalar.addi arg18 c1_i32_574
  let c768_i32_575 : BitVec 32 := 768#32
  let v1043 : BitVec 32 := Scalar.muli v1042 c768_i32_575
  v1043
def k0_mult48 (i : grid0.Coords) (k0_t2 : Fin (k0_t2_loop i).trips) : BitVec 32 :=
  let c0_i32_220 : BitVec 32 := 0#32
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_218 : BitVec 32 := 1#32
  let v470 : BitVec 32 := Scalar.subi v49 c1_i32_218
  let v471 : BitVec 32 := Scalar.subi v470 c0_i32_220
  let c1_i32_221 : BitVec 32 := 1#32
  let v473 : BitVec 32 := Scalar.divsi v471 c1_i32_221
  let v474 : BitVec 32 := Scalar.muli v473 c1_i32_221
  let v475 : BitVec 32 := Scalar.addi c0_i32_220 v474
  let c1_i32_223 : BitVec 32 := 1#32
  let arg18 : BitVec 32 := Scf.iv v475 c1_i32_223 k0_t2
  let c1_i32_600 : BitVec 32 := 1#32
  let v1083 : BitVec 32 := Scalar.addi arg18 c1_i32_600
  let c768_i32_601 : BitVec 32 := 768#32
  let v1084 : BitVec 32 := Scalar.muli v1083 c768_i32_601
  v1084
def k0_cond4 (i : grid0.Coords) (k0_t2 : Fin (k0_t2_loop i).trips) : BitVec 1 :=
  let c0_i32_220 : BitVec 32 := 0#32
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_218 : BitVec 32 := 1#32
  let v470 : BitVec 32 := Scalar.subi v49 c1_i32_218
  let v471 : BitVec 32 := Scalar.subi v470 c0_i32_220
  let c1_i32_221 : BitVec 32 := 1#32
  let v473 : BitVec 32 := Scalar.divsi v471 c1_i32_221
  let v474 : BitVec 32 := Scalar.muli v473 c1_i32_221
  let v475 : BitVec 32 := Scalar.addi c0_i32_220 v474
  let c1_i32_223 : BitVec 32 := 1#32
  let arg18 : BitVec 32 := Scf.iv v475 c1_i32_223 k0_t2
  let c2_i32_291 : BitVec 32 := 2#32
  let c0_i32_292 : BitVec 32 := 0#32
  let v594 : BitVec 1 := Scalar.cmpi .eq c2_i32_291 c0_i32_292
  let c1_i32_293 : BitVec 32 := 1#32
  let v595 : BitVec 32 := Scalar.select v594 c1_i32_293 c2_i32_291
  let v596 : BitVec 32 := Scalar.remsi arg18 v595
  let c0_i32_295 : BitVec 32 := 0#32
  let v598 : BitVec 1 := Scalar.cmpi .slt v596 c0_i32_295
  let c0_i32_296 : BitVec 32 := 0#32
  let v599 : BitVec 1 := Scalar.cmpi .slt v595 c0_i32_296
  let v600 : BitVec 1 := Scalar.xori v598 v599
  let c0_i32_294 : BitVec 32 := 0#32
  let v597 : BitVec 1 := Scalar.cmpi .ne v596 c0_i32_294
  let v601 : BitVec 1 := Scalar.andi v600 v597
  let v602 : BitVec 32 := Scalar.addi v596 v595
  let v603 : BitVec 32 := Scalar.select v601 v602 v596
  let c1_i32_297 : BitVec 32 := 1#32
  let v604 : BitVec 1 := Scalar.cmpi .eq v603 c1_i32_297
  let v605 : BitVec 32 := Scalar.extui v604
  let c0_i32_298 : BitVec 32 := 0#32
  let v606 : BitVec 1 := Scalar.cmpi .ne v605 c0_i32_298
  v606

def k0_off7 (i : grid0.Coords) (k0_t2 : Fin (k0_t2_loop i).trips) : Fin 3 → Nat :=
  let c0_i32_220 : BitVec 32 := 0#32
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_218 : BitVec 32 := 1#32
  let v470 : BitVec 32 := Scalar.subi v49 c1_i32_218
  let v471 : BitVec 32 := Scalar.subi v470 c0_i32_220
  let c1_i32_221 : BitVec 32 := 1#32
  let v473 : BitVec 32 := Scalar.divsi v471 c1_i32_221
  let v474 : BitVec 32 := Scalar.muli v473 c1_i32_221
  let v475 : BitVec 32 := Scalar.addi c0_i32_220 v474
  let c1_i32_223 : BitVec 32 := 1#32
  let arg18 : BitVec 32 := Scf.iv v475 c1_i32_223 k0_t2
  let v620 : Index := Scalar.indexCast arg18
  let c0_307 : Index := 0#32
  let c0_308 : Index := 0#32
  ![v620.toNat, 0, 0]
def k0_mult49 (i : grid0.Coords) (k0_t2 : Fin (k0_t2_loop i).trips) : BitVec 32 :=
  let c0_i32_220 : BitVec 32 := 0#32
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_218 : BitVec 32 := 1#32
  let v470 : BitVec 32 := Scalar.subi v49 c1_i32_218
  let v471 : BitVec 32 := Scalar.subi v470 c0_i32_220
  let c1_i32_221 : BitVec 32 := 1#32
  let v473 : BitVec 32 := Scalar.divsi v471 c1_i32_221
  let v474 : BitVec 32 := Scalar.muli v473 c1_i32_221
  let v475 : BitVec 32 := Scalar.addi c0_i32_220 v474
  let c1_i32_223 : BitVec 32 := 1#32
  let arg18 : BitVec 32 := Scf.iv v475 c1_i32_223 k0_t2
  let c1_i32_314 : BitVec 32 := 1#32
  let v632 : BitVec 32 := Scalar.addi arg18 c1_i32_314
  let c768_i32_315 : BitVec 32 := 768#32
  let v633 : BitVec 32 := Scalar.muli v632 c768_i32_315
  v633
def k0_off8 (i : grid0.Coords) (k0_t2 : Fin (k0_t2_loop i).trips) : Fin 2 → Nat :=
  let c0_i32_220 : BitVec 32 := 0#32
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_218 : BitVec 32 := 1#32
  let v470 : BitVec 32 := Scalar.subi v49 c1_i32_218
  let v471 : BitVec 32 := Scalar.subi v470 c0_i32_220
  let c1_i32_221 : BitVec 32 := 1#32
  let v473 : BitVec 32 := Scalar.divsi v471 c1_i32_221
  let v474 : BitVec 32 := Scalar.muli v473 c1_i32_221
  let v475 : BitVec 32 := Scalar.addi c0_i32_220 v474
  let c1_i32_223 : BitVec 32 := 1#32
  let arg18 : BitVec 32 := Scf.iv v475 c1_i32_223 k0_t2
  let c1_i32_314 : BitVec 32 := 1#32
  let v632 : BitVec 32 := Scalar.addi arg18 c1_i32_314
  let c768_i32_315 : BitVec 32 := 768#32
  let v633 : BitVec 32 := Scalar.muli v632 c768_i32_315
  let v634 : BitVec 32 := v633
  let v635 : Index := Scalar.indexCast v634
  let c0_316 : Index := 0#32
  ![v635.toNat, 0]
def k0_mult50 (i : grid0.Coords) (k0_t2 : Fin (k0_t2_loop i).trips) : BitVec 32 :=
  let c0_i32_220 : BitVec 32 := 0#32
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_218 : BitVec 32 := 1#32
  let v470 : BitVec 32 := Scalar.subi v49 c1_i32_218
  let v471 : BitVec 32 := Scalar.subi v470 c0_i32_220
  let c1_i32_221 : BitVec 32 := 1#32
  let v473 : BitVec 32 := Scalar.divsi v471 c1_i32_221
  let v474 : BitVec 32 := Scalar.muli v473 c1_i32_221
  let v475 : BitVec 32 := Scalar.addi c0_i32_220 v474
  let c1_i32_223 : BitVec 32 := 1#32
  let arg18 : BitVec 32 := Scf.iv v475 c1_i32_223 k0_t2
  let c1_i32_340 : BitVec 32 := 1#32
  let v673 : BitVec 32 := Scalar.addi arg18 c1_i32_340
  let c768_i32_341 : BitVec 32 := 768#32
  let v674 : BitVec 32 := Scalar.muli v673 c768_i32_341
  v674
def k0_mult51 (i : grid0.Coords) (k0_t2 : Fin (k0_t2_loop i).trips) : BitVec 32 :=
  let c0_i32_220 : BitVec 32 := 0#32
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_218 : BitVec 32 := 1#32
  let v470 : BitVec 32 := Scalar.subi v49 c1_i32_218
  let v471 : BitVec 32 := Scalar.subi v470 c0_i32_220
  let c1_i32_221 : BitVec 32 := 1#32
  let v473 : BitVec 32 := Scalar.divsi v471 c1_i32_221
  let v474 : BitVec 32 := Scalar.muli v473 c1_i32_221
  let v475 : BitVec 32 := Scalar.addi c0_i32_220 v474
  let c1_i32_223 : BitVec 32 := 1#32
  let arg18 : BitVec 32 := Scf.iv v475 c1_i32_223 k0_t2
  let c1_i32_366 : BitVec 32 := 1#32
  let v714 : BitVec 32 := Scalar.addi arg18 c1_i32_366
  let c768_i32_367 : BitVec 32 := 768#32
  let v715 : BitVec 32 := Scalar.muli v714 c768_i32_367
  v715
def k0_mult52 (i : grid0.Coords) (k0_t2 : Fin (k0_t2_loop i).trips) : BitVec 32 :=
  let c0_i32_220 : BitVec 32 := 0#32
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_218 : BitVec 32 := 1#32
  let v470 : BitVec 32 := Scalar.subi v49 c1_i32_218
  let v471 : BitVec 32 := Scalar.subi v470 c0_i32_220
  let c1_i32_221 : BitVec 32 := 1#32
  let v473 : BitVec 32 := Scalar.divsi v471 c1_i32_221
  let v474 : BitVec 32 := Scalar.muli v473 c1_i32_221
  let v475 : BitVec 32 := Scalar.addi c0_i32_220 v474
  let c1_i32_223 : BitVec 32 := 1#32
  let arg18 : BitVec 32 := Scf.iv v475 c1_i32_223 k0_t2
  let c1_i32_392 : BitVec 32 := 1#32
  let v755 : BitVec 32 := Scalar.addi arg18 c1_i32_392
  let c768_i32_393 : BitVec 32 := 768#32
  let v756 : BitVec 32 := Scalar.muli v755 c768_i32_393
  v756
def k0_mult53 (i : grid0.Coords) (k0_t2 : Fin (k0_t2_loop i).trips) : BitVec 32 :=
  let c0_i32_220 : BitVec 32 := 0#32
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_218 : BitVec 32 := 1#32
  let v470 : BitVec 32 := Scalar.subi v49 c1_i32_218
  let v471 : BitVec 32 := Scalar.subi v470 c0_i32_220
  let c1_i32_221 : BitVec 32 := 1#32
  let v473 : BitVec 32 := Scalar.divsi v471 c1_i32_221
  let v474 : BitVec 32 := Scalar.muli v473 c1_i32_221
  let v475 : BitVec 32 := Scalar.addi c0_i32_220 v474
  let c1_i32_223 : BitVec 32 := 1#32
  let arg18 : BitVec 32 := Scf.iv v475 c1_i32_223 k0_t2
  let c1_i32_418 : BitVec 32 := 1#32
  let v796 : BitVec 32 := Scalar.addi arg18 c1_i32_418
  let c768_i32_419 : BitVec 32 := 768#32
  let v797 : BitVec 32 := Scalar.muli v796 c768_i32_419
  v797
def k0_mult54 (i : grid0.Coords) (k0_t2 : Fin (k0_t2_loop i).trips) : BitVec 32 :=
  let c0_i32_220 : BitVec 32 := 0#32
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_218 : BitVec 32 := 1#32
  let v470 : BitVec 32 := Scalar.subi v49 c1_i32_218
  let v471 : BitVec 32 := Scalar.subi v470 c0_i32_220
  let c1_i32_221 : BitVec 32 := 1#32
  let v473 : BitVec 32 := Scalar.divsi v471 c1_i32_221
  let v474 : BitVec 32 := Scalar.muli v473 c1_i32_221
  let v475 : BitVec 32 := Scalar.addi c0_i32_220 v474
  let c1_i32_223 : BitVec 32 := 1#32
  let arg18 : BitVec 32 := Scf.iv v475 c1_i32_223 k0_t2
  let c1_i32_444 : BitVec 32 := 1#32
  let v837 : BitVec 32 := Scalar.addi arg18 c1_i32_444
  let c768_i32_445 : BitVec 32 := 768#32
  let v838 : BitVec 32 := Scalar.muli v837 c768_i32_445
  v838
def k0_mult55 (i : grid0.Coords) (k0_t2 : Fin (k0_t2_loop i).trips) : BitVec 32 :=
  let c0_i32_220 : BitVec 32 := 0#32
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_218 : BitVec 32 := 1#32
  let v470 : BitVec 32 := Scalar.subi v49 c1_i32_218
  let v471 : BitVec 32 := Scalar.subi v470 c0_i32_220
  let c1_i32_221 : BitVec 32 := 1#32
  let v473 : BitVec 32 := Scalar.divsi v471 c1_i32_221
  let v474 : BitVec 32 := Scalar.muli v473 c1_i32_221
  let v475 : BitVec 32 := Scalar.addi c0_i32_220 v474
  let c1_i32_223 : BitVec 32 := 1#32
  let arg18 : BitVec 32 := Scf.iv v475 c1_i32_223 k0_t2
  let c1_i32_470 : BitVec 32 := 1#32
  let v878 : BitVec 32 := Scalar.addi arg18 c1_i32_470
  let c768_i32_471 : BitVec 32 := 768#32
  let v879 : BitVec 32 := Scalar.muli v878 c768_i32_471
  v879
def k0_mult56 (i : grid0.Coords) (k0_t2 : Fin (k0_t2_loop i).trips) : BitVec 32 :=
  let c0_i32_220 : BitVec 32 := 0#32
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_218 : BitVec 32 := 1#32
  let v470 : BitVec 32 := Scalar.subi v49 c1_i32_218
  let v471 : BitVec 32 := Scalar.subi v470 c0_i32_220
  let c1_i32_221 : BitVec 32 := 1#32
  let v473 : BitVec 32 := Scalar.divsi v471 c1_i32_221
  let v474 : BitVec 32 := Scalar.muli v473 c1_i32_221
  let v475 : BitVec 32 := Scalar.addi c0_i32_220 v474
  let c1_i32_223 : BitVec 32 := 1#32
  let arg18 : BitVec 32 := Scf.iv v475 c1_i32_223 k0_t2
  let c1_i32_496 : BitVec 32 := 1#32
  let v919 : BitVec 32 := Scalar.addi arg18 c1_i32_496
  let c768_i32_497 : BitVec 32 := 768#32
  let v920 : BitVec 32 := Scalar.muli v919 c768_i32_497
  v920
def k0_mult57 (i : grid0.Coords) (k0_t2 : Fin (k0_t2_loop i).trips) : BitVec 32 :=
  let c0_i32_220 : BitVec 32 := 0#32
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_218 : BitVec 32 := 1#32
  let v470 : BitVec 32 := Scalar.subi v49 c1_i32_218
  let v471 : BitVec 32 := Scalar.subi v470 c0_i32_220
  let c1_i32_221 : BitVec 32 := 1#32
  let v473 : BitVec 32 := Scalar.divsi v471 c1_i32_221
  let v474 : BitVec 32 := Scalar.muli v473 c1_i32_221
  let v475 : BitVec 32 := Scalar.addi c0_i32_220 v474
  let c1_i32_223 : BitVec 32 := 1#32
  let arg18 : BitVec 32 := Scf.iv v475 c1_i32_223 k0_t2
  let c1_i32_522 : BitVec 32 := 1#32
  let v960 : BitVec 32 := Scalar.addi arg18 c1_i32_522
  let c768_i32_523 : BitVec 32 := 768#32
  let v961 : BitVec 32 := Scalar.muli v960 c768_i32_523
  v961
def k0_mult58 (i : grid0.Coords) (k0_t2 : Fin (k0_t2_loop i).trips) : BitVec 32 :=
  let c0_i32_220 : BitVec 32 := 0#32
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_218 : BitVec 32 := 1#32
  let v470 : BitVec 32 := Scalar.subi v49 c1_i32_218
  let v471 : BitVec 32 := Scalar.subi v470 c0_i32_220
  let c1_i32_221 : BitVec 32 := 1#32
  let v473 : BitVec 32 := Scalar.divsi v471 c1_i32_221
  let v474 : BitVec 32 := Scalar.muli v473 c1_i32_221
  let v475 : BitVec 32 := Scalar.addi c0_i32_220 v474
  let c1_i32_223 : BitVec 32 := 1#32
  let arg18 : BitVec 32 := Scf.iv v475 c1_i32_223 k0_t2
  let c1_i32_548 : BitVec 32 := 1#32
  let v1001 : BitVec 32 := Scalar.addi arg18 c1_i32_548
  let c768_i32_549 : BitVec 32 := 768#32
  let v1002 : BitVec 32 := Scalar.muli v1001 c768_i32_549
  v1002
def k0_mult59 (i : grid0.Coords) (k0_t2 : Fin (k0_t2_loop i).trips) : BitVec 32 :=
  let c0_i32_220 : BitVec 32 := 0#32
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_218 : BitVec 32 := 1#32
  let v470 : BitVec 32 := Scalar.subi v49 c1_i32_218
  let v471 : BitVec 32 := Scalar.subi v470 c0_i32_220
  let c1_i32_221 : BitVec 32 := 1#32
  let v473 : BitVec 32 := Scalar.divsi v471 c1_i32_221
  let v474 : BitVec 32 := Scalar.muli v473 c1_i32_221
  let v475 : BitVec 32 := Scalar.addi c0_i32_220 v474
  let c1_i32_223 : BitVec 32 := 1#32
  let arg18 : BitVec 32 := Scf.iv v475 c1_i32_223 k0_t2
  let c1_i32_574 : BitVec 32 := 1#32
  let v1042 : BitVec 32 := Scalar.addi arg18 c1_i32_574
  let c768_i32_575 : BitVec 32 := 768#32
  let v1043 : BitVec 32 := Scalar.muli v1042 c768_i32_575
  v1043
def k0_mult60 (i : grid0.Coords) (k0_t2 : Fin (k0_t2_loop i).trips) : BitVec 32 :=
  let c0_i32_220 : BitVec 32 := 0#32
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_218 : BitVec 32 := 1#32
  let v470 : BitVec 32 := Scalar.subi v49 c1_i32_218
  let v471 : BitVec 32 := Scalar.subi v470 c0_i32_220
  let c1_i32_221 : BitVec 32 := 1#32
  let v473 : BitVec 32 := Scalar.divsi v471 c1_i32_221
  let v474 : BitVec 32 := Scalar.muli v473 c1_i32_221
  let v475 : BitVec 32 := Scalar.addi c0_i32_220 v474
  let c1_i32_223 : BitVec 32 := 1#32
  let arg18 : BitVec 32 := Scf.iv v475 c1_i32_223 k0_t2
  let c1_i32_600 : BitVec 32 := 1#32
  let v1083 : BitVec 32 := Scalar.addi arg18 c1_i32_600
  let c768_i32_601 : BitVec 32 := 768#32
  let v1084 : BitVec 32 := Scalar.muli v1083 c768_i32_601
  v1084
def k0_cond5 (i : grid0.Coords) : BitVec 1 :=
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c0_i32_224 : BitVec 32 := 0#32
  let v476 : BitVec 1 := Scalar.cmpi .sgt v49 c0_i32_224
  let v477 : BitVec 32 := Scalar.extui v476
  let c0_i32_225 : BitVec 32 := 0#32
  let v478 : BitVec 1 := Scalar.cmpi .ne v477 c0_i32_225
  v478

def k0_cond6 (i : grid0.Coords) : BitVec 1 :=
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_283 : BitVec 32 := 1#32
  let v581 : BitVec 32 := Scalar.subi v49 c1_i32_283
  let c2_i32_284 : BitVec 32 := 2#32
  let c0_i32_285 : BitVec 32 := 0#32
  let v582 : BitVec 1 := Scalar.cmpi .eq c2_i32_284 c0_i32_285
  let c1_i32_286 : BitVec 32 := 1#32
  let v583 : BitVec 32 := Scalar.select v582 c1_i32_286 c2_i32_284
  let v584 : BitVec 32 := Scalar.remsi v581 v583
  let c0_i32_288 : BitVec 32 := 0#32
  let v586 : BitVec 1 := Scalar.cmpi .slt v584 c0_i32_288
  let c0_i32_289 : BitVec 32 := 0#32
  let v587 : BitVec 1 := Scalar.cmpi .slt v583 c0_i32_289
  let v588 : BitVec 1 := Scalar.xori v586 v587
  let c0_i32_287 : BitVec 32 := 0#32
  let v585 : BitVec 1 := Scalar.cmpi .ne v584 c0_i32_287
  let v589 : BitVec 1 := Scalar.andi v588 v585
  let v590 : BitVec 32 := Scalar.addi v584 v583
  let v591 : BitVec 32 := Scalar.select v589 v590 v584
  let c0_i32_290 : BitVec 32 := 0#32
  let v592 : BitVec 1 := Scalar.cmpi .eq v591 c0_i32_290
  let v593 : BitVec 32 := Scalar.extui v592
  let c0_i32_291 : BitVec 32 := 0#32
  let v594 : BitVec 1 := Scalar.cmpi .ne v593 c0_i32_291
  v594

def k0_off9 (i : grid0.Coords) : Fin 3 → Nat :=
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_283 : BitVec 32 := 1#32
  let v581 : BitVec 32 := Scalar.subi v49 c1_i32_283
  let v621 : Index := Scalar.indexCast v581
  let c0_308 : Index := 0#32
  let c0_309 : Index := 0#32
  ![v621.toNat, 0, 0]
def k0_mult61 (i : grid0.Coords) : BitVec 32 :=
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_283 : BitVec 32 := 1#32
  let v581 : BitVec 32 := Scalar.subi v49 c1_i32_283
  let c1_i32_315 : BitVec 32 := 1#32
  let v633 : BitVec 32 := Scalar.addi v581 c1_i32_315
  let c768_i32_316 : BitVec 32 := 768#32
  let v634 : BitVec 32 := Scalar.muli v633 c768_i32_316
  v634
def k0_off10 (i : grid0.Coords) : Fin 2 → Nat :=
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_283 : BitVec 32 := 1#32
  let v581 : BitVec 32 := Scalar.subi v49 c1_i32_283
  let c1_i32_315 : BitVec 32 := 1#32
  let v633 : BitVec 32 := Scalar.addi v581 c1_i32_315
  let c768_i32_316 : BitVec 32 := 768#32
  let v634 : BitVec 32 := Scalar.muli v633 c768_i32_316
  let v635 : BitVec 32 := v634
  let v636 : Index := Scalar.indexCast v635
  let c0_317 : Index := 0#32
  ![v636.toNat, 0]
def k0_mult62 (i : grid0.Coords) : BitVec 32 :=
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_283 : BitVec 32 := 1#32
  let v581 : BitVec 32 := Scalar.subi v49 c1_i32_283
  let c1_i32_344 : BitVec 32 := 1#32
  let v683 : BitVec 32 := Scalar.addi v581 c1_i32_344
  let c768_i32_345 : BitVec 32 := 768#32
  let v684 : BitVec 32 := Scalar.muli v683 c768_i32_345
  v684
def k0_mult63 (i : grid0.Coords) : BitVec 32 :=
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_283 : BitVec 32 := 1#32
  let v581 : BitVec 32 := Scalar.subi v49 c1_i32_283
  let c1_i32_373 : BitVec 32 := 1#32
  let v733 : BitVec 32 := Scalar.addi v581 c1_i32_373
  let c768_i32_374 : BitVec 32 := 768#32
  let v734 : BitVec 32 := Scalar.muli v733 c768_i32_374
  v734
def k0_mult64 (i : grid0.Coords) : BitVec 32 :=
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_283 : BitVec 32 := 1#32
  let v581 : BitVec 32 := Scalar.subi v49 c1_i32_283
  let c1_i32_402 : BitVec 32 := 1#32
  let v783 : BitVec 32 := Scalar.addi v581 c1_i32_402
  let c768_i32_403 : BitVec 32 := 768#32
  let v784 : BitVec 32 := Scalar.muli v783 c768_i32_403
  v784
def k0_mult65 (i : grid0.Coords) : BitVec 32 :=
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_283 : BitVec 32 := 1#32
  let v581 : BitVec 32 := Scalar.subi v49 c1_i32_283
  let c1_i32_428 : BitVec 32 := 1#32
  let v824 : BitVec 32 := Scalar.addi v581 c1_i32_428
  let c768_i32_429 : BitVec 32 := 768#32
  let v825 : BitVec 32 := Scalar.muli v824 c768_i32_429
  v825
def k0_mult66 (i : grid0.Coords) : BitVec 32 :=
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_283 : BitVec 32 := 1#32
  let v581 : BitVec 32 := Scalar.subi v49 c1_i32_283
  let c1_i32_454 : BitVec 32 := 1#32
  let v865 : BitVec 32 := Scalar.addi v581 c1_i32_454
  let c768_i32_455 : BitVec 32 := 768#32
  let v866 : BitVec 32 := Scalar.muli v865 c768_i32_455
  v866
def k0_mult67 (i : grid0.Coords) : BitVec 32 :=
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_283 : BitVec 32 := 1#32
  let v581 : BitVec 32 := Scalar.subi v49 c1_i32_283
  let c1_i32_480 : BitVec 32 := 1#32
  let v906 : BitVec 32 := Scalar.addi v581 c1_i32_480
  let c768_i32_481 : BitVec 32 := 768#32
  let v907 : BitVec 32 := Scalar.muli v906 c768_i32_481
  v907
def k0_mult68 (i : grid0.Coords) : BitVec 32 :=
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_283 : BitVec 32 := 1#32
  let v581 : BitVec 32 := Scalar.subi v49 c1_i32_283
  let c1_i32_509 : BitVec 32 := 1#32
  let v956 : BitVec 32 := Scalar.addi v581 c1_i32_509
  let c768_i32_510 : BitVec 32 := 768#32
  let v957 : BitVec 32 := Scalar.muli v956 c768_i32_510
  v957
def k0_mult69 (i : grid0.Coords) : BitVec 32 :=
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_283 : BitVec 32 := 1#32
  let v581 : BitVec 32 := Scalar.subi v49 c1_i32_283
  let c1_i32_538 : BitVec 32 := 1#32
  let v1006 : BitVec 32 := Scalar.addi v581 c1_i32_538
  let c768_i32_539 : BitVec 32 := 768#32
  let v1007 : BitVec 32 := Scalar.muli v1006 c768_i32_539
  v1007
def k0_mult70 (i : grid0.Coords) : BitVec 32 :=
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_283 : BitVec 32 := 1#32
  let v581 : BitVec 32 := Scalar.subi v49 c1_i32_283
  let c1_i32_567 : BitVec 32 := 1#32
  let v1056 : BitVec 32 := Scalar.addi v581 c1_i32_567
  let c768_i32_568 : BitVec 32 := 768#32
  let v1057 : BitVec 32 := Scalar.muli v1056 c768_i32_568
  v1057
def k0_mult71 (i : grid0.Coords) : BitVec 32 :=
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_283 : BitVec 32 := 1#32
  let v581 : BitVec 32 := Scalar.subi v49 c1_i32_283
  let c1_i32_593 : BitVec 32 := 1#32
  let v1097 : BitVec 32 := Scalar.addi v581 c1_i32_593
  let c768_i32_594 : BitVec 32 := 768#32
  let v1098 : BitVec 32 := Scalar.muli v1097 c768_i32_594
  v1098
def k0_mult72 (i : grid0.Coords) : BitVec 32 :=
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_283 : BitVec 32 := 1#32
  let v581 : BitVec 32 := Scalar.subi v49 c1_i32_283
  let c1_i32_619 : BitVec 32 := 1#32
  let v1138 : BitVec 32 := Scalar.addi v581 c1_i32_619
  let c768_i32_620 : BitVec 32 := 768#32
  let v1139 : BitVec 32 := Scalar.muli v1138 c768_i32_620
  v1139
def k0_cond7 (i : grid0.Coords) : BitVec 1 :=
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_283 : BitVec 32 := 1#32
  let v581 : BitVec 32 := Scalar.subi v49 c1_i32_283
  let c2_i32_292 : BitVec 32 := 2#32
  let c0_i32_293 : BitVec 32 := 0#32
  let v595 : BitVec 1 := Scalar.cmpi .eq c2_i32_292 c0_i32_293
  let c1_i32_294 : BitVec 32 := 1#32
  let v596 : BitVec 32 := Scalar.select v595 c1_i32_294 c2_i32_292
  let v597 : BitVec 32 := Scalar.remsi v581 v596
  let c0_i32_296 : BitVec 32 := 0#32
  let v599 : BitVec 1 := Scalar.cmpi .slt v597 c0_i32_296
  let c0_i32_297 : BitVec 32 := 0#32
  let v600 : BitVec 1 := Scalar.cmpi .slt v596 c0_i32_297
  let v601 : BitVec 1 := Scalar.xori v599 v600
  let c0_i32_295 : BitVec 32 := 0#32
  let v598 : BitVec 1 := Scalar.cmpi .ne v597 c0_i32_295
  let v602 : BitVec 1 := Scalar.andi v601 v598
  let v603 : BitVec 32 := Scalar.addi v597 v596
  let v604 : BitVec 32 := Scalar.select v602 v603 v597
  let c1_i32_298 : BitVec 32 := 1#32
  let v605 : BitVec 1 := Scalar.cmpi .eq v604 c1_i32_298
  let v606 : BitVec 32 := Scalar.extui v605
  let c0_i32_299 : BitVec 32 := 0#32
  let v607 : BitVec 1 := Scalar.cmpi .ne v606 c0_i32_299
  v607

def k0_off11 (i : grid0.Coords) : Fin 3 → Nat :=
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_283 : BitVec 32 := 1#32
  let v581 : BitVec 32 := Scalar.subi v49 c1_i32_283
  let v621 : Index := Scalar.indexCast v581
  let c0_308 : Index := 0#32
  let c0_309 : Index := 0#32
  ![v621.toNat, 0, 0]
def k0_mult73 (i : grid0.Coords) : BitVec 32 :=
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_283 : BitVec 32 := 1#32
  let v581 : BitVec 32 := Scalar.subi v49 c1_i32_283
  let c1_i32_315 : BitVec 32 := 1#32
  let v633 : BitVec 32 := Scalar.addi v581 c1_i32_315
  let c768_i32_316 : BitVec 32 := 768#32
  let v634 : BitVec 32 := Scalar.muli v633 c768_i32_316
  v634
def k0_off12 (i : grid0.Coords) : Fin 2 → Nat :=
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_283 : BitVec 32 := 1#32
  let v581 : BitVec 32 := Scalar.subi v49 c1_i32_283
  let c1_i32_315 : BitVec 32 := 1#32
  let v633 : BitVec 32 := Scalar.addi v581 c1_i32_315
  let c768_i32_316 : BitVec 32 := 768#32
  let v634 : BitVec 32 := Scalar.muli v633 c768_i32_316
  let v635 : BitVec 32 := v634
  let v636 : Index := Scalar.indexCast v635
  let c0_317 : Index := 0#32
  ![v636.toNat, 0]
def k0_mult74 (i : grid0.Coords) : BitVec 32 :=
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_283 : BitVec 32 := 1#32
  let v581 : BitVec 32 := Scalar.subi v49 c1_i32_283
  let c1_i32_344 : BitVec 32 := 1#32
  let v683 : BitVec 32 := Scalar.addi v581 c1_i32_344
  let c768_i32_345 : BitVec 32 := 768#32
  let v684 : BitVec 32 := Scalar.muli v683 c768_i32_345
  v684
def k0_mult75 (i : grid0.Coords) : BitVec 32 :=
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_283 : BitVec 32 := 1#32
  let v581 : BitVec 32 := Scalar.subi v49 c1_i32_283
  let c1_i32_373 : BitVec 32 := 1#32
  let v733 : BitVec 32 := Scalar.addi v581 c1_i32_373
  let c768_i32_374 : BitVec 32 := 768#32
  let v734 : BitVec 32 := Scalar.muli v733 c768_i32_374
  v734
def k0_mult76 (i : grid0.Coords) : BitVec 32 :=
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_283 : BitVec 32 := 1#32
  let v581 : BitVec 32 := Scalar.subi v49 c1_i32_283
  let c1_i32_402 : BitVec 32 := 1#32
  let v783 : BitVec 32 := Scalar.addi v581 c1_i32_402
  let c768_i32_403 : BitVec 32 := 768#32
  let v784 : BitVec 32 := Scalar.muli v783 c768_i32_403
  v784
def k0_mult77 (i : grid0.Coords) : BitVec 32 :=
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_283 : BitVec 32 := 1#32
  let v581 : BitVec 32 := Scalar.subi v49 c1_i32_283
  let c1_i32_428 : BitVec 32 := 1#32
  let v824 : BitVec 32 := Scalar.addi v581 c1_i32_428
  let c768_i32_429 : BitVec 32 := 768#32
  let v825 : BitVec 32 := Scalar.muli v824 c768_i32_429
  v825
def k0_mult78 (i : grid0.Coords) : BitVec 32 :=
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_283 : BitVec 32 := 1#32
  let v581 : BitVec 32 := Scalar.subi v49 c1_i32_283
  let c1_i32_454 : BitVec 32 := 1#32
  let v865 : BitVec 32 := Scalar.addi v581 c1_i32_454
  let c768_i32_455 : BitVec 32 := 768#32
  let v866 : BitVec 32 := Scalar.muli v865 c768_i32_455
  v866
def k0_mult79 (i : grid0.Coords) : BitVec 32 :=
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_283 : BitVec 32 := 1#32
  let v581 : BitVec 32 := Scalar.subi v49 c1_i32_283
  let c1_i32_480 : BitVec 32 := 1#32
  let v906 : BitVec 32 := Scalar.addi v581 c1_i32_480
  let c768_i32_481 : BitVec 32 := 768#32
  let v907 : BitVec 32 := Scalar.muli v906 c768_i32_481
  v907
def k0_mult80 (i : grid0.Coords) : BitVec 32 :=
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_283 : BitVec 32 := 1#32
  let v581 : BitVec 32 := Scalar.subi v49 c1_i32_283
  let c1_i32_509 : BitVec 32 := 1#32
  let v956 : BitVec 32 := Scalar.addi v581 c1_i32_509
  let c768_i32_510 : BitVec 32 := 768#32
  let v957 : BitVec 32 := Scalar.muli v956 c768_i32_510
  v957
def k0_mult81 (i : grid0.Coords) : BitVec 32 :=
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_283 : BitVec 32 := 1#32
  let v581 : BitVec 32 := Scalar.subi v49 c1_i32_283
  let c1_i32_538 : BitVec 32 := 1#32
  let v1006 : BitVec 32 := Scalar.addi v581 c1_i32_538
  let c768_i32_539 : BitVec 32 := 768#32
  let v1007 : BitVec 32 := Scalar.muli v1006 c768_i32_539
  v1007
def k0_mult82 (i : grid0.Coords) : BitVec 32 :=
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_283 : BitVec 32 := 1#32
  let v581 : BitVec 32 := Scalar.subi v49 c1_i32_283
  let c1_i32_567 : BitVec 32 := 1#32
  let v1056 : BitVec 32 := Scalar.addi v581 c1_i32_567
  let c768_i32_568 : BitVec 32 := 768#32
  let v1057 : BitVec 32 := Scalar.muli v1056 c768_i32_568
  v1057
def k0_mult83 (i : grid0.Coords) : BitVec 32 :=
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_283 : BitVec 32 := 1#32
  let v581 : BitVec 32 := Scalar.subi v49 c1_i32_283
  let c1_i32_593 : BitVec 32 := 1#32
  let v1097 : BitVec 32 := Scalar.addi v581 c1_i32_593
  let c768_i32_594 : BitVec 32 := 768#32
  let v1098 : BitVec 32 := Scalar.muli v1097 c768_i32_594
  v1098
def k0_mult84 (i : grid0.Coords) : BitVec 32 :=
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_283 : BitVec 32 := 1#32
  let v581 : BitVec 32 := Scalar.subi v49 c1_i32_283
  let c1_i32_619 : BitVec 32 := 1#32
  let v1138 : BitVec 32 := Scalar.addi v581 c1_i32_619
  let c768_i32_620 : BitVec 32 := 768#32
  let v1139 : BitVec 32 := Scalar.muli v1138 c768_i32_620
  v1139
def k0_cond8 (i : grid0.Coords) : BitVec 1 :=
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_226 : BitVec 32 := 1#32
  let v479 : BitVec 32 := Scalar.subi v49 c1_i32_226
  let c1_i32_227 : BitVec 32 := 1#32
  let v480 : BitVec 32 := Scalar.addi v479 c1_i32_227
  let c2_i32_228 : BitVec 32 := 2#32
  let c0_i32_229 : BitVec 32 := 0#32
  let v481 : BitVec 1 := Scalar.cmpi .eq c2_i32_228 c0_i32_229
  let c1_i32_230 : BitVec 32 := 1#32
  let v482 : BitVec 32 := Scalar.select v481 c1_i32_230 c2_i32_228
  let v483 : BitVec 32 := Scalar.remsi v480 v482
  let c0_i32_232 : BitVec 32 := 0#32
  let v485 : BitVec 1 := Scalar.cmpi .slt v483 c0_i32_232
  let c0_i32_233 : BitVec 32 := 0#32
  let v486 : BitVec 1 := Scalar.cmpi .slt v482 c0_i32_233
  let v487 : BitVec 1 := Scalar.xori v485 v486
  let c0_i32_231 : BitVec 32 := 0#32
  let v484 : BitVec 1 := Scalar.cmpi .ne v483 c0_i32_231
  let v488 : BitVec 1 := Scalar.andi v487 v484
  let v489 : BitVec 32 := Scalar.addi v483 v482
  let v490 : BitVec 32 := Scalar.select v488 v489 v483
  let c0_i32_234 : BitVec 32 := 0#32
  let v491 : BitVec 1 := Scalar.cmpi .eq v490 c0_i32_234
  let v492 : BitVec 32 := Scalar.extui v491
  let c0_i32_235 : BitVec 32 := 0#32
  let v493 : BitVec 1 := Scalar.cmpi .ne v492 c0_i32_235
  v493

def k0_off13 (i : grid0.Coords) : Fin 3 → Nat :=
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_226 : BitVec 32 := 1#32
  let v479 : BitVec 32 := Scalar.subi v49 c1_i32_226
  let c1_i32_227 : BitVec 32 := 1#32
  let v480 : BitVec 32 := Scalar.addi v479 c1_i32_227
  let v594 : Index := Scalar.indexCast v480
  let c0_291 : Index := 0#32
  let c0_292 : Index := 0#32
  ![v594.toNat, 0, 0]
def k0_mult85 (i : grid0.Coords) : BitVec 32 :=
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_226 : BitVec 32 := 1#32
  let v479 : BitVec 32 := Scalar.subi v49 c1_i32_226
  let c1_i32_227 : BitVec 32 := 1#32
  let v480 : BitVec 32 := Scalar.addi v479 c1_i32_227
  let c1_i32_343 : BitVec 32 := 1#32
  let v681 : BitVec 32 := Scalar.addi v480 c1_i32_343
  let c768_i32_344 : BitVec 32 := 768#32
  let v682 : BitVec 32 := Scalar.muli v681 c768_i32_344
  v682
def k0_off14 (i : grid0.Coords) : Fin 2 → Nat :=
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_226 : BitVec 32 := 1#32
  let v479 : BitVec 32 := Scalar.subi v49 c1_i32_226
  let c1_i32_227 : BitVec 32 := 1#32
  let v480 : BitVec 32 := Scalar.addi v479 c1_i32_227
  let c1_i32_343 : BitVec 32 := 1#32
  let v681 : BitVec 32 := Scalar.addi v480 c1_i32_343
  let c768_i32_344 : BitVec 32 := 768#32
  let v682 : BitVec 32 := Scalar.muli v681 c768_i32_344
  let v683 : BitVec 32 := v682
  let v684 : Index := Scalar.indexCast v683
  let c0_345 : Index := 0#32
  ![v684.toNat, 0]
def k0_mult86 (i : grid0.Coords) : BitVec 32 :=
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_226 : BitVec 32 := 1#32
  let v479 : BitVec 32 := Scalar.subi v49 c1_i32_226
  let c1_i32_227 : BitVec 32 := 1#32
  let v480 : BitVec 32 := Scalar.addi v479 c1_i32_227
  let c1_i32_372 : BitVec 32 := 1#32
  let v731 : BitVec 32 := Scalar.addi v480 c1_i32_372
  let c768_i32_373 : BitVec 32 := 768#32
  let v732 : BitVec 32 := Scalar.muli v731 c768_i32_373
  v732
def k0_mult87 (i : grid0.Coords) : BitVec 32 :=
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_226 : BitVec 32 := 1#32
  let v479 : BitVec 32 := Scalar.subi v49 c1_i32_226
  let c1_i32_227 : BitVec 32 := 1#32
  let v480 : BitVec 32 := Scalar.addi v479 c1_i32_227
  let c1_i32_401 : BitVec 32 := 1#32
  let v781 : BitVec 32 := Scalar.addi v480 c1_i32_401
  let c768_i32_402 : BitVec 32 := 768#32
  let v782 : BitVec 32 := Scalar.muli v781 c768_i32_402
  v782
def k0_mult88 (i : grid0.Coords) : BitVec 32 :=
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_226 : BitVec 32 := 1#32
  let v479 : BitVec 32 := Scalar.subi v49 c1_i32_226
  let c1_i32_227 : BitVec 32 := 1#32
  let v480 : BitVec 32 := Scalar.addi v479 c1_i32_227
  let c1_i32_475 : BitVec 32 := 1#32
  let v906 : BitVec 32 := Scalar.addi v480 c1_i32_475
  let c768_i32_476 : BitVec 32 := 768#32
  let v907 : BitVec 32 := Scalar.muli v906 c768_i32_476
  v907
def k0_mult89 (i : grid0.Coords) : BitVec 32 :=
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_226 : BitVec 32 := 1#32
  let v479 : BitVec 32 := Scalar.subi v49 c1_i32_226
  let c1_i32_227 : BitVec 32 := 1#32
  let v480 : BitVec 32 := Scalar.addi v479 c1_i32_227
  let c1_i32_504 : BitVec 32 := 1#32
  let v956 : BitVec 32 := Scalar.addi v480 c1_i32_504
  let c768_i32_505 : BitVec 32 := 768#32
  let v957 : BitVec 32 := Scalar.muli v956 c768_i32_505
  v957
def k0_mult90 (i : grid0.Coords) : BitVec 32 :=
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_226 : BitVec 32 := 1#32
  let v479 : BitVec 32 := Scalar.subi v49 c1_i32_226
  let c1_i32_227 : BitVec 32 := 1#32
  let v480 : BitVec 32 := Scalar.addi v479 c1_i32_227
  let c1_i32_533 : BitVec 32 := 1#32
  let v1006 : BitVec 32 := Scalar.addi v480 c1_i32_533
  let c768_i32_534 : BitVec 32 := 768#32
  let v1007 : BitVec 32 := Scalar.muli v1006 c768_i32_534
  v1007
def k0_cond9 (i : grid0.Coords) : BitVec 1 :=
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_226 : BitVec 32 := 1#32
  let v479 : BitVec 32 := Scalar.subi v49 c1_i32_226
  let c1_i32_227 : BitVec 32 := 1#32
  let v480 : BitVec 32 := Scalar.addi v479 c1_i32_227
  let c2_i32_236 : BitVec 32 := 2#32
  let c0_i32_237 : BitVec 32 := 0#32
  let v494 : BitVec 1 := Scalar.cmpi .eq c2_i32_236 c0_i32_237
  let c1_i32_238 : BitVec 32 := 1#32
  let v495 : BitVec 32 := Scalar.select v494 c1_i32_238 c2_i32_236
  let v496 : BitVec 32 := Scalar.remsi v480 v495
  let c0_i32_240 : BitVec 32 := 0#32
  let v498 : BitVec 1 := Scalar.cmpi .slt v496 c0_i32_240
  let c0_i32_241 : BitVec 32 := 0#32
  let v499 : BitVec 1 := Scalar.cmpi .slt v495 c0_i32_241
  let v500 : BitVec 1 := Scalar.xori v498 v499
  let c0_i32_239 : BitVec 32 := 0#32
  let v497 : BitVec 1 := Scalar.cmpi .ne v496 c0_i32_239
  let v501 : BitVec 1 := Scalar.andi v500 v497
  let v502 : BitVec 32 := Scalar.addi v496 v495
  let v503 : BitVec 32 := Scalar.select v501 v502 v496
  let c1_i32_242 : BitVec 32 := 1#32
  let v504 : BitVec 1 := Scalar.cmpi .eq v503 c1_i32_242
  let v505 : BitVec 32 := Scalar.extui v504
  let c0_i32_243 : BitVec 32 := 0#32
  let v506 : BitVec 1 := Scalar.cmpi .ne v505 c0_i32_243
  v506

def k0_off15 (i : grid0.Coords) : Fin 3 → Nat :=
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_226 : BitVec 32 := 1#32
  let v479 : BitVec 32 := Scalar.subi v49 c1_i32_226
  let c1_i32_227 : BitVec 32 := 1#32
  let v480 : BitVec 32 := Scalar.addi v479 c1_i32_227
  let v594 : Index := Scalar.indexCast v480
  let c0_291 : Index := 0#32
  let c0_292 : Index := 0#32
  ![v594.toNat, 0, 0]
def k0_mult91 (i : grid0.Coords) : BitVec 32 :=
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_226 : BitVec 32 := 1#32
  let v479 : BitVec 32 := Scalar.subi v49 c1_i32_226
  let c1_i32_227 : BitVec 32 := 1#32
  let v480 : BitVec 32 := Scalar.addi v479 c1_i32_227
  let c1_i32_343 : BitVec 32 := 1#32
  let v681 : BitVec 32 := Scalar.addi v480 c1_i32_343
  let c768_i32_344 : BitVec 32 := 768#32
  let v682 : BitVec 32 := Scalar.muli v681 c768_i32_344
  v682
def k0_off16 (i : grid0.Coords) : Fin 2 → Nat :=
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_226 : BitVec 32 := 1#32
  let v479 : BitVec 32 := Scalar.subi v49 c1_i32_226
  let c1_i32_227 : BitVec 32 := 1#32
  let v480 : BitVec 32 := Scalar.addi v479 c1_i32_227
  let c1_i32_343 : BitVec 32 := 1#32
  let v681 : BitVec 32 := Scalar.addi v480 c1_i32_343
  let c768_i32_344 : BitVec 32 := 768#32
  let v682 : BitVec 32 := Scalar.muli v681 c768_i32_344
  let v683 : BitVec 32 := v682
  let v684 : Index := Scalar.indexCast v683
  let c0_345 : Index := 0#32
  ![v684.toNat, 0]
def k0_mult92 (i : grid0.Coords) : BitVec 32 :=
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_226 : BitVec 32 := 1#32
  let v479 : BitVec 32 := Scalar.subi v49 c1_i32_226
  let c1_i32_227 : BitVec 32 := 1#32
  let v480 : BitVec 32 := Scalar.addi v479 c1_i32_227
  let c1_i32_372 : BitVec 32 := 1#32
  let v731 : BitVec 32 := Scalar.addi v480 c1_i32_372
  let c768_i32_373 : BitVec 32 := 768#32
  let v732 : BitVec 32 := Scalar.muli v731 c768_i32_373
  v732
def k0_mult93 (i : grid0.Coords) : BitVec 32 :=
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_226 : BitVec 32 := 1#32
  let v479 : BitVec 32 := Scalar.subi v49 c1_i32_226
  let c1_i32_227 : BitVec 32 := 1#32
  let v480 : BitVec 32 := Scalar.addi v479 c1_i32_227
  let c1_i32_401 : BitVec 32 := 1#32
  let v781 : BitVec 32 := Scalar.addi v480 c1_i32_401
  let c768_i32_402 : BitVec 32 := 768#32
  let v782 : BitVec 32 := Scalar.muli v781 c768_i32_402
  v782
def k0_mult94 (i : grid0.Coords) : BitVec 32 :=
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_226 : BitVec 32 := 1#32
  let v479 : BitVec 32 := Scalar.subi v49 c1_i32_226
  let c1_i32_227 : BitVec 32 := 1#32
  let v480 : BitVec 32 := Scalar.addi v479 c1_i32_227
  let c1_i32_475 : BitVec 32 := 1#32
  let v906 : BitVec 32 := Scalar.addi v480 c1_i32_475
  let c768_i32_476 : BitVec 32 := 768#32
  let v907 : BitVec 32 := Scalar.muli v906 c768_i32_476
  v907
def k0_mult95 (i : grid0.Coords) : BitVec 32 :=
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_226 : BitVec 32 := 1#32
  let v479 : BitVec 32 := Scalar.subi v49 c1_i32_226
  let c1_i32_227 : BitVec 32 := 1#32
  let v480 : BitVec 32 := Scalar.addi v479 c1_i32_227
  let c1_i32_504 : BitVec 32 := 1#32
  let v956 : BitVec 32 := Scalar.addi v480 c1_i32_504
  let c768_i32_505 : BitVec 32 := 768#32
  let v957 : BitVec 32 := Scalar.muli v956 c768_i32_505
  v957
def k0_mult96 (i : grid0.Coords) : BitVec 32 :=
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c2_i32_22 : BitVec 32 := 2#32
  let v49 : BitVec 32 := Scalar.subi v48 c2_i32_22
  let c1_i32_226 : BitVec 32 := 1#32
  let v479 : BitVec 32 := Scalar.subi v49 c1_i32_226
  let c1_i32_227 : BitVec 32 := 1#32
  let v480 : BitVec 32 := Scalar.addi v479 c1_i32_227
  let c1_i32_533 : BitVec 32 := 1#32
  let v1006 : BitVec 32 := Scalar.addi v480 c1_i32_533
  let c768_i32_534 : BitVec 32 := 768#32
  let v1007 : BitVec 32 := Scalar.muli v1006 c768_i32_534
  v1007
def k0_cond10 (i : grid0.Coords) : BitVec 1 :=
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c1_i32_244 : BitVec 32 := 1#32
  let v507 : BitVec 32 := Scalar.subi v48 c1_i32_244
  let c2_i32_245 : BitVec 32 := 2#32
  let c0_i32_246 : BitVec 32 := 0#32
  let v508 : BitVec 1 := Scalar.cmpi .eq c2_i32_245 c0_i32_246
  let c1_i32_247 : BitVec 32 := 1#32
  let v509 : BitVec 32 := Scalar.select v508 c1_i32_247 c2_i32_245
  let v510 : BitVec 32 := Scalar.remsi v507 v509
  let c0_i32_249 : BitVec 32 := 0#32
  let v512 : BitVec 1 := Scalar.cmpi .slt v510 c0_i32_249
  let c0_i32_250 : BitVec 32 := 0#32
  let v513 : BitVec 1 := Scalar.cmpi .slt v509 c0_i32_250
  let v514 : BitVec 1 := Scalar.xori v512 v513
  let c0_i32_248 : BitVec 32 := 0#32
  let v511 : BitVec 1 := Scalar.cmpi .ne v510 c0_i32_248
  let v515 : BitVec 1 := Scalar.andi v514 v511
  let v516 : BitVec 32 := Scalar.addi v510 v509
  let v517 : BitVec 32 := Scalar.select v515 v516 v510
  let c0_i32_251 : BitVec 32 := 0#32
  let v518 : BitVec 1 := Scalar.cmpi .eq v517 c0_i32_251
  let v519 : BitVec 32 := Scalar.extui v518
  let c0_i32_252 : BitVec 32 := 0#32
  let v520 : BitVec 1 := Scalar.cmpi .ne v519 c0_i32_252
  v520

def k0_off17 (i : grid0.Coords) : Fin 3 → Nat :=
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c1_i32_244 : BitVec 32 := 1#32
  let v507 : BitVec 32 := Scalar.subi v48 c1_i32_244
  let v594 : Index := Scalar.indexCast v507
  let c0_291 : Index := 0#32
  let c0_292 : Index := 0#32
  ![v594.toNat, 0, 0]
def k0_cond11 (i : grid0.Coords) : BitVec 1 :=
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c1_i32_244 : BitVec 32 := 1#32
  let v507 : BitVec 32 := Scalar.subi v48 c1_i32_244
  let c2_i32_253 : BitVec 32 := 2#32
  let c0_i32_254 : BitVec 32 := 0#32
  let v521 : BitVec 1 := Scalar.cmpi .eq c2_i32_253 c0_i32_254
  let c1_i32_255 : BitVec 32 := 1#32
  let v522 : BitVec 32 := Scalar.select v521 c1_i32_255 c2_i32_253
  let v523 : BitVec 32 := Scalar.remsi v507 v522
  let c0_i32_257 : BitVec 32 := 0#32
  let v525 : BitVec 1 := Scalar.cmpi .slt v523 c0_i32_257
  let c0_i32_258 : BitVec 32 := 0#32
  let v526 : BitVec 1 := Scalar.cmpi .slt v522 c0_i32_258
  let v527 : BitVec 1 := Scalar.xori v525 v526
  let c0_i32_256 : BitVec 32 := 0#32
  let v524 : BitVec 1 := Scalar.cmpi .ne v523 c0_i32_256
  let v528 : BitVec 1 := Scalar.andi v527 v524
  let v529 : BitVec 32 := Scalar.addi v523 v522
  let v530 : BitVec 32 := Scalar.select v528 v529 v523
  let c1_i32_259 : BitVec 32 := 1#32
  let v531 : BitVec 1 := Scalar.cmpi .eq v530 c1_i32_259
  let v532 : BitVec 32 := Scalar.extui v531
  let c0_i32_260 : BitVec 32 := 0#32
  let v533 : BitVec 1 := Scalar.cmpi .ne v532 c0_i32_260
  v533

def k0_off18 (i : grid0.Coords) : Fin 3 → Nat :=
  let arg1 : BitVec 32 := BitVec.ofNat 32 (i 1).val
  let c1_i32 : BitVec 32 := 1#32
  let v47 : BitVec 32 := Scalar.addi arg1 c1_i32
  let c2_i32 : BitVec 32 := 2#32
  let v48 : BitVec 32 := Scalar.muli v47 c2_i32
  let c1_i32_244 : BitVec 32 := 1#32
  let v507 : BitVec 32 := Scalar.subi v48 c1_i32_244
  let v594 : Index := Scalar.indexCast v507
  let c0_291 : Index := 0#32
  let c0_292 : Index := 0#32
  ![v594.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2x128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16896x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S22x128x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1536x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel2Ideal.lean ====
variable {F : FTy → Type} [FloatOps F] [Named F]
def κ : String → Option EReal := fun
  | "mask" => some ⊥
  | "qs" => some (((8 * (Real.log 2))⁻¹ : ℝ) : EReal)
  | _ => none
-- ==== Reference2Ideal.lean ====
abbrev S16896x5120 : Shape := ⟨2, ![16896, 5120]⟩
abbrev S16896x1024 : Shape := ⟨2, ![16896, 1024]⟩
abbrev S64 : Shape := ⟨1, ![64]⟩
abbrev S128 : Shape := ⟨1, ![128]⟩
abbrev S16896x8x2x64 : Shape := ⟨4, ![16896, 8, 2, 64]⟩
abbrev S_ : Shape := ⟨0, ![]⟩
abbrev S16896x8x128 : Shape := ⟨3, ![16896, 8, 128]⟩
abbrev S16896 : Shape := ⟨1, ![16896]⟩
abbrev S1x16896 : Shape := ⟨2, ![1, 16896]⟩
abbrev S16896x1 : Shape := ⟨2, ![16896, 1]⟩
abbrev S16896x16896 : Shape := ⟨2, ![16896, 16896]⟩
abbrev S16896x8x1x64 : Shape := ⟨4, ![16896, 8, 1, 64]⟩
abbrev S16896x8x64 : Shape := ⟨3, ![16896, 8, 64]⟩
abbrev S8x16896x16896 : Shape := ⟨3, ![8, 16896, 16896]⟩
abbrev S8x16896 : Shape := ⟨2, ![8, 16896]⟩
abbrev S8x16896x1 : Shape := ⟨3, ![8, 16896, 1]⟩
abbrev S8x128x16896 : Shape := ⟨3, ![8, 128, 16896]⟩
abbrev S16896x8 : Shape := ⟨2, ![16896, 8]⟩
abbrev S16896x8x1 : Shape := ⟨3, ![16896, 8, 1]⟩
abbrev S1x1x128 : Shape := ⟨3, ![1, 1, 128]⟩

abbrev nBuf : Space → Nat
  | .hbm => 112
  | .vmem => 0
  | .smem => 0
  | _ => 0

abbrev bufTy : (tb : Table) → Fin (tcTables nBuf tb) → BufTy
  | .hbm, ⟨0, _⟩ => ⟨S16896x5120, .f32⟩
  | .hbm, ⟨1, _⟩ => ⟨S16896x1024, .f32⟩
  | .hbm, ⟨2, _⟩ => ⟨S16896x1024, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S16896x8x2x64, .f32⟩
  | .hbm, ⟨9, _⟩ => ⟨S_, .f32⟩
  | .hbm, ⟨10, _⟩ => ⟨S16896x8x2x64, .f32⟩
  | .hbm, ⟨11, _⟩ => ⟨S16896x8x2x64, .f32⟩
  | .hbm, ⟨12, _⟩ => ⟨S16896x1024, .f32⟩
  | .hbm, ⟨13, _⟩ => ⟨S16896x8x2x64, .f32⟩
  | .hbm, ⟨14, _⟩ => ⟨S16896x8x128, .f32⟩
  | .hbm, ⟨15, _⟩ => ⟨S64, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S16896, .i32⟩
  | .hbm, ⟨27, _⟩ => ⟨S1x16896, .i32⟩
  | .hbm, ⟨28, _⟩ => ⟨S16896x1, .i32⟩
  | .hbm, ⟨29, _⟩ => ⟨S16896x16896, .i32⟩
  | .hbm, ⟨30, _⟩ => ⟨S16896x16896, .i32⟩
  | .hbm, ⟨31, _⟩ => ⟨S16896x16896, .i1⟩
  | .hbm, ⟨32, _⟩ => ⟨S_, .i32⟩
  | .hbm, ⟨33, _⟩ => ⟨S16896, .i32⟩
  | .hbm, ⟨34, _⟩ => ⟨S16896, .i1⟩
  | .hbm, ⟨35, _⟩ => ⟨S1x16896, .i1⟩
  | .hbm, ⟨36, _⟩ => ⟨S16896x16896, .i1⟩
  | .hbm, ⟨37, _⟩ => ⟨S16896x16896, .i1⟩
  | .hbm, ⟨38, _⟩ => ⟨S16896x8x1x64, .f32⟩
  | .hbm, ⟨39, _⟩ => ⟨S16896x8x64, .f32⟩
  | .hbm, ⟨40, _⟩ => ⟨S16896x8x1x64, .f32⟩
  | .hbm, ⟨41, _⟩ => ⟨S16896x8x64, .f32⟩
  | .hbm, ⟨42, _⟩ => ⟨S8x16896x16896, .f32⟩
  | .hbm, ⟨43, _⟩ => ⟨S16896x8x1x64, .f32⟩
  | .hbm, ⟨44, _⟩ => ⟨S16896x8x64, .f32⟩
  | .hbm, ⟨45, _⟩ => ⟨S16896x8x1x64, .f32⟩
  | .hbm, ⟨46, _⟩ => ⟨S16896x8x64, .f32⟩
  | .hbm, ⟨47, _⟩ => ⟨S8x16896x16896, .f32⟩
  | .hbm, ⟨48, _⟩ => ⟨S_, .f32⟩
  | .hbm, ⟨49, _⟩ => ⟨S_, .f32⟩
  | .hbm, ⟨50, _⟩ => ⟨S8x16896x16896, .i1⟩
  | .hbm, ⟨51, _⟩ => ⟨S8x16896x16896, .f32⟩
  | .hbm, ⟨52, _⟩ => ⟨S8x16896x16896, .f32⟩
  | .hbm, ⟨53, _⟩ => ⟨S_, .f32⟩
  | .hbm, ⟨54, _⟩ => ⟨S8x16896, .f32⟩
  | .hbm, ⟨55, _⟩ => ⟨S_, .f32⟩
  | .hbm, ⟨56, _⟩ => ⟨S8x16896, .f32⟩
  | .hbm, ⟨57, _⟩ => ⟨S8x16896, .f32⟩
  | .hbm, ⟨58, _⟩ => ⟨S8x16896x1, .f32⟩
  | .hbm, ⟨59, _⟩ => ⟨S8x16896x16896, .f32⟩
  | .hbm, ⟨60, _⟩ => ⟨S8x16896x16896, .f32⟩
  | .hbm, ⟨61, _⟩ => ⟨S8x16896x16896, .f32⟩
  | .hbm, ⟨62, _⟩ => ⟨S_, .f32⟩
  | .hbm, ⟨63, _⟩ => ⟨S8x16896, .f32⟩
  | .hbm, ⟨64, _⟩ => ⟨S8x16896x1, .f32⟩
  | .hbm, ⟨65, _⟩ => ⟨S8x16896x16896, .f32⟩
  | .hbm, ⟨66, _⟩ => ⟨S8x16896x16896, .f32⟩
  | .hbm, ⟨67, _⟩ => ⟨S_, .f32⟩
  | .hbm, ⟨68, _⟩ => ⟨S_, .f32⟩
  | .hbm, ⟨69, _⟩ => ⟨S8x16896x16896, .i1⟩
  | .hbm, ⟨70, _⟩ => ⟨S8x16896x16896, .f32⟩
  | .hbm, ⟨71, _⟩ => ⟨S8x16896x16896, .f32⟩
  | .hbm, ⟨72, _⟩ => ⟨S_, .f32⟩
  | .hbm, ⟨73, _⟩ => ⟨S8x16896, .f32⟩
  | .hbm, ⟨74, _⟩ => ⟨S_, .f32⟩
  | .hbm, ⟨75, _⟩ => ⟨S8x16896, .f32⟩
  | .hbm, ⟨76, _⟩ => ⟨S8x16896, .f32⟩
  | .hbm, ⟨77, _⟩ => ⟨S8x16896x1, .f32⟩
  | .hbm, ⟨78, _⟩ => ⟨S8x16896x16896, .f32⟩
  | .hbm, ⟨79, _⟩ => ⟨S8x16896x16896, .f32⟩
  | .hbm, ⟨80, _⟩ => ⟨S8x16896x16896, .f32⟩
  | .hbm, ⟨81, _⟩ => ⟨S_, .f32⟩
  | .hbm, ⟨82, _⟩ => ⟨S8x16896, .f32⟩
  | .hbm, ⟨83, _⟩ => ⟨S8x16896x1, .f32⟩
  | .hbm, ⟨84, _⟩ => ⟨S8x16896x16896, .f32⟩
  | .hbm, ⟨85, _⟩ => ⟨S8x16896x16896, .f32⟩
  | .hbm, ⟨86, _⟩ => ⟨S8x16896x16896, .f32⟩
  | .hbm, ⟨87, _⟩ => ⟨S8x16896x16896, .f32⟩
  | .hbm, ⟨88, _⟩ => ⟨S8x16896x16896, .f32⟩
  | .hbm, ⟨89, _⟩ => ⟨S8x128x16896, .f32⟩
  | .hbm, ⟨90, _⟩ => ⟨S16896x8x128, .f32⟩
  | .hbm, ⟨91, _⟩ => ⟨S16896x8x128, .f32⟩
  | .hbm, ⟨92, _⟩ => ⟨S_, .f32⟩
  | .hbm, ⟨93, _⟩ => ⟨S16896x8, .f32⟩
  | .hbm, ⟨94, _⟩ => ⟨S16896x8x1, .f32⟩
  | .hbm, ⟨95, _⟩ => ⟨S_, .f32⟩
  | .hbm, ⟨96, _⟩ => ⟨S16896x8x1, .f32⟩
  | .hbm, ⟨97, _⟩ => ⟨S16896x8x1, .f32⟩
  | .hbm, ⟨98, _⟩ => ⟨S_, .f32⟩
  | .hbm, ⟨99, _⟩ => ⟨S16896x8x1, .f32⟩
  | .hbm, ⟨100, _⟩ => ⟨S16896x8x1, .f32⟩
  | .hbm, ⟨101, _⟩ => ⟨S16896x8x1, .f32⟩
  | .hbm, ⟨102, _⟩ => ⟨S16896x8x128, .f32⟩
  | .hbm, ⟨103, _⟩ => ⟨S16896x8x128, .f32⟩
  | .hbm, ⟨104, _⟩ => ⟨S1x1x128, .f32⟩
  | .hbm, ⟨105, _⟩ => ⟨S16896x8x128, .f32⟩
  | .hbm, ⟨106, _⟩ => ⟨S16896x8x128, .f32⟩
  | .hbm, ⟨107, _⟩ => ⟨S_, .f32⟩
  | .hbm, ⟨108, _⟩ => ⟨S16896x8x128, .f32⟩
  | .hbm, ⟨109, _⟩ => ⟨S16896x8x128, .f32⟩
  | .hbm, ⟨110, _⟩ => ⟨S16896x1024, .f32⟩
  | .hbm, ⟨111, _⟩ => ⟨S16896x1024, .bf16⟩
  | _, _ => ⟨S16896x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_3 : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_v35 : Ref sig .tc := ⟨.hbm, 52, rfl⟩
abbrev main_cst_4 : Ref sig .tc := ⟨.hbm, 53, rfl⟩
abbrev main_v36 : Ref sig .tc := ⟨.hbm, 54, rfl⟩
abbrev main_cst_5 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_6 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_7 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_v47 : Ref sig .tc := ⟨.hbm, 71, rfl⟩
abbrev main_cst_8 : Ref sig .tc := ⟨.hbm, 72, rfl⟩
abbrev main_v48 : Ref sig .tc := ⟨.hbm, 73, rfl⟩
abbrev main_cst_9 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_10 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_11 : Ref sig .tc := ⟨.hbm, 92, rfl⟩
abbrev main_v65 : Ref sig .tc := ⟨.hbm, 93, rfl⟩
abbrev main_v66 : Ref sig .tc := ⟨.hbm, 94, rfl⟩
abbrev main_cst_12 : Ref sig .tc := ⟨.hbm, 95, rfl⟩
abbrev main_v67 : Ref sig .tc := ⟨.hbm, 96, rfl⟩
abbrev main_v68 : Ref sig .tc := ⟨.hbm, 97, rfl⟩
abbrev main_cst_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩

abbrev nD : Nat := 1
abbrev τ : Topo := Topo.v7x

variable {F : FTy → Type} [FloatOps F]
-- ==== Proof.AttnBlocks.lean ====
module

public import proofs.«01_k».proof.Proof.Gen.Kernel2Ideal.Frame
public import Idealize.ShloMosaic.Lib.Pipeline.FrameBody
public import Idealize.ShloMosaic.Lib.Ring
public import Idealize.ShloMosaic.Lib.VecWindow
public import Idealize.ShloMosaic.Lib.Tactic
public import Idealize.ShloMosaic.Lib.WordCmp

@[expose] public section

set_option maxRecDepth 65536

noncomputable section

universe u

namespace Cert.Kernel2Ideal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F] [Named F]

local notation "𝕄" => MT nD τ sig Unit (Elt F) ℕ (UR sig nD τ) ℕ

/-- A load through a memref held whole reads the window, and the memref stays. -/
theorem wp_load_owns (c : Dev nD) (E : Set ℕ) {s : Shape} {e : EltTy} (m : Memref sig .tc .vmem s e) (x : Vec F s e)
    (off size : Fin s.rank → ℕ) (inb : ∀ a, off a + size a ≤ s.size a) (hl : m.view.LoadsAt (Rect.unit (s := s) off size inb).toLoadRect)
    {β : Type} (k : Vec F (Rect.unit (s := s) off size inb).shape e → Prog (TpuEff nD τ sig (Elt F) Λ₀ .tc) β)
    (K : β → sProp 𝕄) :
    iprop(owns (c : Thread nD τ) m fullShare x
        ∗ (owns (c : Thread nD τ) m fullShare x -∗ wp frame (wpE (defs₀ (F := F)) Variants.none c none) E (k (VecWindow.window x off size inb)) K))
      ⊢ wp frame (wpE (defs₀ (F := F)) Variants.none c none) E
        (Prog.lift (.load m (Rect.unit (s := s) off size inb).toLoadRect hl) >>= k) K := by
  rw [Prog.bind_lift]
  unfold owns
  iintro ⟨⟨%f0, %hf0, H0⟩, Hk⟩
  iapply (wp_load (defs := defs₀ (F := F)) Variants.none c none E (m := m) (r := (Rect.unit (s := s) off size inb).toLoadRect) (hl := hl) (k := k) (S := m.view.set)
    (q := fullShare) (f := f0) (View.setOn_subset_set _ _)) $$ [H0]
  · iexact H0
  iintro H0
  rw [View.readAt_unit m.view f0 inb rfl inb, hf0]
  iapply Hk
  iexists f0
  isplit
  · ipureintro; exact hf0
  · iexact H0

/-- A store through a memref held whole puts the payload over the window. -/
theorem wp_store_owns (c : Dev nD) (E : Set ℕ) {s : Shape} {e : EltTy} (m : Memref sig .tc .vmem s e) (x : Vec F s e)
    (off size : Fin s.rank → ℕ) (inb : ∀ a, off a + size a ≤ s.size a) (w : Vec F (Rect.unit (s := s) off size inb).shape e)
    (hx : (m.access (Rect.unit (s := s) off size inb)).Stores (Finset.univ : Finset (Rect.unit (s := s) off size inb).shape.Idx))
    (hm' : (Finset.univ : Finset (Rect.unit (s := s) off size inb).shape.Idx) = Finset.univ ∨ ∀ a, (Rect.unit (s := s) off size inb).stride a = 1)
    {β : Type} (k : PUnit.{1} → Prog (TpuEff nD τ sig (Elt F) Λ₀ .tc) β)
    (K : β → sProp 𝕄) :
    iprop(owns (c : Thread nD τ) m fullShare x
        ∗ (owns (c : Thread nD τ) m fullShare (VecWindow.put x off size w) -∗ wp frame (wpE (defs₀ (F := F)) Variants.none c none) E (k ⟨⟩) K))
      ⊢ wp frame (wpE (defs₀ (F := F)) Variants.none c none) E
        (Prog.lift (.store m (Rect.unit (s := s) off size inb) w Finset.univ hx hm') >>= k) K := by
  rw [Prog.bind_lift]
  unfold owns
  iintro ⟨⟨%f0, %hf0, H0⟩, Hk⟩
  iapply (wp_store (defs := defs₀ (F := F)) Variants.none c none E (m := m) (r := Rect.unit (s := s) off size inb) (w := w) (hx := hx) (hm := hm') (k := k)
    (S := m.view.set) (f := f0) (Memref.setOn_access_subset m (Rect.unit (s := s) off size inb) Finset.univ)) $$ [H0]
  · iexact H0
  iintro H0
  iapply Hk
  iexists _
  isplit
  swap
  · iexact H0
  · ipureintro
    have h := View.read_writes_cons_put (Val := Elt F) m.view f0 inb w [] rfl
    rw [View.writes_nil, hf0] at h
    exact h

/-! ## The buffers a tile's step works on -/

/-- A rectangle of all the rows of a table of 3072 lanes, over 256 of its lanes, lies inside the table. -/
theorem lanes_inb (r : ℕ) {o : ℕ} (h : o + 256 ≤ 3072) :
    ∀ a, (![0, o] : Fin 2 → ℕ) a + (![r, 256] : Fin 2 → ℕ) a ≤ (![r, 3072] : Fin 2 → ℕ) a := by
  intro a
  match a with
  | ⟨0, _⟩ => exact le_of_eq (Nat.zero_add r)
  | ⟨1, _⟩ => exact h

/-- What the buffers of one tile's step hold: the scores and the row of maxima of the tile at hand, those of the next tile, the running maximum and the accumulator. -/
structure Tile (F : FTy → Type) where
  /-- scores of the tile at hand -/
  s : Vec F S768x3072 .f32
  /-- maxima of the tile at hand -/
  mt : Vec F S1x3072 .f32
  /-- scores of the next tile -/
  ns : Vec F S768x3072 .f32
  /-- maxima of the next tile -/
  nmt : Vec F S1x3072 .f32
  /-- running maximum -/
  m : Vec F S1x3072 .f32
  /-- accumulator -/
  acc : Vec F S144x3072 .f32

/-- The two score buffers changing places. -/
def Tile.swap (t : Tile F) : Tile F := ⟨t.ns, t.nmt, t.s, t.mt, t.m, t.acc⟩

/-- Payload: the new maximum. -/
def mNew (m mt : Vec F S1x256 .f32) : FVec F S1x256 .f32 := maximumf m mt

/-- Payload: the new accumulator. -/
def accNew (ones : FVec F S16x768 .bf16) (m mt : Vec F S1x256 .f32) (s : Vec F S768x256 .f32) (v : Vec F S1x128x768 .bf16) (a : Vec F S144x256 .f32) : FVec F S144x256 .f32 :=
  addf (mulf (broadcastTo S144x256 (exp2 (subf m (maximumf m mt))) broadcasts_S1x256_S144x256) a)
    (matmul dot_S144x768_S768x256_S144x256_1_0_0_1_n_n none
      (concatenate S144x768 0 [⟨S128x768, shapeCast S128x768 v shapeCasts_S1x128x768_S128x768⟩, ⟨S16x768, ones⟩] concatenates_S128x768_S16x768_S144x768_d0)
      (exp2 (truncf .bf16 (subf s (broadcastTo S768x256 (maximumf m mt) broadcasts_S1x256_S768x256)) bitsLt_bf16_f32))
      (constant S144x256 .f32 0x00000000#32))

/-- Payload: the scores before masking. -/
def scoreOf (k : Vec F S768x128 .bf16) (q : Vec F S128x256 .bf16) : FVec F S768x256 .f32 :=
  matmul dot_S768x128_S128x256_S768x256_1_0_0_1_n_n none (shapeCast S768x128 k shapeCasts_S768x128_S768x128) q (constant S768x256 .f32 0x00000000#32)

/-- Payload: the row of maxima of a block of scores. -/
def maxOf (s : FVec F S768x256 .f32) : FVec F S1x256 .f32 :=
  shapeCast S1x256 (multiReduction .maximumf [0] S256 s 0xFF800000#32 reduces_S768x256_S256 (.inl rfl) rfl) shapeCasts_S256_S1x256

section

variable (arg3 : Memref sig .tc .vmem S16896x128 .bf16) (arg4 : Memref sig .tc .vmem S22x128x768 .bf16) (arg11 : Memref sig .tc .vmem S128x3072 .bf16)
  (sb : Memref sig .tc .vmem S768x3072 .f32) (mb : Memref sig .tc .vmem S1x3072 .f32)
  (nsb : Memref sig .tc .vmem S768x3072 .f32) (nmb : Memref sig .tc .vmem S1x3072 .f32)
  (arg16 : Memref sig .tc .vmem S1x3072 .f32) (arg17 : Memref sig .tc .vmem S144x3072 .f32)

/-- The program that adds the tile at hand into 256 lanes of the running softmax. -/
def accP (ones : FVec F S16x768 .bf16) (vO : Fin 3 → ℕ) (hv : ∀ a, vO a + S1x128x768.size a ≤ S22x128x768.size a) (o : ℕ) (ho : o + 256 ≤ 3072) :
    Prog (TpuEff nD τ sig (Elt F) Λ₀ .tc) PUnit := do
  let v1 : Vec F S1x256 .f32 ← Prog.lift (.load arg16 (Rect.unit (s := S1x3072) ![0, o] S1x256.size (lanes_inb 1 ho)).toLoadRect (View.loadsAt_vmem h_S1x256))
  let v2 : Vec F S1x256 .f32 ← Prog.lift (.load mb (Rect.unit (s := S1x3072) ![0, o] S1x256.size (lanes_inb 1 ho)).toLoadRect (View.loadsAt_vmem h_S1x256))
  let v3 : Vec F S768x256 .f32 ← Prog.lift (.load sb (Rect.unit (s := S768x3072) ![0, o] S768x256.size (lanes_inb 768 ho)).toLoadRect (View.loadsAt_vmem h_S768x256))
  let v4 : Vec F S1x256 .f32 ← Prog.lift (.load arg16 (Rect.unit (s := S1x3072) ![0, o] S1x256.size (lanes_inb 1 ho)).toLoadRect (View.loadsAt_vmem h_S1x256))
  Prog.lift (.store arg16 (Rect.unit (s := S1x3072) ![0, o] S1x256.size (lanes_inb 1 ho)) (shapeCast S1x256 (mNew v1 v2) shapeCasts_S1x256_S1x256) Finset.univ (View.stores_vmem_bits_univ h_S1x256 rfl) (.inl rfl))
  let v5 : Vec F S1x128x768 .bf16 ← Prog.lift (.load arg4 (Rect.unit (s := S22x128x768) vO S1x128x768.size hv).toLoadRect (View.loadsAt_vmem h_S1x128x768))
  let v6 : Vec F S144x256 .f32 ← Prog.lift (.load arg17 (Rect.unit (s := S144x3072) ![0, o] S144x256.size (lanes_inb 144 ho)).toLoadRect (View.loadsAt_vmem h_S144x256))
  let v7 : Vec F S144x256 .f32 ← Prog.lift (.load arg17 (Rect.unit (s := S144x3072) ![0, o] S144x256.size (lanes_inb 144 ho)).toLoadRect (View.loadsAt_vmem h_S144x256))
  Prog.lift (.store arg17 (Rect.unit (s := S144x3072) ![0, o] S144x256.size (lanes_inb 144 ho)) (shapeCast S144x256 (accNew ones v1 v2 v3 v5 v6) shapeCasts_S144x256_S144x256) Finset.univ (View.stores_vmem_bits_univ h_S144x256 rfl) (.inl rfl))

/-- The program that computes 256 lanes of the next tile's scores and their maxima. -/
def scoP (kO : Fin 2 → ℕ) (hk : ∀ a, kO a + S768x128.size a ≤ S16896x128.size a) (f : FVec F S768x256 .f32 → FVec F S768x256 .f32) (o : ℕ) (ho : o + 256 ≤ 3072) :
    Prog (TpuEff nD τ sig (Elt F) Λ₀ .tc) PUnit := do
  let v1 : Vec F S768x128 .bf16 ← Prog.lift (.load arg3 (Rect.unit (s := S16896x128) kO S768x128.size hk).toLoadRect (View.loadsAt_vmem h_S768x128))
  let v2 : Vec F S128x256 .bf16 ← Prog.lift (.load arg11 (Rect.unit (s := S128x3072) ![0, o] S128x256.size (lanes_inb 128 ho)).toLoadRect (View.loadsAt_vmem h_S128x256))
  let v3 : Vec F S768x256 .f32 ← Prog.lift (.load nsb (Rect.unit (s := S768x3072) ![0, o] S768x256.size (lanes_inb 768 ho)).toLoadRect (View.loadsAt_vmem h_S768x256))
  Prog.lift (.store nsb (Rect.unit (s := S768x3072) ![0, o] S768x256.size (lanes_inb 768 ho)) (shapeCast S768x256 (f (scoreOf v1 v2)) shapeCasts_S768x256_S768x256) Finset.univ (View.stores_vmem_bits_univ h_S768x256 rfl) (.inl rfl))
  let v4 : Vec F S1x256 .f32 ← Prog.lift (.load nmb (Rect.unit (s := S1x3072) ![0, o] S1x256.size (lanes_inb 1 ho)).toLoadRect (View.loadsAt_vmem h_S1x256))
  Prog.lift (.store nmb (Rect.unit (s := S1x3072) ![0, o] S1x256.size (lanes_inb 1 ho)) (shapeCast S1x256 (maxOf (f (scoreOf v1 v2))) shapeCasts_S1x256_S1x256) Finset.univ (View.stores_vmem_bits_univ h_S1x256 rfl) (.inl rfl))

/-- What adding the tile at hand makes of the buffers, on 256 lanes. -/
def accF (vt : Vec F S22x128x768 .bf16) (ones : FVec F S16x768 .bf16) (vO : Fin 3 → ℕ) (hv : ∀ a, vO a + S1x128x768.size a ≤ S22x128x768.size a) (o : ℕ) (ho : o + 256 ≤ 3072)
    (t : Tile F) : Tile F :=
  { t with
    m := VecWindow.put (s := S1x3072) t.m ![0, o] S1x256.size (shapeCast S1x256 (mNew (VecWindow.window (s := S1x3072) t.m ![0, o] S1x256.size (lanes_inb 1 ho)) (VecWindow.window (s := S1x3072) t.mt ![0, o] S1x256.size (lanes_inb 1 ho))) shapeCasts_S1x256_S1x256)
    acc := VecWindow.put (s := S144x3072) t.acc ![0, o] S144x256.size (shapeCast S144x256 (accNew ones (VecWindow.window (s := S1x3072) t.m ![0, o] S1x256.size (lanes_inb 1 ho)) (VecWindow.window (s := S1x3072) t.mt ![0, o] S1x256.size (lanes_inb 1 ho))
      (VecWindow.window (s := S768x3072) t.s ![0, o] S768x256.size (lanes_inb 768 ho)) (VecWindow.window (s := S22x128x768) vt vO S1x128x768.size hv) (VecWindow.window (s := S144x3072) t.acc ![0, o] S144x256.size (lanes_inb 144 ho))) shapeCasts_S144x256_S144x256) }

/-- What computing the next tile's scores makes of the buffers, on 256 lanes. -/
def scoF (k : Vec F S16896x128 .bf16) (qz : Vec F S128x3072 .bf16) (kO : Fin 2 → ℕ) (hk : ∀ a, kO a + S768x128.size a ≤ S16896x128.size a)
    (f : FVec F S768x256 .f32 → FVec F S768x256 .f32) (o : ℕ) (ho : o + 256 ≤ 3072) (t : Tile F) : Tile F :=
  { t with
    ns := VecWindow.put (s := S768x3072) t.ns ![0, o] S768x256.size (shapeCast S768x256 (f (scoreOf (VecWindow.window (s := S16896x128) k kO S768x128.size hk) (VecWindow.window (s := S128x3072) qz ![0, o] S128x256.size (lanes_inb 128 ho)))) shapeCasts_S768x256_S768x256)
    nmt := VecWindow.put (s := S1x3072) t.nmt ![0, o] S1x256.size (shapeCast S1x256 (maxOf (f (scoreOf (VecWindow.window (s := S16896x128) k kO S768x128.size hk) (VecWindow.window (s := S128x3072) qz ![0, o] S128x256.size (lanes_inb 128 ho))))) shapeCasts_S1x256_S1x256) }

/-- The buffers a step works on, held at given contents. -/
def heldT (c : Dev nD) (k : Vec F S16896x128 .bf16) (vt : Vec F S22x128x768 .bf16) (qz : Vec F S128x3072 .bf16) (t : Tile F) : sProp 𝕄 :=
  iprop(owns (c : Thread nD τ) arg3 fullShare k ∗ owns (c : Thread nD τ) arg4 fullShare vt ∗ owns (c : Thread nD τ) arg11 fullShare qz
    ∗ owns (c : Thread nD τ) sb fullShare t.s ∗ owns (c : Thread nD τ) mb fullShare t.mt ∗ owns (c : Thread nD τ) nsb fullShare t.ns
    ∗ owns (c : Thread nD τ) nmb fullShare t.nmt ∗ owns (c : Thread nD τ) arg16 fullShare t.m ∗ owns (c : Thread nD τ) arg17 fullShare t.acc)

end

/-- A program that turns what is held at `x` into what is held at `f x`. -/
def Does {σ : Type} (c : Dev nD) (E : Set ℕ) (H : σ → sProp 𝕄) (p : Prog (TpuEff nD τ sig (Elt F) Λ₀ .tc) PUnit.{1}) (f : σ → σ) : Prop :=
  ∀ (x : σ) (K : PUnit.{1} → sProp 𝕄), iprop(H x ∗ (H (f x) -∗ K ⟨⟩)) ⊢ wp frame (wpE (defs₀ (F := F)) Variants.none c none) E p K

/-- Doing nothing keeps the state. -/
theorem Does.skip {σ : Type} (c : Dev nD) (E : Set ℕ) (H : σ → sProp 𝕄) : Does (F := F) c E H (pure ⟨⟩) (fun x => x) := by
  intro x K
  iintro ⟨H0, Hk⟩
  rw [wp_pure]
  imodintro
  iapply Hk
  iexact H0

/-- Two programs in a row compose their changes. -/
theorem Does.seq {σ : Type} {c : Dev nD} {E : Set ℕ} {H : σ → sProp 𝕄} {p q : Prog (TpuEff nD τ sig (Elt F) Λ₀ .tc) PUnit.{1}} {f g : σ → σ}
    (hp : Does c E H p f) (hq : Does c E H q g) : Does c E H (p >>= fun _ => q) (fun x => g (f x)) := by
  intro x K
  rw [wp_bind]
  iintro ⟨H0, Hk⟩
  iapply (hp x (fun _ => wp frame (wpE (defs₀ (F := F)) Variants.none c none) E q K))
  isplitl [H0]
  · iexact H0
  iintro H0
  iapply (hq (f x) K)
  isplitl [H0]
  · iexact H0
  iexact Hk

/-- An accumulation over one block of lanes changes the state as its function says. -/
theorem accP_does (c : Dev nD) (E : Set ℕ) (arg3 : Memref sig .tc .vmem S16896x128 .bf16) (arg4 : Memref sig .tc .vmem S22x128x768 .bf16) (arg11 : Memref sig .tc .vmem S128x3072 .bf16)
    (sb : Memref sig .tc .vmem S768x3072 .f32) (mb : Memref sig .tc .vmem S1x3072 .f32)
    (nsb : Memref sig .tc .vmem S768x3072 .f32) (nmb : Memref sig .tc .vmem S1x3072 .f32)
    (arg16 : Memref sig .tc .vmem S1x3072 .f32) (arg17 : Memref sig .tc .vmem S144x3072 .f32)
    (k : Vec F S16896x128 .bf16) (vt : Vec F S22x128x768 .bf16) (qz : Vec F S128x3072 .bf16)
    (ones : FVec F S16x768 .bf16) (vO : Fin 3 → ℕ) (hv : ∀ a, vO a + S1x128x768.size a ≤ S22x128x768.size a) (o : ℕ) (ho : o + 256 ≤ 3072) :
    Does c E (heldT arg3 arg4 arg11 sb mb nsb nmb arg16 arg17 c k vt qz) (accP arg4 sb mb arg16 arg17 ones vO hv o ho) (accF vt ones vO hv o ho) := by
  intro t K
  unfold heldT accP
  iintro ⟨⟨H3, H4, H11, Hs, Hm, Hns, Hnm, H16, H17⟩, Hk⟩
  iapply wp_load_owns
  isplitl [H16]; · iexact H16
  iintro H16
  iapply wp_load_owns
  isplitl [Hm]; · iexact Hm
  iintro Hm
  iapply wp_load_owns
  isplitl [Hs]; · iexact Hs
  iintro Hs
  iapply wp_load_owns
  isplitl [H16]; · iexact H16
  iintro H16
  iapply wp_store_owns
  isplitl [H16]; · iexact H16
  iintro H16
  iapply wp_load_owns
  isplitl [H4]; · iexact H4
  iintro H4
  iapply wp_load_owns
  isplitl [H17]; · iexact H17
  iintro H17
  iapply wp_load_owns
  isplitl [H17]; · iexact H17
  iintro H17
  rw [← bind_pure (Prog.lift _)]
  iapply wp_store_owns
  isplitl [H17]; · iexact H17
  iintro H17
  rw [wp_pure]
  imodintro
  iapply Hk
  unfold accF
  isplitl [H3]; · iexact H3
  isplitl [H4]; · iexact H4
  isplitl [H11]; · iexact H11
  isplitl [Hs]; · iexact Hs
  isplitl [Hm]; · iexact Hm
  isplitl [Hns]; · iexact Hns
  isplitl [Hnm]; · iexact Hnm
  isplitl [H16]; · iexact H16
  iexact H17

/-- A score step over one block of lanes changes the state as its function says. -/
theorem scoP_does (c : Dev nD) (E : Set ℕ) (arg3 : Memref sig .tc .vmem S16896x128 .bf16) (arg4 : Memref sig .tc .vmem S22x128x768 .bf16) (arg11 : Memref sig .tc .vmem S128x3072 .bf16)
    (sb : Memref sig .tc .vmem S768x3072 .f32) (mb : Memref sig .tc .vmem S1x3072 .f32)
    (nsb : Memref sig .tc .vmem S768x3072 .f32) (nmb : Memref sig .tc .vmem S1x3072 .f32)
    (arg16 : Memref sig .tc .vmem S1x3072 .f32) (arg17 : Memref sig .tc .vmem S144x3072 .f32)
    (k : Vec F S16896x128 .bf16) (vt : Vec F S22x128x768 .bf16) (qz : Vec F S128x3072 .bf16)
    (kO : Fin 2 → ℕ) (hk : ∀ a, kO a + S768x128.size a ≤ S16896x128.size a) (f : FVec F S768x256 .f32 → FVec F S768x256 .f32) (o : ℕ) (ho : o + 256 ≤ 3072) :
    Does c E (heldT arg3 arg4 arg11 sb mb nsb nmb arg16 arg17 c k vt qz) (scoP arg3 arg11 nsb nmb kO hk f o ho) (scoF k qz kO hk f o ho) := by
  intro t K
  unfold heldT scoP
  iintro ⟨⟨H3, H4, H11, Hs, Hm, Hns, Hnm, H16, H17⟩, Hk⟩
  iapply wp_load_owns
  isplitl [H3]; · iexact H3
  iintro H3
  iapply wp_load_owns
  isplitl [H11]; · iexact H11
  iintro H11
  iapply wp_load_owns
  isplitl [Hns]; · iexact Hns
  iintro Hns
  iapply wp_store_owns
  isplitl [Hns]; · iexact Hns
  iintro Hns
  iapply wp_load_owns
  isplitl [Hnm]; · iexact Hnm
  iintro Hnm
  rw [← bind_pure (Prog.lift _)]
  iapply wp_store_owns
  isplitl [Hnm]; · iexact Hnm
  iintro Hnm
  rw [wp_pure]
  imodintro
  iapply Hk
  unfold scoF
  isplitl [H3]; · iexact H3
  isplitl [H4]; · iexact H4
  isplitl [H11]; · iexact H11
  isplitl [Hs]; · iexact Hs
  isplitl [Hm]; · iexact Hm
  isplitl [Hns]; · iexact Hns
  isplitl [Hnm]; · iexact Hnm
  isplitl [H16]; · iexact H16
  iexact H17

/-- The programs of a list one after another. -/
def seqL : List (Prog (TpuEff nD τ sig (Elt F) Λ₀ .tc) PUnit.{1}) → Prog (TpuEff nD τ sig (Elt F) Λ₀ .tc) PUnit.{1}
  | [] => pure ⟨⟩
  | p :: ps => p >>= fun _ => seqL ps

/-- The functions of a list one after another. -/
def applyL {σ : Type} : List (σ → σ) → σ → σ
  | [], x => x
  | f :: fs, x => applyL fs (f x)

/-- A list of programs in a row folds their changes. -/
theorem Does.list {σ : Type} {c : Dev nD} {E : Set ℕ} {H : σ → sProp 𝕄} :
    ∀ (L : List (Prog (TpuEff nD τ sig (Elt F) Λ₀ .tc) PUnit.{1} × (σ → σ))) (h : ∀ x ∈ L, Does c E H x.1 x.2),
      Does c E H (seqL (L.map Prod.fst)) (applyL (L.map Prod.snd))
  | [], _ => Does.skip c E H
  | x :: L, h => Does.seq (f := x.2) (g := applyL (L.map Prod.snd)) (h x List.mem_cons_self) (Does.list L fun y hy => h y (List.mem_cons_of_mem _ hy))

/-- Two programs at each block of lanes, turn by turn. -/
def both {α : Type u} (A B : (o : ℕ) → o + 256 ≤ 3072 → α) : List α :=
  [A 0 (by decide), B 0 (by decide),
    A 256 (by decide), B 256 (by decide),
    A 512 (by decide), B 512 (by decide),
    A 768 (by decide), B 768 (by decide),
    A 1024 (by decide), B 1024 (by decide),
    A 1280 (by decide), B 1280 (by decide),
    A 1536 (by decide), B 1536 (by decide),
    A 1792 (by decide), B 1792 (by decide),
    A 2048 (by decide), B 2048 (by decide),
    A 2304 (by decide), B 2304 (by decide),
    A 2560 (by decide), B 2560 (by decide),
    A 2816 (by decide), B 2816 (by decide)]

/-- A first program at each block of lanes, and a second at the blocks of the later half of each set of queries. -/
def half {α : Type u} (A B : (o : ℕ) → o + 256 ≤ 3072 → α) : List α :=
  [A 0 (by decide),
    A 256 (by decide),
    A 512 (by decide),
    A 768 (by decide), B 768 (by decide),
    A 1024 (by decide), B 1024 (by decide),
    A 1280 (by decide), B 1280 (by decide),
    A 1536 (by decide),
    A 1792 (by decide),
    A 2048 (by decide),
    A 2304 (by decide), B 2304 (by decide),
    A 2560 (by decide), B 2560 (by decide),
    A 2816 (by decide), B 2816 (by decide)]

/-- A program at the blocks of the later half of each set of queries. -/
def late {α : Type u} (A : (o : ℕ) → o + 256 ≤ 3072 → α) : List α :=
  [A 768 (by decide), A 1024 (by decide), A 1280 (by decide), A 2304 (by decide), A 2560 (by decide), A 2816 (by decide)]

/-- A program at each block of lanes. -/
def every {α : Type u} (B : (o : ℕ) → o + 256 ≤ 3072 → α) : List α :=
  [B 0 (by decide), B 256 (by decide), B 512 (by decide), B 768 (by decide), B 1024 (by decide), B 1280 (by decide), B 1536 (by decide), B 1792 (by decide), B 2048 (by decide), B 2304 (by decide), B 2560 (by decide), B 2816 (by decide)]

/-- The causal mask over a block of scores, keys from `kd` and queries from `qd`. -/
def causal (kd qd : BitVec 32) (s : FVec F S768x256 .f32) : FVec F S768x256 .f32 :=
  select (cmpi .sle (addi (broadcast S768x256 kd) (iota .tc S768x256 32 [0] iota_S768x256_d0_w32)) (addi (broadcast S768x256 qd) (iota .tc S768x256 32 [1] iota_S768x256_d1_w32)))
    s (broadcast S768x256 (Named.named κ "mask" 0xF149F2CA#32))

/-- The mask of a block against the first of the two tiles on the diagonal: none for the later half of the queries. -/
def diag0 (o : ℕ) (s : FVec F S768x256 .f32) : FVec F S768x256 .f32 :=
  if o % 1536 < 768 then causal 0#32 (BitVec.ofNat 32 (o % 1536)) s else s

/-- Payload: the weight of the second softmax. -/
def lamOf (a b d e : Vec F S1x64 .f32) : FVec F S1x1 .f32 :=
  addf (subf (exp (shapeCast S1x1 (multiReduction .add [1] S1 (mulf (shapeCast S1x64 a shapeCasts_S1x64_S1x64) (shapeCast S1x64 b shapeCasts_S1x64_S1x64)) 0x00000000#32 reduces_S1x64_S1 (.inl rfl) rfl) shapeCasts_S1_S1x1))
    (exp (shapeCast S1x1 (multiReduction .add [1] S1 (mulf (shapeCast S1x64 d shapeCasts_S1x64_S1x64) (shapeCast S1x64 e shapeCasts_S1x64_S1x64)) 0x00000000#32 reduces_S1x64_S1 (.inl rfl) rfl) shapeCasts_S1_S1x1)))
    (broadcast S1x1 (Scalar.ofBits .f32 0x3E4CCCCD#32))

/-- Payload: the difference of the two softmaxes' averages. -/
def diffOf (l : FVec F S1x1 .f32) (n : Vec F S128x3072 .f32) (d : Vec F S1x3072 .f32) : FVec F S128x1536 .f32 :=
  subf (extractStridedSlice S128x1536 ![0, 0] (divf n (broadcastTo S128x3072 d broadcasts_S1x3072_S128x3072)) slices_S128x3072_o0_0_S128x1536)
    (mulf (broadcastTo S128x1536 l broadcasts_S1x1_S128x1536) (extractStridedSlice S128x1536 ![0, 1536] (divf n (broadcastTo S128x3072 d broadcasts_S1x3072_S128x3072)) slices_S128x3072_o0_1536_S128x1536))

/-- Payload: the stored block, of the difference `x` and its square `y`. -/
def outOf (x y : FVec F S128x1536 .f32) (g : Vec F S128x1 .f32) : FVec F S1536x128 .bf16 :=
  truncf .bf16 (transpose S1536x128 [1, 0] (mulf (mulf (mulf x (broadcastTo S128x1536 (rsqrt (addf (divf (shapeCast S1x1536 (multiReduction .add [0] S1536 y 0x00000000#32 reduces_S128x1536_S1536 (.inl rfl) rfl) shapeCasts_S1536_S1x1536)
    (broadcast S1x1536 (Scalar.ofBits .f32 0x43000000#32))) (broadcast S1x1536 (Scalar.ofBits .f32 0x3727C5AC#32)))) broadcasts_S1x1536_S128x1536))
    (broadcastTo S128x1536 (shapeCast S128x1 g shapeCasts_S128x1_S128x1) broadcasts_S128x1_S128x1536)) (broadcast S128x1536 (Scalar.ofBits .f32 0x3F4CCCCD#32))) transposes_S128x1536_p1_0_S1536x128) bitsLt_bf16_f32

/-- The program after the last tile, up to the loads of the two softmaxes' sums. -/
def tailP (arg5 arg6 arg7 arg8 : Memref sig .tc .vmem S1x64 .f32) (arg17 : Memref sig .tc .vmem S144x3072 .f32) :
    Prog (TpuEff nD τ sig (Elt F) Λ₀ .tc) (Σ' (_ : FVec F S1x1 .f32) (_ : Vec F S128x3072 .f32), Vec F S1x3072 .f32) := do
  let v528 : Vec F S1x64 .f32 ← Prog.lift (.load arg5 (Rect.unit (s := S1x64) ![0, 0] S1x64.size inb_S1x64_S1x64_0_0).toLoadRect (View.loadsAt_vmem h_S1x64))
  let v530 : Vec F S1x64 .f32 ← Prog.lift (.load arg6 (Rect.unit (s := S1x64) ![0, 0] S1x64.size inb_S1x64_S1x64_0_0).toLoadRect (View.loadsAt_vmem h_S1x64))
  let v536 : Vec F S1x64 .f32 ← Prog.lift (.load arg7 (Rect.unit (s := S1x64) ![0, 0] S1x64.size inb_S1x64_S1x64_0_0).toLoadRect (View.loadsAt_vmem h_S1x64))
  let v538 : Vec F S1x64 .f32 ← Prog.lift (.load arg8 (Rect.unit (s := S1x64) ![0, 0] S1x64.size inb_S1x64_S1x64_0_0).toLoadRect (View.loadsAt_vmem h_S1x64))
  let v547 : Vec F S128x3072 .f32 ← Prog.lift (.load arg17 (Rect.unit (s := S144x3072) ![0, 0] S128x3072.size inb_S144x3072_S128x3072_0_0).toLoadRect (View.loadsAt_vmem h_S128x3072))
  let v548 : Vec F S1x3072 .f32 ← Prog.lift (.load arg17 (Rect.unit (s := S144x3072) ![128, 0] S1x3072.size inb_S144x3072_S1x3072_128_0).toLoadRect (View.loadsAt_vmem h_S1x3072))
  pure ⟨lamOf v528 v530 v536 v538, v547, v548⟩

/-- The mask of the first tile: causal, and no padded key. -/
def lead (i : grid0.Coords) (o : ℕ) (s : FVec F S768x256 .f32) : FVec F S768x256 .f32 :=
  select (cmpi .sle (addi (broadcast S768x256 0#32) (iota .tc S768x256 32 [0] iota_S768x256_d0_w32))
      (addi (broadcast S768x256 (Scalar.muli (BitVec.ofNat 32 (i 1).val) 1536#32))
        (select (cmpi .sge (addi (broadcast S768x256 (BitVec.ofNat 32 o)) (iota .tc S768x256 32 [1] iota_S768x256_d1_w32)) (broadcast S768x256 1536#32))
          (subi (addi (broadcast S768x256 (BitVec.ofNat 32 o)) (iota .tc S768x256 32 [1] iota_S768x256_d1_w32)) (broadcast S768x256 1536#32))
          (addi (broadcast S768x256 (BitVec.ofNat 32 o)) (iota .tc S768x256 32 [1] iota_S768x256_d1_w32)))))
    (select (cmpi .sge (addi (broadcast S768x256 0#32) (iota .tc S768x256 32 [0] iota_S768x256_d0_w32)) (broadcast S768x256 112#32)) s (broadcast S768x256 (Named.named κ "mask" 0xF149F2CA#32)))
    (broadcast S768x256 (Named.named κ "mask" 0xF149F2CA#32))

section

variable (arg3 : Memref sig .tc .vmem S16896x128 .bf16) (arg4 : Memref sig .tc .vmem S22x128x768 .bf16) (arg11 : Memref sig .tc .vmem S128x3072 .bf16)
  (sb : Memref sig .tc .vmem S768x3072 .f32) (mb : Memref sig .tc .vmem S1x3072 .f32)
  (nsb : Memref sig .tc .vmem S768x3072 .f32) (nmb : Memref sig .tc .vmem S1x3072 .f32)
  (arg16 : Memref sig .tc .vmem S1x3072 .f32) (arg17 : Memref sig .tc .vmem S144x3072 .f32)

/-- A step at a tile before the diagonal. -/
def openP (ones : FVec F S16x768 .bf16) (vO : Fin 3 → ℕ) (hv : ∀ a, vO a + S1x128x768.size a ≤ S22x128x768.size a) (kO : Fin 2 → ℕ) (hk : ∀ a, kO a + S768x128.size a ≤ S16896x128.size a) :
    Prog (TpuEff nD τ sig (Elt F) Λ₀ .tc) PUnit.{1} :=
  seqL (both (accP arg4 sb mb arg16 arg17 ones vO hv) (scoP arg3 arg11 nsb nmb kO hk (fun s => s)))

/-- The step at the last tile before the diagonal. -/
def diag0P (ones : FVec F S16x768 .bf16) (vO : Fin 3 → ℕ) (hv : ∀ a, vO a + S1x128x768.size a ≤ S22x128x768.size a) (kO : Fin 2 → ℕ) (hk : ∀ a, kO a + S768x128.size a ≤ S16896x128.size a) :
    Prog (TpuEff nD τ sig (Elt F) Λ₀ .tc) PUnit.{1} :=
  seqL (both (accP arg4 sb mb arg16 arg17 ones vO hv) (fun o => scoP arg3 arg11 nsb nmb kO hk (diag0 o) o))

/-- The step at the first tile of the diagonal. -/
def diag1P (ones : FVec F S16x768 .bf16) (vO : Fin 3 → ℕ) (hv : ∀ a, vO a + S1x128x768.size a ≤ S22x128x768.size a) (kO : Fin 2 → ℕ) (hk : ∀ a, kO a + S768x128.size a ≤ S16896x128.size a) :
    Prog (TpuEff nD τ sig (Elt F) Λ₀ .tc) PUnit.{1} :=
  seqL (half (accP arg4 sb mb arg16 arg17 ones vO hv) (fun o => scoP arg3 arg11 nsb nmb kO hk (causal 768#32 (BitVec.ofNat 32 (o % 1536))) o))

/-- The step at the last tile. -/
def lastP (ones : FVec F S16x768 .bf16) (vO : Fin 3 → ℕ) (hv : ∀ a, vO a + S1x128x768.size a ≤ S22x128x768.size a) : Prog (TpuEff nD τ sig (Elt F) Λ₀ .tc) PUnit.{1} :=
  seqL (late (accP arg4 sb mb arg16 arg17 ones vO hv))

/-- The scores of the first tile. -/
def leadP (i : grid0.Coords) : Prog (TpuEff nD τ sig (Elt F) Λ₀ .tc) PUnit.{1} :=
  seqL (every fun o => scoP arg3 arg11 nsb nmb ![0, 0] inb_S16896x128_S768x128_0_0 (lead i o) o)

end

section

variable (i : grid0.Coords) (arg3 : Memref sig .tc .vmem S16896x128 .bf16) (arg4 : Memref sig .tc .vmem S22x128x768 .bf16) (arg11 : Memref sig .tc .vmem S128x3072 .bf16)
  (arg12 arg13 : Memref sig .tc .vmem S768x3072 .f32) (arg14 arg15 : Memref sig .tc .vmem S1x3072 .f32)
  (arg16 : Memref sig .tc .vmem S1x3072 .f32) (arg17 : Memref sig .tc .vmem S144x3072 .f32) (ones : FVec F S16x768 .bf16)

/-- One pass of the loop over the tiles before the diagonal. -/
def stepP (j : Fin (k0_t1_loop i).trips) : Prog (TpuEff nD τ sig (Elt F) Λ₀ .tc) PUnit.{1} := do
  if h : k0_cond1 i j = 1#1 then openP arg3 arg4 arg11 arg12 arg14 arg13 arg15 arg16 arg17 ones (k0_off1 i j) (k0_off1_inb i j h) (k0_off2 i j) (k0_off2_inb i j h) else pure ⟨⟩
  if h : k0_cond2 i j = 1#1 then openP arg3 arg4 arg11 arg13 arg15 arg12 arg14 arg16 arg17 ones (k0_off3 i j) (k0_off3_inb i j h) (k0_off4 i j) (k0_off4_inb i j h) else pure ⟨⟩
  pure ⟨⟩

/-- One pass of the rest of that loop. -/
def stepP' (j : Fin (k0_t2_loop i).trips) : Prog (TpuEff nD τ sig (Elt F) Λ₀ .tc) PUnit.{1} := do
  if h : k0_cond3 i j = 1#1 then openP arg3 arg4 arg11 arg12 arg14 arg13 arg15 arg16 arg17 ones (k0_off5 i j) (k0_off5_inb i j h) (k0_off6 i j) (k0_off6_inb i j h) else pure ⟨⟩
  if h : k0_cond4 i j = 1#1 then openP arg3 arg4 arg11 arg13 arg15 arg12 arg14 arg16 arg17 ones (k0_off7 i j) (k0_off7_inb i j h) (k0_off8 i j) (k0_off8_inb i j h) else pure ⟨⟩
  pure ⟨⟩

end

/-- Payload: the scaled queries. -/
def qScaled (v : Vec F S1x128x768 .f32) : FVec F S128x768 .bf16 :=
  truncf .bf16 (mulf (shapeCast S128x768 v shapeCasts_S1x128x768_S128x768) (broadcast S128x768 (Named.named κ "qs" 0x3E38AA3B#32))) bitsLt_bf16_f32

/-- Payload: queries with only the first half of the head kept. -/
def qLo (v : Vec F S1x128x768 .f32) : FVec F S128x768 .bf16 :=
  shapeCast S128x768 (select (cmpi .slt (iota .tc S128x768 32 [0] iota_S128x768_d0_w32) (broadcast S128x768 64#32)) (qScaled v)
    (broadcast S128x768 (Scalar.ofBits .bf16 0x0000#16))) shapeCasts_S128x768_S128x768

/-- Payload: queries with only the second half of the head kept. -/
def qHi (v : Vec F S1x128x768 .f32) : FVec F S128x768 .bf16 :=
  shapeCast S128x768 (select (cmpi .sge (iota .tc S128x768 32 [0] iota_S128x768_d0_w32) (broadcast S128x768 64#32)) (qScaled v)
    (broadcast S128x768 (Scalar.ofBits .bf16 0x0000#16))) shapeCasts_S128x768_S128x768

/-- The ones below the values. -/
def onesRows : FVec F S16x768 .bf16 := broadcast S16x768 (Scalar.ofBits .bf16 0x3F80#16)

/-- The program before the first tile. -/
def initP (arg2 : Memref sig .tc .vmem S2x128x768 .f32) (arg11 : Memref sig .tc .vmem S128x3072 .bf16) (harg11 : arg11.IsWhole)
    (arg16 : Memref sig .tc .vmem S1x3072 .f32) (arg17 : Memref sig .tc .vmem S144x3072 .f32) : Prog (TpuEff nD τ sig (Elt F) Λ₀ .tc) PUnit.{1} := do
  let v0 : Vec F S1x128x768 .f32 ← Prog.lift (.load arg2 (Rect.unit (s := S2x128x768) ![0, 0, 0] S1x128x768.size inb_S2x128x768_S1x128x768_0_0_0).toLoadRect (View.loadsAt_vmem h_S1x128x768))
  let v1 : Vec F S128x768 .bf16 ← Prog.lift (.load arg11 (Rect.unit (s := S128x3072) ![0, 0] S128x768.size inb_S128x3072_S128x768_0_0).toLoadRect (View.loadsAt_vmem h_S128x768))
  Prog.lift (.store arg11 (Rect.unit (s := S128x3072) ![0, 0] S128x768.size inb_S128x3072_S128x768_0_0) (qLo v0) Finset.univ (View.stores_vmem h_S128x768 (harg11.storeExact_slice rfl _ packedbf16_S128x3072_S128x768_0_0) (fun _ => rfl)) (.inl rfl))
  let v2 : Vec F S128x768 .bf16 ← Prog.lift (.load arg11 (Rect.unit (s := S128x3072) ![0, 1536] S128x768.size inb_S128x3072_S128x768_0_1536).toLoadRect (View.loadsAt_vmem h_S128x768))
  Prog.lift (.store arg11 (Rect.unit (s := S128x3072) ![0, 1536] S128x768.size inb_S128x3072_S128x768_0_1536) (qHi v0) Finset.univ (View.stores_vmem h_S128x768 (harg11.storeExact_slice rfl _ packedbf16_S128x3072_S128x768_0_1536) (fun _ => rfl)) (.inl rfl))
  let v3 : Vec F S1x128x768 .f32 ← Prog.lift (.load arg2 (Rect.unit (s := S2x128x768) ![1, 0, 0] S1x128x768.size inb_S2x128x768_S1x128x768_1_0_0).toLoadRect (View.loadsAt_vmem h_S1x128x768))
  let v4 : Vec F S128x768 .bf16 ← Prog.lift (.load arg11 (Rect.unit (s := S128x3072) ![0, 768] S128x768.size inb_S128x3072_S128x768_0_768).toLoadRect (View.loadsAt_vmem h_S128x768))
  Prog.lift (.store arg11 (Rect.unit (s := S128x3072) ![0, 768] S128x768.size inb_S128x3072_S128x768_0_768) (qLo v3) Finset.univ (View.stores_vmem h_S128x768 (harg11.storeExact_slice rfl _ packedbf16_S128x3072_S128x768_0_768) (fun _ => rfl)) (.inl rfl))
  let v5 : Vec F S128x768 .bf16 ← Prog.lift (.load arg11 (Rect.unit (s := S128x3072) ![0, 2304] S128x768.size inb_S128x3072_S128x768_0_2304).toLoadRect (View.loadsAt_vmem h_S128x768))
  Prog.lift (.store arg11 (Rect.unit (s := S128x3072) ![0, 2304] S128x768.size inb_S128x3072_S128x768_0_2304) (qHi v3) Finset.univ (View.stores_vmem h_S128x768 (harg11.storeExact_slice rfl _ packedbf16_S128x3072_S128x768_0_2304) (fun _ => rfl)) (.inl rfl))
  let v6 : Vec F S1x3072 .f32 ← Prog.lift (.load arg16 (Rect.unit (s := S1x3072) ![0, 0] S1x3072.size inb_S1x3072_S1x3072_0_0).toLoadRect (View.loadsAt_vmem h_S1x3072))
  Prog.lift (.store arg16 (Rect.unit (s := S1x3072) ![0, 0] S1x3072.size inb_S1x3072_S1x3072_0_0) (shapeCast S1x3072 (broadcast S1x3072 (Named.named κ "mask" 0xF149F2CA#32)) shapeCasts_S1x3072_S1x3072) Finset.univ (View.stores_vmem_bits_univ h_S1x3072 rfl) (.inl rfl))
  let v7 : Vec F S144x3072 .f32 ← Prog.lift (.load arg17 (Rect.unit (s := S144x3072) ![0, 0] S144x3072.size inb_S144x3072_S144x3072_0_0).toLoadRect (View.loadsAt_vmem h_S144x3072))
  Prog.lift (.store arg17 (Rect.unit (s := S144x3072) ![0, 0] S144x3072.size inb_S144x3072_S144x3072_0_0) (shapeCast S144x3072 (broadcast S144x3072 (Scalar.ofBits .f32 0x00000000#32)) shapeCasts_S144x3072_S144x3072) Finset.univ (View.stores_vmem_bits_univ h_S144x3072 rfl) (.inl rfl))

/-- The program that stores the block. -/
def endP (arg9 : Memref sig .tc .vmem S128x1 .f32) (arg10 : Memref sig .tc .vmem S1536x128 .bf16) (harg10 : arg10.IsWhole)
    (x : Σ' (_ : FVec F S1x1 .f32) (_ : Vec F S128x3072 .f32), Vec F S1x3072 .f32) : Prog (TpuEff nD τ sig (Elt F) Λ₀ .tc) PUnit.{1} := do
  let v566 : Vec F S128x1 .f32 ← Prog.lift (.load arg9 (Rect.unit (s := S128x1) ![0, 0] S128x1.size inb_S128x1_S128x1_0_0).toLoadRect (View.loadsAt_vmem h_S128x1))
  let v574 : Vec F S1536x128 .bf16 ← Prog.lift (.load arg10 (Rect.unit (s := S1536x128) ![0, 0] S1536x128.size inb_S1536x128_S1536x128_0_0).toLoadRect (View.loadsAt_vmem h_S1536x128))
  Prog.lift (.store arg10 (Rect.unit (s := S1536x128) ![0, 0] S1536x128.size inb_S1536x128_S1536x128_0_0) (outOf (diffOf x.1 x.2.1 x.2.2) (mulf (diffOf x.1 x.2.1 x.2.2) (diffOf x.1 x.2.1 x.2.2)) v566) Finset.univ (View.stores_vmem h_S1536x128 (harg10.storeExact_slice rfl _ packedbf16_S1536x128_S1536x128_0_0) (fun _ => rfl)) (.inl rfl))
  pure ⟨⟩

section

variable {ρ : Type} (i : grid0.Coords) (arg3 : Memref sig .tc .vmem S16896x128 .bf16) (arg4 : Memref sig .tc .vmem S22x128x768 .bf16) (arg11 : Memref sig .tc .vmem S128x3072 .bf16)
  (arg12 arg13 : Memref sig .tc .vmem S768x3072 .f32) (arg14 arg15 : Memref sig .tc .vmem S1x3072 .f32)
  (arg16 : Memref sig .tc .vmem S1x3072 .f32) (arg17 : Memref sig .tc .vmem S144x3072 .f32) (ones : FVec F S16x768 .bf16)

/-- The tiles before the diagonal. -/
def beforeP (r : ρ) : Prog (TpuEff nD τ sig (Elt F) Λ₀ .tc) ρ := do
  Scf.Loop.for (k0_t1_loop i) (k0_t1_ok i) ⟨⟩ fun j _ => stepP i arg3 arg4 arg11 arg12 arg13 arg14 arg15 arg16 arg17 ones j
  Scf.Loop.for (k0_t2_loop i) (k0_t2_ok i) ⟨⟩ fun j _ => stepP' i arg3 arg4 arg11 arg12 arg13 arg14 arg15 arg16 arg17 ones j
  if h5 : k0_cond5 i = 1#1 then do
    if h : k0_cond6 i = 1#1 then diag0P arg3 arg4 arg11 arg12 arg14 arg13 arg15 arg16 arg17 ones (k0_off9 i) (k0_off9_inb i h5 h) (k0_off10 i) (k0_off10_inb i h5 h) else pure ⟨⟩
    if h : k0_cond7 i = 1#1 then diag0P arg3 arg4 arg11 arg13 arg15 arg12 arg14 arg16 arg17 ones (k0_off11 i) (k0_off11_inb i h5 h) (k0_off12 i) (k0_off12_inb i h5 h) else pure ⟨⟩
    pure ⟨⟩
  else pure ⟨⟩
  pure r

/-- The first tile of the diagonal. -/
def firstP (r : ρ) : Prog (TpuEff nD τ sig (Elt F) Λ₀ .tc) ρ := do
  if h : k0_cond8 i = 1#1 then diag1P arg3 arg4 arg11 arg12 arg14 arg13 arg15 arg16 arg17 ones (k0_off13 i) (k0_off13_inb i h) (k0_off14 i) (k0_off14_inb i h) else pure ⟨⟩
  if h : k0_cond9 i = 1#1 then diag1P arg3 arg4 arg11 arg13 arg15 arg12 arg14 arg16 arg17 ones (k0_off15 i) (k0_off15_inb i h) (k0_off16 i) (k0_off16_inb i h) else pure ⟨⟩
  pure r

/-- The second tile of the diagonal, and the averages. -/
def secondP (arg5 arg6 arg7 arg8 : Memref sig .tc .vmem S1x64 .f32) : Prog (TpuEff nD τ sig (Elt F) Λ₀ .tc) (Σ' (_ : FVec F S1x1 .f32) (_ : Vec F S128x3072 .f32), Vec F S1x3072 .f32) := do
  if h : k0_cond10 i = 1#1 then lastP arg4 arg12 arg14 arg16 arg17 ones (k0_off17 i) (k0_off17_inb i h) else pure ⟨⟩
  if h : k0_cond11 i = 1#1 then lastP arg4 arg13 arg15 arg16 arg17 ones (k0_off18 i) (k0_off18_inb i h) else pure ⟨⟩
  tailP arg5 arg6 arg7 arg8 arg17

end

/-- The body, as printed, is the blocks one after another. -/
theorem body_eq (i : grid0.Coords) (arg2 : Memref sig .tc .vmem S2x128x768 .f32) (harg2 : arg2.IsWhole) (arg3 : Memref sig .tc .vmem S16896x128 .bf16) (harg3 : arg3.IsWhole) (arg4 : Memref sig .tc .vmem S22x128x768 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S128x1 .f32) (harg9 : arg9.IsWhole) (arg10 : Memref sig .tc .vmem S1536x128 .bf16) (harg10 : arg10.IsWhole) (arg11 : Memref sig .tc .vmem S128x3072 .bf16) (harg11 : arg11.IsWhole) (arg12 : Memref sig .tc .vmem S768x3072 .f32) (harg12 : arg12.IsWhole) (arg13 : Memref sig .tc .vmem S768x3072 .f32) (harg13 : arg13.IsWhole) (arg14 : Memref sig .tc .vmem S1x3072 .f32) (harg14 : arg14.IsWhole) (arg15 : Memref sig .tc .vmem S1x3072 .f32) (harg15 : arg15.IsWhole) (arg16 : Memref sig .tc .vmem S1x3072 .f32) (harg16 : arg16.IsWhole) (arg17 : Memref sig .tc .vmem S144x3072 .f32) (harg17 : arg17.IsWhole) : ∃ r r',
    cc0_diff_attn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
      = (initP arg2 arg11 harg11 arg16 arg17 >>= fun _ => leadP arg3 arg11 arg12 arg14 i
          >>= fun _ => beforeP (ρ := Σ' (v480 : BitVec 32) (v482 : BitVec 32), BitVec 32) i arg3 arg4 arg11 arg12 arg13 arg14 arg15 arg16 arg17 onesRows r
          >>= fun _ => firstP (ρ := Σ' (v507 : BitVec 32) (v519 : BitVec 32), BitVec 32) i arg3 arg4 arg11 arg12 arg13 arg14 arg15 arg16 arg17 onesRows r'
          >>= fun _ => secondP i arg4 arg12 arg13 arg14 arg15 arg16 arg17 onesRows arg5 arg6 arg7 arg8
          >>= fun x => endP arg9 arg10 harg10 x) := ⟨_, _, rfl⟩

end Cert.Kernel2Ideal.Attn
-- ==== Proof.AttnNum.lean ====
module

public import proofs.«01_k».proof.Proof.AttnBlocks

@[expose] public section

/-! The numbers the attention kernel computes at a grid point: how many passes its loops make, which of its branches it takes, and where its windows lie. -/

set_option maxRecDepth 65536

noncomputable section

namespace Cert.Kernel2Ideal.Attn

open Idealize.ShloMosaic Cert.Kernel2Ideal Cert.Kernel2Ideal.Gen

/-- The loop over the tiles before the diagonal makes one pass fewer than there are such tiles. -/
theorem trips1 (i : grid0.Coords) : (k0_t1_loop i).trips = 2 * (i 1).val - 1 := by
  have hn : (i 1).val < 11 := (i 1).isLt
  unfold k0_t1_loop
  generalize (i 1).val = n at hn ⊢
  interval_cases n <;> decide

/-- The rest of that loop makes no pass. -/
theorem trips2 (i : grid0.Coords) : (k0_t2_loop i).trips = 0 := by
  have hn : (i 1).val < 11 := (i 1).isLt
  unfold k0_t2_loop
  generalize (i 1).val = n at hn ⊢
  interval_cases n <;> decide

/-- A pass of the loop has a number below twenty. -/
theorem pass_lt (i : grid0.Coords) (j : Fin (k0_t1_loop i).trips) : j.val < 20 := by
  have hn : (i 1).val < 11 := (i 1).isLt
  have h := j.isLt
  have e := trips1 i
  omega

/-- Even passes take the first branch. -/
theorem cond1_iff (i : grid0.Coords) (j : Fin (k0_t1_loop i).trips) : k0_cond1 i j = 1#1 ↔ j.val % 2 = 0 := by
  have hj := pass_lt i j
  unfold k0_cond1
  generalize j.val = n at hj ⊢
  interval_cases n <;> decide

/-- Odd passes take the second branch. -/
theorem cond2_iff (i : grid0.Coords) (j : Fin (k0_t1_loop i).trips) : k0_cond2 i j = 1#1 ↔ j.val % 2 = 1 := by
  have hj := pass_lt i j
  unfold k0_cond2
  generalize j.val = n at hj ⊢
  interval_cases n <;> decide

/-- The values of pass `j` are those of tile `j`. -/
theorem off1_eq (i : grid0.Coords) (j : Fin (k0_t1_loop i).trips) : k0_off1 i j = ![j.val, 0, 0] := by
  have hj := pass_lt i j
  unfold k0_off1
  generalize j.val = n at hj ⊢
  interval_cases n <;> rfl

/-- The keys of pass `j` are those of the next tile. -/
theorem off2_eq (i : grid0.Coords) (j : Fin (k0_t1_loop i).trips) : k0_off2 i j = ![768 * (j.val + 1), 0] := by
  have hj := pass_lt i j
  unfold k0_off2
  generalize j.val = n at hj ⊢
  interval_cases n <;> rfl

/-- The values of pass `j` are those of tile `j`. -/
theorem off3_eq (i : grid0.Coords) (j : Fin (k0_t1_loop i).trips) : k0_off3 i j = ![j.val, 0, 0] := by
  have hj := pass_lt i j
  unfold k0_off3
  generalize j.val = n at hj ⊢
  interval_cases n <;> rfl

/-- The keys of pass `j` are those of the next tile. -/
theorem off4_eq (i : grid0.Coords) (j : Fin (k0_t1_loop i).trips) : k0_off4 i j = ![768 * (j.val + 1), 0] := by
  have hj := pass_lt i j
  unfold k0_off4
  generalize j.val = n at hj ⊢
  interval_cases n <;> rfl

/-- There are tiles before the diagonal at every query tile but the first. -/
theorem cond5_iff (i : grid0.Coords) : k0_cond5 i = 1#1 ↔ (i 1).val ≠ 0 := by
  have hn : (i 1).val < 11 := (i 1).isLt
  unfold k0_cond5
  generalize (i 1).val = n at hn ⊢
  interval_cases n <;> decide

/-- The last tile before the diagonal has an odd number, -/
theorem cond6_no (i : grid0.Coords) : (i 1).val ≠ 0 → ¬ k0_cond6 i = 1#1 := by
  have hn : (i 1).val < 11 := (i 1).isLt
  unfold k0_cond6
  generalize (i 1).val = n at hn ⊢
  interval_cases n <;> decide

/-- so the second branch is taken there. -/
theorem cond7_yes (i : grid0.Coords) : (i 1).val ≠ 0 → k0_cond7 i = 1#1 := by
  have hn : (i 1).val < 11 := (i 1).isLt
  unfold k0_cond7
  generalize (i 1).val = n at hn ⊢
  interval_cases n <;> decide

/-- The first tile of the diagonal has an even number, -/
theorem cond8_yes (i : grid0.Coords) : k0_cond8 i = 1#1 := by
  have hn : (i 1).val < 11 := (i 1).isLt
  unfold k0_cond8
  generalize (i 1).val = n at hn ⊢
  interval_cases n <;> decide

/-- so the second branch is not taken there. -/
theorem cond9_no (i : grid0.Coords) : ¬ k0_cond9 i = 1#1 := by
  have hn : (i 1).val < 11 := (i 1).isLt
  unfold k0_cond9
  generalize (i 1).val = n at hn ⊢
  interval_cases n <;> decide

/-- The last tile has an odd number, -/
theorem cond10_no (i : grid0.Coords) : ¬ k0_cond10 i = 1#1 := by
  have hn : (i 1).val < 11 := (i 1).isLt
  unfold k0_cond10
  generalize (i 1).val = n at hn ⊢
  interval_cases n <;> decide

/-- so the second branch is taken there. -/
theorem cond11_yes (i : grid0.Coords) : k0_cond11 i = 1#1 := by
  have hn : (i 1).val < 11 := (i 1).isLt
  unfold k0_cond11
  generalize (i 1).val = n at hn ⊢
  interval_cases n <;> decide

/-- The values of the last tile before the diagonal. -/
theorem off11_eq (i : grid0.Coords) : (i 1).val ≠ 0 → k0_off11 i = ![2 * (i 1).val - 1, 0, 0] := by
  have hn : (i 1).val < 11 := (i 1).isLt
  unfold k0_off11
  generalize (i 1).val = n at hn ⊢
  interval_cases n <;> first | exact fun _ => rfl | exact fun h => absurd rfl h

/-- The keys of the first tile of the diagonal. -/
theorem off12_eq (i : grid0.Coords) : (i 1).val ≠ 0 → k0_off12 i = ![768 * (2 * (i 1).val), 0] := by
  have hn : (i 1).val < 11 := (i 1).isLt
  unfold k0_off12
  generalize (i 1).val = n at hn ⊢
  interval_cases n <;> first | exact fun _ => rfl | exact fun h => absurd rfl h

/-- The values of the first tile of the diagonal. -/
theorem off13_eq (i : grid0.Coords) : k0_off13 i = ![2 * (i 1).val, 0, 0] := by
  have hn : (i 1).val < 11 := (i 1).isLt
  unfold k0_off13
  generalize (i 1).val = n at hn ⊢
  interval_cases n <;> rfl

/-- The keys of the last tile. -/
theorem off14_eq (i : grid0.Coords) : k0_off14 i = ![768 * (2 * (i 1).val + 1), 0] := by
  have hn : (i 1).val < 11 := (i 1).isLt
  unfold k0_off14
  generalize (i 1).val = n at hn ⊢
  interval_cases n <;> rfl

/-- The values of the last tile. -/
theorem off18_eq (i : grid0.Coords) : k0_off18 i = ![2 * (i 1).val + 1, 0, 0] := by
  have hn : (i 1).val < 11 := (i 1).isLt
  unfold k0_off18
  generalize (i 1).val = n at hn ⊢
  interval_cases n <;> rfl

end Cert.Kernel2Ideal.Attn
-- ==== Proof.AttnStage.lean ====
module

public import proofs.«01_k».proof.Proof.AttnNum

@[expose] public section

/-! The steps of the attention kernel as functions of the buffers: each program of a step turns the buffers held at `t` into the buffers held at a function of `t`. -/

set_option maxRecDepth 65536

noncomputable section

namespace Cert.Kernel2Ideal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen

variable {F : FTy → Type} [FloatOps F] [Named F]

local notation "𝕄" => MT nD τ sig Unit (Elt F) ℕ (UR sig nD τ) ℕ

/-- Where the values of tile `j` lie. -/
def vAt (j : ℕ) : Fin 3 → ℕ := ![j % 22, 0, 0]

/-- The value tiles lie in their array. -/
theorem vAt_inb (j : ℕ) : ∀ a, vAt j a + S1x128x768.size a ≤ S22x128x768.size a := by
  have h : j % 22 < 22 := Nat.mod_lt _ (by decide)
  intro a
  match a with
  | ⟨0, _⟩ => exact h
  | ⟨1, _⟩ => exact le_of_eq (Nat.zero_add 128)
  | ⟨2, _⟩ => exact le_of_eq (Nat.zero_add 768)

/-- Where the keys of tile `j` lie. -/
def kAt (j : ℕ) : Fin 2 → ℕ := ![768 * (j % 22), 0]

/-- The key tiles lie in their array. -/
theorem kAt_inb (j : ℕ) : ∀ a, kAt j a + S768x128.size a ≤ S16896x128.size a := by
  have h : j % 22 < 22 := Nat.mod_lt _ (by decide)
  intro a
  match a with
  | ⟨0, _⟩ => exact (show 768 * (j % 22) + 768 ≤ 16896 by omega)
  | ⟨1, _⟩ => exact le_of_eq (Nat.zero_add 128)

section

variable (vt : Vec F S22x128x768 .bf16) (k : Vec F S16896x128 .bf16) (qz : Vec F S128x3072 .bf16) (ones : FVec F S16x768 .bf16)

/-- A step at tile `j` before the diagonal. -/
def openF (j : ℕ) : Tile F → Tile F :=
  applyL (both (accF vt ones (vAt j) (vAt_inb j)) (scoF k qz (kAt (j + 1)) (kAt_inb (j + 1)) fun s => s))

/-- The step at the last tile before the diagonal. -/
def diag0F (j : ℕ) : Tile F → Tile F :=
  applyL (both (accF vt ones (vAt j) (vAt_inb j)) fun o => scoF k qz (kAt (j + 1)) (kAt_inb (j + 1)) (diag0 o) o)

/-- The step at the first tile of the diagonal. -/
def diag1F (j : ℕ) : Tile F → Tile F :=
  applyL (half (accF vt ones (vAt j) (vAt_inb j)) fun o => scoF k qz (kAt (j + 1)) (kAt_inb (j + 1)) (causal 768#32 (BitVec.ofNat 32 (o % 1536))) o)

/-- The step at the last tile. -/
def lastF (j : ℕ) : Tile F → Tile F := applyL (late (accF vt ones (vAt j) (vAt_inb j)))

/-- The scores of the first tile. -/
def leadF (i : grid0.Coords) : Tile F → Tile F := applyL (every fun o => scoF k qz (kAt 0) (kAt_inb 0) (lead i o) o)

/-- Pass `j` of the loop: the two score buffers serve by turns. -/
def stepF (j : ℕ) (t : Tile F) : Tile F :=
  if j % 2 = 0 then openF vt k qz ones j t else (openF vt k qz ones j t.swap).swap

/-- The passes below `n`. -/
def passes (t : Tile F) : ℕ → Tile F
  | 0 => t
  | n + 1 => stepF vt k qz ones n (passes t n)

/-- The buffers after the first tile's scores. -/
def ran1 (i : grid0.Coords) (t : Tile F) : Tile F := (leadF k qz i t.swap).swap

/-- The buffers after the loop. -/
def ran2 (i : grid0.Coords) (t : Tile F) : Tile F := passes vt k qz ones (ran1 k qz i t) (2 * (i 1).val - 1)

/-- The buffers after the tiles before the diagonal. -/
def ran3 (i : grid0.Coords) (t : Tile F) : Tile F :=
  if (i 1).val = 0 then ran2 vt k qz ones i t else (diag0F vt k qz ones (2 * (i 1).val - 1) (ran2 vt k qz ones i t).swap).swap

/-- The buffers after the first tile of the diagonal. -/
def ran4 (i : grid0.Coords) (t : Tile F) : Tile F := diag1F vt k qz ones (2 * (i 1).val) (ran3 vt k qz ones i t)

/-- The buffers after the last tile. -/
def ran5 (i : grid0.Coords) (t : Tile F) : Tile F := (lastF vt ones (2 * (i 1).val + 1) (ran4 vt k qz ones i t).swap).swap

end

/-! ## The programs do these -/

/-- A property of both families holds along their interleaving. -/
theorem both_all {α : Type 1} {P : α → Prop} {A B : (o : ℕ) → o + 256 ≤ 3072 → α} (hA : ∀ o ho, P (A o ho)) (hB : ∀ o ho, P (B o ho)) :
    ∀ x ∈ both A B, P x := by
  unfold both
  simp only [List.forall_mem_cons, hA, hB, true_and]
  intro x hx
  cases hx

/-- A property of both families holds along the half interleaving. -/
theorem half_all {α : Type 1} {P : α → Prop} {A B : (o : ℕ) → o + 256 ≤ 3072 → α} (hA : ∀ o ho, P (A o ho)) (hB : ∀ o ho, P (B o ho)) :
    ∀ x ∈ half A B, P x := by
  unfold half
  simp only [List.forall_mem_cons, hA, hB, true_and]
  intro x hx
  cases hx

/-- A property of a family holds on its late half. -/
theorem late_all {α : Type 1} {P : α → Prop} {A : (o : ℕ) → o + 256 ≤ 3072 → α} (hA : ∀ o ho, P (A o ho)) : ∀ x ∈ late A, P x := by
  unfold late
  simp only [List.forall_mem_cons, hA, true_and]
  intro x hx
  cases hx

/-- A property of a family holds on all its blocks. -/
theorem every_all {α : Type 1} {P : α → Prop} {A : (o : ℕ) → o + 256 ≤ 3072 → α} (hA : ∀ o ho, P (A o ho)) : ∀ x ∈ every A, P x := by
  unfold every
  simp only [List.forall_mem_cons, hA, true_and]
  intro x hx
  cases hx

section

variable (c : Dev nD) (E : Set ℕ) (arg3 : Memref sig .tc .vmem S16896x128 .bf16) (arg4 : Memref sig .tc .vmem S22x128x768 .bf16) (arg11 : Memref sig .tc .vmem S128x3072 .bf16)
  (sb : Memref sig .tc .vmem S768x3072 .f32) (mb : Memref sig .tc .vmem S1x3072 .f32)
  (nsb : Memref sig .tc .vmem S768x3072 .f32) (nmb : Memref sig .tc .vmem S1x3072 .f32)
  (arg16 : Memref sig .tc .vmem S1x3072 .f32) (arg17 : Memref sig .tc .vmem S144x3072 .f32)
  (k : Vec F S16896x128 .bf16) (vt : Vec F S22x128x768 .bf16) (qz : Vec F S128x3072 .bf16) (ones : FVec F S16x768 .bf16)

/-- The buffers under the other names. -/
theorem held_swap (t : Tile F) :
    heldT arg3 arg4 arg11 sb mb nsb nmb arg16 arg17 c k vt qz t ⊢ heldT arg3 arg4 arg11 nsb nmb sb mb arg16 arg17 c k vt qz t.swap := by
  unfold heldT Tile.swap
  iintro ⟨H3, H4, H11, Hs, Hm, Hns, Hnm, H16, H17⟩
  isplitl [H3]; · iexact H3
  isplitl [H4]; · iexact H4
  isplitl [H11]; · iexact H11
  isplitl [Hns]; · iexact Hns
  isplitl [Hnm]; · iexact Hnm
  isplitl [Hs]; · iexact Hs
  isplitl [Hm]; · iexact Hm
  isplitl [H16]; · iexact H16
  iexact H17

/-- What a program does with the buffers under the other names. -/
theorem Does.swapped {p : Prog (TpuEff nD τ sig (Elt F) Λ₀ .tc) PUnit.{1}} {f : Tile F → Tile F}
    (h : Does c E (heldT arg3 arg4 arg11 nsb nmb sb mb arg16 arg17 c k vt qz) p f) :
    Does c E (heldT arg3 arg4 arg11 sb mb nsb nmb arg16 arg17 c k vt qz) p (fun t => (f t.swap).swap) := by
  intro t K
  iintro ⟨H0, Hk⟩
  iapply (h t.swap K)
  isplitl [H0]
  · iapply (held_swap c arg3 arg4 arg11 sb mb nsb nmb arg16 arg17 k vt qz t)
    iexact H0
  iintro H0
  iapply Hk
  iapply (held_swap c arg3 arg4 arg11 nsb nmb sb mb arg16 arg17 k vt qz (f t.swap))
  iexact H0

/-- An unmasked stage. -/
theorem openP_does (j : ℕ) (vO : Fin 3 → ℕ) (hv) (kO : Fin 2 → ℕ) (hk) (ev : vO = vAt j) (ek : kO = kAt (j + 1)) :
    Does c E (heldT arg3 arg4 arg11 sb mb nsb nmb arg16 arg17 c k vt qz) (openP arg3 arg4 arg11 sb mb nsb nmb arg16 arg17 ones vO hv kO hk) (openF vt k qz ones j) := by
  subst ev ek
  exact Does.list (both (fun o ho => (accP arg4 sb mb arg16 arg17 ones (vAt j) hv o ho, accF vt ones (vAt j) (vAt_inb j) o ho))
      (fun o ho => (scoP arg3 arg11 nsb nmb (kAt (j + 1)) hk (fun s => s) o ho, scoF k qz (kAt (j + 1)) (kAt_inb (j + 1)) (fun s => s) o ho)))
    (both_all (fun o ho => accP_does c E arg3 arg4 arg11 sb mb nsb nmb arg16 arg17 k vt qz ones _ _ o ho) fun o ho => scoP_does c E arg3 arg4 arg11 sb mb nsb nmb arg16 arg17 k vt qz _ _ _ o ho)

/-- The stage that enters the first tile on the diagonal. -/
theorem diag0P_does (j : ℕ) (vO : Fin 3 → ℕ) (hv) (kO : Fin 2 → ℕ) (hk) (ev : vO = vAt j) (ek : kO = kAt (j + 1)) :
    Does c E (heldT arg3 arg4 arg11 sb mb nsb nmb arg16 arg17 c k vt qz) (diag0P arg3 arg4 arg11 sb mb nsb nmb arg16 arg17 ones vO hv kO hk) (diag0F vt k qz ones j) := by
  subst ev ek
  exact Does.list (both (fun o ho => (accP arg4 sb mb arg16 arg17 ones (vAt j) hv o ho, accF vt ones (vAt j) (vAt_inb j) o ho))
      (fun o ho => (scoP arg3 arg11 nsb nmb (kAt (j + 1)) hk (diag0 o) o ho, scoF k qz (kAt (j + 1)) (kAt_inb (j + 1)) (diag0 o) o ho)))
    (both_all (fun o ho => accP_does c E arg3 arg4 arg11 sb mb nsb nmb arg16 arg17 k vt qz ones _ _ o ho) fun o ho => scoP_does c E arg3 arg4 arg11 sb mb nsb nmb arg16 arg17 k vt qz _ _ _ o ho)

/-- The stage from the first to the second tile on the diagonal. -/
theorem diag1P_does (j : ℕ) (vO : Fin 3 → ℕ) (hv) (kO : Fin 2 → ℕ) (hk) (ev : vO = vAt j) (ek : kO = kAt (j + 1)) :
    Does c E (heldT arg3 arg4 arg11 sb mb nsb nmb arg16 arg17 c k vt qz) (diag1P arg3 arg4 arg11 sb mb nsb nmb arg16 arg17 ones vO hv kO hk) (diag1F vt k qz ones j) := by
  subst ev ek
  exact Does.list (half (fun o ho => (accP arg4 sb mb arg16 arg17 ones (vAt j) hv o ho, accF vt ones (vAt j) (vAt_inb j) o ho))
      (fun o ho => (scoP arg3 arg11 nsb nmb (kAt (j + 1)) hk (causal 768#32 (BitVec.ofNat 32 (o % 1536))) o ho, scoF k qz (kAt (j + 1)) (kAt_inb (j + 1)) (causal 768#32 (BitVec.ofNat 32 (o % 1536))) o ho)))
    (half_all (fun o ho => accP_does c E arg3 arg4 arg11 sb mb nsb nmb arg16 arg17 k vt qz ones _ _ o ho) fun o ho => scoP_does c E arg3 arg4 arg11 sb mb nsb nmb arg16 arg17 k vt qz _ _ _ o ho)

/-- The last stage. -/
theorem lastP_does (j : ℕ) (vO : Fin 3 → ℕ) (hv) (ev : vO = vAt j) :
    Does c E (heldT arg3 arg4 arg11 sb mb nsb nmb arg16 arg17 c k vt qz) (lastP arg4 sb mb arg16 arg17 ones vO hv) (lastF vt ones j) := by
  subst ev
  exact Does.list (late (fun o ho => (accP arg4 sb mb arg16 arg17 ones (vAt j) hv o ho, accF vt ones (vAt j) (vAt_inb j) o ho)))
    (late_all fun o ho => accP_does c E arg3 arg4 arg11 sb mb nsb nmb arg16 arg17 k vt qz ones _ _ o ho)

/-- The stage that scores the leading tile. -/
theorem leadP_does (i : grid0.Coords) :
    Does c E (heldT arg3 arg4 arg11 sb mb nsb nmb arg16 arg17 c k vt qz) (leadP arg3 arg11 nsb nmb i) (leadF k qz i) := by
  have e : (![0, 0] : Fin 2 → ℕ) = kAt 0 := rfl
  exact Does.list (every (fun o ho => (scoP arg3 arg11 nsb nmb ![0, 0] inb_S16896x128_S768x128_0_0 (lead i o) o ho, scoF k qz (kAt 0) (kAt_inb 0) (lead i o) o ho)))
    (every_all fun o ho => scoP_does c E arg3 arg4 arg11 sb mb nsb nmb arg16 arg17 k vt qz _ _ _ o ho)

end

section

variable (c : Dev nD) (E : Set ℕ) (i : grid0.Coords) (arg3 : Memref sig .tc .vmem S16896x128 .bf16) (arg4 : Memref sig .tc .vmem S22x128x768 .bf16) (arg11 : Memref sig .tc .vmem S128x3072 .bf16)
  (arg12 arg13 : Memref sig .tc .vmem S768x3072 .f32) (arg14 arg15 : Memref sig .tc .vmem S1x3072 .f32)
  (arg16 : Memref sig .tc .vmem S1x3072 .f32) (arg17 : Memref sig .tc .vmem S144x3072 .f32)
  (k : Vec F S16896x128 .bf16) (vt : Vec F S22x128x768 .bf16) (qz : Vec F S128x3072 .bf16) (ones : FVec F S16x768 .bf16)

/-- The step's buffers with the first score buffer at hand. -/
abbrev H0 : Tile F → sProp 𝕄 := heldT arg3 arg4 arg11 arg12 arg14 arg13 arg15 arg16 arg17 c k vt qz

/-- The place of a value tile. -/
theorem vAt_of {j : ℕ} (h : j < 22) : (![j, 0, 0] : Fin 3 → ℕ) = vAt j := by unfold vAt; rw [Nat.mod_eq_of_lt h]

/-- The place of a key tile. -/
theorem kAt_of {j : ℕ} (h : j < 22) : (![768 * j, 0] : Fin 2 → ℕ) = kAt j := by unfold kAt; rw [Nat.mod_eq_of_lt h]

/-- A pass of the loop. -/
theorem stepP_does (j : Fin (k0_t1_loop i).trips) :
    Does c E (H0 c arg3 arg4 arg11 arg12 arg13 arg14 arg15 arg16 arg17 k vt qz) (stepP i arg3 arg4 arg11 arg12 arg13 arg14 arg15 arg16 arg17 ones j) (stepF vt k qz ones j.val) := by
  have hj := pass_lt i j
  by_cases hp : j.val % 2 = 0
  · have e : stepF (F := F) vt k qz ones j.val = openF vt k qz ones j.val := by funext t; unfold stepF; rw [if_pos hp]
    rw [e]
    unfold stepP
    rw [dif_pos ((cond1_iff i j).mpr hp)]
    refine Does.seq (g := fun x => x) (openP_does c E arg3 arg4 arg11 arg12 arg14 arg13 arg15 arg16 arg17 k vt qz ones j.val _ _ _ _ ((off1_eq i j).trans (vAt_of (by omega))) ((off2_eq i j).trans (kAt_of (by omega)))) ?_
    dsimp only
    rw [dif_neg (fun h => by have := (cond2_iff i j).mp h; omega)]
    exact Does.skip c E _
  · have e : stepF (F := F) vt k qz ones j.val = fun t => (openF vt k qz ones j.val t.swap).swap := by funext t; unfold stepF; rw [if_neg hp]
    rw [e]
    unfold stepP
    rw [dif_neg (fun h => hp ((cond1_iff i j).mp h))]
    dsimp only
    rw [dif_pos ((cond2_iff i j).mpr (by omega))]
    refine Does.seq (g := fun x => x) (Does.swapped c E arg3 arg4 arg11 arg12 arg14 arg13 arg15 arg16 arg17 k vt qz (openP_does c E arg3 arg4 arg11 arg13 arg15 arg12 arg14 arg16 arg17 k vt qz ones j.val _ _ _ _ ((off3_eq i j).trans (vAt_of (by omega))) ((off4_eq i j).trans (kAt_of (by omega))))) ?_
    exact Does.skip c E _

/-- The loop over the tiles before the diagonal. -/
theorem loop1_does :
    Does c E (H0 c arg3 arg4 arg11 arg12 arg13 arg14 arg15 arg16 arg17 k vt qz)
      (Scf.Loop.for (k0_t1_loop i) (k0_t1_ok i) ⟨⟩ fun j _ => stepP i arg3 arg4 arg11 arg12 arg13 arg14 arg15 arg16 arg17 ones j)
      (fun t => passes vt k qz ones t (2 * (i 1).val - 1)) := by
  intro t K
  rw [← trips1 i]
  iintro ⟨HH, Hk⟩
  iapply (Scf.wp_for frame (wpE (defs₀ (F := F)) Variants.none c none) E (k0_t1_loop i).lb (k0_t1_loop i).ub (k0_t1_loop i).st (k0_t1_ok i) (⟨⟩ : PUnit.{1})
    (fun j _ => stepP i arg3 arg4 arg11 arg12 arg13 arg14 arg15 arg16 arg17 ones j)
    (fun n _ => H0 c arg3 arg4 arg11 arg12 arg13 arg14 arg15 arg16 arg17 k vt qz (passes vt k qz ones t n))
    (by
      intro j _
      iintro HH
      iapply (stepP_does c E i arg3 arg4 arg11 arg12 arg13 arg14 arg15 arg16 arg17 k vt qz ones j (passes vt k qz ones t j.val) _)
      isplitl [HH]
      · iexact HH
      iintro HH
      iexact HH))
  isplitl [HH]
  · iexact HH
  iintro %a HH
  iapply Hk
  iexact HH

/-- The rest of the loop does nothing. -/
theorem loop2_does :
    Does c E (H0 c arg3 arg4 arg11 arg12 arg13 arg14 arg15 arg16 arg17 k vt qz)
      (Scf.Loop.for (k0_t2_loop i) (k0_t2_ok i) ⟨⟩ fun j _ => stepP' i arg3 arg4 arg11 arg12 arg13 arg14 arg15 arg16 arg17 ones j) (fun t => t) := by
  intro t K
  iintro ⟨HH, Hk⟩
  iapply (Scf.wp_for frame (wpE (defs₀ (F := F)) Variants.none c none) E (k0_t2_loop i).lb (k0_t2_loop i).ub (k0_t2_loop i).st (k0_t2_ok i) (⟨⟩ : PUnit.{1})
    (fun j _ => stepP' i arg3 arg4 arg11 arg12 arg13 arg14 arg15 arg16 arg17 ones j)
    (fun n _ => H0 c arg3 arg4 arg11 arg12 arg13 arg14 arg15 arg16 arg17 k vt qz t)
    (by intro j _; exact absurd (trips2 i ▸ j.isLt : j.val < 0) (Nat.not_lt_zero _)))
  isplitl [HH]
  · iexact HH
  iintro %a HH
  iapply Hk
  iexact HH

/-- The tiles before the diagonal. -/
theorem beforeP_wp {ρ : Type} (r : ρ) (t : Tile F) (K : ρ → sProp 𝕄) :
    iprop(H0 c arg3 arg4 arg11 arg12 arg13 arg14 arg15 arg16 arg17 k vt qz (ran1 k qz i t)
        ∗ (H0 c arg3 arg4 arg11 arg12 arg13 arg14 arg15 arg16 arg17 k vt qz (ran3 vt k qz ones i t) -∗ K r))
      ⊢ wp frame (wpE (defs₀ (F := F)) Variants.none c none) E (beforeP i arg3 arg4 arg11 arg12 arg13 arg14 arg15 arg16 arg17 ones r) K := by
  have hn : (i 1).val < 11 := (i 1).isLt
  unfold beforeP
  rw [wp_bind]
  iintro ⟨HH, Hk⟩
  iapply (loop1_does c E i arg3 arg4 arg11 arg12 arg13 arg14 arg15 arg16 arg17 k vt qz ones (ran1 k qz i t) _)
  isplitl [HH]
  · iexact HH
  iintro HH
  rw [wp_bind]
  iapply (loop2_does c E i arg3 arg4 arg11 arg12 arg13 arg14 arg15 arg16 arg17 k vt qz ones _ _)
  isplitl [HH]
  · iexact HH
  iintro HH
  by_cases h5 : (i 1).val = 0
  · rw [dif_neg (fun h => (cond5_iff i).mp h h5)]
    dsimp only
    rw [wp_pure]
    imodintro
    iapply Hk
    rw [show ran3 vt k qz ones i t = passes vt k qz ones (ran1 k qz i t) (2 * (i 1).val - 1) from by unfold ran3 ran2; rw [if_pos h5]]
    iexact HH
  · rw [dif_pos ((cond5_iff i).mpr h5), dif_neg (cond6_no i h5)]
    dsimp only
    rw [dif_pos (cond7_yes i h5)]
    rw [wp_bind]
    iapply (Does.swapped c E arg3 arg4 arg11 arg12 arg14 arg13 arg15 arg16 arg17 k vt qz (diag0P_does c E arg3 arg4 arg11 arg13 arg15 arg12 arg14 arg16 arg17 k vt qz ones (2 * (i 1).val - 1) _ _ _ _
      ((off11_eq i h5).trans (vAt_of (by omega))) ((off12_eq i h5).trans ((kAt_of (by omega)).trans (congrArg kAt (by omega))))) _ _)
    isplitl [HH]
    · iexact HH
    iintro HH
    rw [wp_pure]
    imodintro
    iapply Hk
    rw [show ran3 vt k qz ones i t = (diag0F vt k qz ones (2 * (i 1).val - 1) (passes vt k qz ones (ran1 k qz i t) (2 * (i 1).val - 1)).swap).swap from by unfold ran3 ran2; rw [if_neg h5]]
    iexact HH

/-- The first tile of the diagonal. -/
theorem firstP_wp {ρ : Type} (r : ρ) (t : Tile F) (K : ρ → sProp 𝕄) :
    iprop(H0 c arg3 arg4 arg11 arg12 arg13 arg14 arg15 arg16 arg17 k vt qz (ran3 vt k qz ones i t)
        ∗ (H0 c arg3 arg4 arg11 arg12 arg13 arg14 arg15 arg16 arg17 k vt qz (ran4 vt k qz ones i t) -∗ K r))
      ⊢ wp frame (wpE (defs₀ (F := F)) Variants.none c none) E (firstP i arg3 arg4 arg11 arg12 arg13 arg14 arg15 arg16 arg17 ones r) K := by
  have hn : (i 1).val < 11 := (i 1).isLt
  unfold firstP
  rw [dif_pos (cond8_yes i), wp_bind]
  iintro ⟨HH, Hk⟩
  iapply (diag1P_does c E arg3 arg4 arg11 arg12 arg14 arg13 arg15 arg16 arg17 k vt qz ones (2 * (i 1).val) _ _ _ _
      ((off13_eq i).trans (vAt_of (by omega))) ((off14_eq i).trans (kAt_of (by omega))) _ _)
  isplitl [HH]
  · iexact HH
  iintro HH
  dsimp only
  rw [dif_neg (cond9_no i)]
  rw [wp_pure]
  imodintro
  iapply Hk
  iexact HH

/-- The last tile. -/
theorem secondP_wp (arg5 arg6 arg7 arg8 : Memref sig .tc .vmem S1x64 .f32) (t : Tile F) (K : (Σ' (_ : FVec F S1x1 .f32) (_ : Vec F S128x3072 .f32), Vec F S1x3072 .f32) → sProp 𝕄) :
    iprop(H0 c arg3 arg4 arg11 arg12 arg13 arg14 arg15 arg16 arg17 k vt qz (ran4 vt k qz ones i t)
        ∗ (H0 c arg3 arg4 arg11 arg12 arg13 arg14 arg15 arg16 arg17 k vt qz (ran5 vt k qz ones i t) -∗
          wp frame (wpE (defs₀ (F := F)) Variants.none c none) E (tailP arg5 arg6 arg7 arg8 arg17) K))
      ⊢ wp frame (wpE (defs₀ (F := F)) Variants.none c none) E (secondP i arg4 arg12 arg13 arg14 arg15 arg16 arg17 ones arg5 arg6 arg7 arg8) K := by
  have hn : (i 1).val < 11 := (i 1).isLt
  unfold secondP
  rw [dif_neg (cond10_no i)]
  rw [dif_pos (cond11_yes i), wp_bind]
  iintro ⟨HH, Hk⟩
  iapply (Does.swapped c E arg3 arg4 arg11 arg12 arg14 arg13 arg15 arg16 arg17 k vt qz (lastP_does c E arg3 arg4 arg11 arg13 arg15 arg12 arg14 arg16 arg17 k vt qz ones (2 * (i 1).val + 1) _ _
      ((off18_eq i).trans (vAt_of (by omega)))) _ _)
  isplitl [HH]
  · iexact HH
  iintro HH
  dsimp only
  iapply Hk
  iexact HH

end

end Cert.Kernel2Ideal.Attn
-- ==== Proof.AttnLane.lean ====
module

public import proofs.«01_k».proof.Proof.AttnStage

@[expose] public section

/-! The attention kernel's buffers, 256 lanes at a time: each block of lanes goes its own way, and what a grid point leaves in the accumulator does not depend on what the score buffers held before. -/

set_option maxRecDepth 65536

noncomputable section

namespace Cert.Kernel2Ideal.Attn

open Idealize.ShloMosaic Idealize.ShloMosaic.TcCoe Idealize.ShloMosaic.Tactic
open Cert.Kernel2Ideal Cert.Kernel2Ideal.Gen

variable {F : FTy → Type} [FloatOps F] [Named F]

/-- 256 lanes of the buffers of a tile's step. -/
@[ext] structure Lane (F : FTy → Type) where
  /-- scores -/
  s : Vec F S768x256 .f32
  /-- maxima -/
  mt : Vec F S1x256 .f32
  /-- running maximum -/
  m : Vec F S1x256 .f32
  /-- accumulator -/
  acc : Vec F S144x256 .f32

/-- 256 lanes of a table. -/
abbrev lanesOf (r : ℕ) {e : EltTy} (x : Vec F ⟨2, ![r, 3072]⟩ e) (o : ℕ) (ho : o + 256 ≤ 3072) : Vec F ⟨2, ![r, 256]⟩ e :=
  VecWindow.window (s := ⟨2, ![r, 3072]⟩) x ![0, o] ![r, 256] (lanes_inb r ho)

/-- A block of lanes just stored. -/
theorem lanes_put_same (r : ℕ) {e : EltTy} (x : Vec F ⟨2, ![r, 3072]⟩ e) (o : ℕ) (ho : o + 256 ≤ 3072) (w : Vec F ⟨2, ![r, 256]⟩ e) :
    lanesOf (F := F) r (VecWindow.put (s := ⟨2, ![r, 3072]⟩) x ![0, o] ![r, 256] w) o ho = w :=
  VecWindow.window_put_same (s := ⟨2, ![r, 3072]⟩) x ![0, o] ![r, 256] (lanes_inb r ho) w

/-- A block of lanes beside the one stored. -/
theorem lanes_put_ne (r : ℕ) {e : EltTy} (x : Vec F ⟨2, ![r, 3072]⟩ e) (o o' : ℕ) (ho' : o' + 256 ≤ 3072) (w : Vec F ⟨2, ![r, 256]⟩ e)
    (h : o' + 256 ≤ o ∨ o + 256 ≤ o') :
    lanesOf (F := F) r (VecWindow.put (s := ⟨2, ![r, 3072]⟩) x ![0, o] ![r, 256] w) o' ho' = lanesOf r x o' ho' :=
  VecWindow.window_put_of_disjoint (s := ⟨2, ![r, 3072]⟩) x ![0, o] ![r, 256] ![0, o'] ![r, 256] (lanes_inb r ho') w 1 h

/-- The lanes from `o` of the tile at hand. -/
def Tile.lane (t : Tile F) (o : ℕ) (ho : o + 256 ≤ 3072) : Lane F :=
  ⟨lanesOf 768 t.s o ho, lanesOf 1 t.mt o ho, lanesOf 1 t.m o ho, lanesOf 144 t.acc o ho⟩

/-- The tile at hand added in. -/
def accL (ones : FVec F S16x768 .bf16) (v : Vec F S1x128x768 .bf16) (x : Lane F) : Lane F :=
  ⟨x.s, x.mt, shapeCast S1x256 (mNew x.m x.mt) shapeCasts_S1x256_S1x256, shapeCast S144x256 (accNew ones x.m x.mt x.s v x.acc) shapeCasts_S144x256_S144x256⟩

/-- The next tile's scores put at hand. -/
def scoL (f : FVec F S768x256 .f32 → FVec F S768x256 .f32) (k : Vec F S768x128 .bf16) (q : Vec F S128x256 .bf16) (x : Lane F) : Lane F :=
  ⟨shapeCast S768x256 (f (scoreOf k q)) shapeCasts_S768x256_S768x256, shapeCast S1x256 (maxOf (f (scoreOf k q))) shapeCasts_S1x256_S1x256, x.m, x.acc⟩

section

variable (vt : Vec F S22x128x768 .bf16) (k : Vec F S16896x128 .bf16) (qz : Vec F S128x3072 .bf16) (ones : FVec F S16x768 .bf16)

/-- The values of tile `j`. -/
def vTile (j : ℕ) : Vec F S1x128x768 .bf16 := VecWindow.window (s := S22x128x768) vt (vAt j) S1x128x768.size (vAt_inb j)

/-- The keys of tile `j`. -/
def kTile (j : ℕ) : Vec F S768x128 .bf16 := VecWindow.window (s := S16896x128) k (kAt j) S768x128.size (kAt_inb j)

/-- The queries of the lanes from `o`. -/
def qLane (o : ℕ) (ho : o + 256 ≤ 3072) : Vec F S128x256 .bf16 := lanesOf 128 qz o ho

/-- An accumulation on its own lanes. -/
theorem acc_same (j o : ℕ) (ho) (t : Tile F) : (accF vt ones (vAt j) (vAt_inb j) o ho t).lane o ho = accL ones (vTile vt j) (t.lane o ho) := by
  unfold accF Tile.lane accL vTile
  dsimp only
  congr 1
  · exact lanes_put_same 1 t.m o ho _
  · exact lanes_put_same 144 t.acc o ho _

/-- An accumulation leaves other lanes. -/
theorem acc_other (j o o' : ℕ) (ho) (ho') (t : Tile F) (h : o' + 256 ≤ o ∨ o + 256 ≤ o') :
    (accF vt ones (vAt j) (vAt_inb j) o ho t).lane o' ho' = t.lane o' ho' := by
  unfold accF Tile.lane
  dsimp only
  congr 1
  · exact lanes_put_ne 1 t.m o o' ho' _ h
  · exact lanes_put_ne 144 t.acc o o' ho' _ h

/-- After an accumulation, the other buffers' lanes: the scores of the next tile, with the new maximum and sums. -/
theorem acc_next_same (j o : ℕ) (ho) (t : Tile F) :
    (accF vt ones (vAt j) (vAt_inb j) o ho t).swap.lane o ho
      = ⟨(t.swap.lane o ho).s, (t.swap.lane o ho).mt, (accL ones (vTile vt j) (t.lane o ho)).m, (accL ones (vTile vt j) (t.lane o ho)).acc⟩ := by
  unfold accF Tile.lane Tile.swap accL vTile
  dsimp only
  congr 1
  · exact lanes_put_same 1 t.m o ho _
  · exact lanes_put_same 144 t.acc o ho _

/-- After an accumulation on other lanes, the other buffers' lanes are as before. -/
theorem acc_next_other (j o o' : ℕ) (ho) (ho') (t : Tile F) (h : o' + 256 ≤ o ∨ o + 256 ≤ o') :
    (accF vt ones (vAt j) (vAt_inb j) o ho t).swap.lane o' ho' = t.swap.lane o' ho' := by
  unfold accF Tile.lane Tile.swap
  dsimp only
  congr 1
  · exact lanes_put_ne 1 t.m o o' ho' _ h
  · exact lanes_put_ne 144 t.acc o o' ho' _ h

/-- A score step leaves the tile at hand. -/
theorem sco_lane (j o o' : ℕ) (ho) (ho') (f) (t : Tile F) : (scoF k qz (kAt j) (kAt_inb j) f o ho t).lane o' ho' = t.lane o' ho' := rfl

/-- A score step on its own lanes. -/
theorem sco_next_same (j o : ℕ) (ho) (f) (t : Tile F) :
    (scoF k qz (kAt j) (kAt_inb j) f o ho t).swap.lane o ho = scoL f (kTile k j) (qLane qz o ho) (t.swap.lane o ho) := by
  unfold scoF scoL kTile qLane
  generalize f (scoreOf (VecWindow.window (s := S16896x128) k (kAt j) S768x128.size (kAt_inb j)) (VecWindow.window (s := S128x3072) qz ![0, o] S128x256.size (lanes_inb 128 ho))) = sc
  generalize maxOf sc = mx
  exact Lane.ext (lanes_put_same 768 t.ns o ho _) (lanes_put_same 1 t.nmt o ho _) rfl rfl

/-- A score step leaves other lanes. -/
theorem sco_next_other (j o o' : ℕ) (ho) (ho') (f) (t : Tile F) (h : o' + 256 ≤ o ∨ o + 256 ≤ o') :
    (scoF k qz (kAt j) (kAt_inb j) f o ho t).swap.lane o' ho' = t.swap.lane o' ho' := by
  unfold scoF Tile.lane Tile.swap
  dsimp only
  congr 1
  · exact lanes_put_ne 768 t.ns o o' ho' _ h
  · exact lanes_put_ne 1 t.nmt o o' ho' _ h

/-- The twelve blocks of lanes. -/
def IsBlock (o : ℕ) : Prop :=
  o = 0 ∨ o = 256 ∨ o = 512 ∨ o = 768 ∨ o = 1024 ∨ o = 1280 ∨ o = 1536 ∨ o = 1792 ∨ o = 2048 ∨ o = 2304 ∨ o = 2560 ∨ o = 2816

/-- The blocks of the later half of each set of queries. -/
def IsLate (o : ℕ) : Prop := o = 768 ∨ o = 1024 ∨ o = 1280 ∨ o = 2304 ∨ o = 2560 ∨ o = 2816

/-- The blocks of the earlier half of each set of queries. -/
def IsEarly (o : ℕ) : Prop := o = 0 ∨ o = 256 ∨ o = 512 ∨ o = 1536 ∨ o = 1792 ∨ o = 2048

/-- A step over all the blocks, in one of them. -/
theorem both_lane (j : ℕ) (f : ℕ → FVec F S768x256 .f32 → FVec F S768x256 .f32) (t : Tile F) (o : ℕ) (ho : o + 256 ≤ 3072) (hb : IsBlock o) :
    (applyL (both (accF vt ones (vAt j) (vAt_inb j)) fun o => scoF k qz (kAt (j + 1)) (kAt_inb (j + 1)) (f o) o) t).swap.lane o ho
      = scoL (f o) (kTile k (j + 1)) (qLane qz o ho) (accL ones (vTile vt j) (t.lane o ho)) := by
  rcases hb with h | h | h | h | h | h | h | h | h | h | h | h <;> subst h <;> simp only [both, applyL] <;>
    simp (disch := omega) only [acc_other, acc_next_other, sco_next_other, acc_next_same, sco_next_same, sco_lane] <;> rfl

/-- A step of the diagonal's first tile, in a block of the later half. -/
theorem half_late_lane (j : ℕ) (f : ℕ → FVec F S768x256 .f32 → FVec F S768x256 .f32) (t : Tile F) (o : ℕ) (ho : o + 256 ≤ 3072) (hb : IsLate o) :
    (applyL (half (accF vt ones (vAt j) (vAt_inb j)) fun o => scoF k qz (kAt (j + 1)) (kAt_inb (j + 1)) (f o) o) t).swap.lane o ho
      = scoL (f o) (kTile k (j + 1)) (qLane qz o ho) (accL ones (vTile vt j) (t.lane o ho)) := by
  rcases hb with h | h | h | h | h | h <;> subst h <;> simp only [half, applyL] <;>
    simp (disch := omega) only [acc_other, acc_next_other, sco_next_other, acc_next_same, sco_next_same, sco_lane] <;> rfl

/-- A step of the diagonal's first tile, in a block of the earlier half. -/
theorem half_early_lane (j : ℕ) (f : ℕ → FVec F S768x256 .f32 → FVec F S768x256 .f32) (t : Tile F) (o : ℕ) (ho : o + 256 ≤ 3072) (hb : IsEarly o) :
    (applyL (half (accF vt ones (vAt j) (vAt_inb j)) fun o => scoF k qz (kAt (j + 1)) (kAt_inb (j + 1)) (f o) o) t).lane o ho
      = accL ones (vTile vt j) (t.lane o ho) := by
  rcases hb with h | h | h | h | h | h <;> subst h <;> simp only [half, applyL] <;>
    simp (disch := omega) only [acc_other, acc_same, sco_lane]

/-- The last step, in a block of the later half. -/
theorem late_late_lane (j : ℕ) (t : Tile F) (o : ℕ) (ho : o + 256 ≤ 3072) (hb : IsLate o) :
    (applyL (late (accF vt ones (vAt j) (vAt_inb j))) t).lane o ho = accL ones (vTile vt j) (t.lane o ho) := by
  rcases hb with h | h | h | h | h | h <;> subst h <;> simp only [late, applyL] <;>
    simp (disch := omega) only [acc_other, acc_same]

/-- The last step, in a block of the earlier half. -/
theorem late_early_lane (j : ℕ) (t : Tile F) (o : ℕ) (ho : o + 256 ≤ 3072) (hb : IsEarly o) :
    (applyL (late (accF vt ones (vAt j) (vAt_inb j))) t).lane o ho = t.lane o ho := by
  rcases hb with h | h | h | h | h | h <;> subst h <;> simp only [late, applyL] <;>
    simp (disch := omega) only [acc_other]

/-- The first tile's scores, in one block. -/
theorem lead_lane (i : grid0.Coords) (t : Tile F) (o : ℕ) (ho : o + 256 ≤ 3072) (hb : IsBlock o) :
    (leadF k qz i t).swap.lane o ho = scoL (lead i o) (kTile k 0) (qLane qz o ho) (t.swap.lane o ho) := by
  unfold leadF
  rcases hb with h | h | h | h | h | h | h | h | h | h | h | h <;> subst h <;> simp only [every, applyL] <;>
    simp (disch := omega) only [sco_next_other, sco_next_same]

/-- The lanes after `n` passes of the loop, from `x`. -/
def passL (o : ℕ) (ho : o + 256 ≤ 3072) (x : Lane F) : ℕ → Lane F
  | 0 => x
  | n + 1 => scoL (fun s => s) (kTile k (n + 1)) (qLane qz o ho) (accL ones (vTile vt n) (passL o ho x n))

/-- The buffers with those of tile `j` at hand. -/
def at_ (j : ℕ) (t : Tile F) : Tile F := if j % 2 = 0 then t else t.swap

/-- The unmasked passes, lane by lane. -/
theorem passes_lane (t : Tile F) (o : ℕ) (ho : o + 256 ≤ 3072) (hb : IsBlock o) :
    ∀ n, (at_ n (passes vt k qz ones t n)).lane o ho = passL vt k qz ones o ho (t.lane o ho) n
  | 0 => rfl
  | n + 1 => by
    have ih := passes_lane t o ho hb n
    have h := fun t => both_lane vt k qz ones n (fun _ s => s) t o ho hb
    unfold passes passL
    rw [← ih]
    unfold stepF
    by_cases hp : n % 2 = 0
    · rw [if_pos hp]
      unfold at_
      rw [if_pos hp, if_neg (by omega)]
      exact h _
    · rw [if_neg hp]
      unfold at_
      rw [if_neg hp, if_pos (by omega)]
      exact h _

/-- The lanes before the diagonal's first tile is added, from the running maximum and accumulator `x` begins with. -/
def lane3 (i : grid0.Coords) (o : ℕ) (ho : o + 256 ≤ 3072) (x : Lane F) : Lane F :=
  if (i 1).val = 0 then scoL (lead i o) (kTile k 0) (qLane qz o ho) x
  else scoL (diag0 o) (kTile k (2 * (i 1).val)) (qLane qz o ho) (accL ones (vTile vt (2 * (i 1).val - 1))
    (passL vt k qz ones o ho (scoL (lead i o) (kTile k 0) (qLane qz o ho) x) (2 * (i 1).val - 1)))

/-- The run up to the diagonal, lane by lane. -/
theorem ran3_lane (i : grid0.Coords) (t : Tile F) (o : ℕ) (ho : o + 256 ≤ 3072) (hb : IsBlock o) :
    (ran3 vt k qz ones i t).lane o ho = lane3 vt k qz ones i o ho (t.lane o ho) := by
  have h1 : (ran1 k qz i t).lane o ho = scoL (lead i o) (kTile k 0) (qLane qz o ho) (t.lane o ho) := lead_lane k qz i t.swap o ho hb
  unfold ran3 lane3 ran2
  by_cases h : (i 1).val = 0
  · rw [if_pos h, if_pos h, h]
    exact h1
  · rw [if_neg h, if_neg h]
    have h2 := passes_lane vt k qz ones (ran1 k qz i t) o ho hb (2 * (i 1).val - 1)
    unfold at_ at h2
    rw [if_neg (by omega), h1] at h2
    have h3 := both_lane vt k qz ones (2 * (i 1).val - 1) diag0 (passes vt k qz ones (ran1 k qz i t) (2 * (i 1).val - 1)).swap o ho hb
    rw [h2] at h3
    exact h3.trans (by rw [show 2 * (i 1).val - 1 + 1 = 2 * (i 1).val by omega])

/-- The lanes a grid point ends with, in a block of the earlier half. -/
def earlyL (i : grid0.Coords) (o : ℕ) (ho : o + 256 ≤ 3072) (x : Lane F) : Lane F :=
  accL ones (vTile vt (2 * (i 1).val)) (lane3 vt k qz ones i o ho x)

/-- The lanes a grid point ends with, in a block of the later half. -/
def lateL (i : grid0.Coords) (o : ℕ) (ho : o + 256 ≤ 3072) (x : Lane F) : Lane F :=
  accL ones (vTile vt (2 * (i 1).val + 1)) (scoL (causal 768#32 (BitVec.ofNat 32 (o % 1536))) (kTile k (2 * (i 1).val + 1)) (qLane qz o ho)
    (earlyL vt k qz ones i o ho x))

/-- The whole run on a block of the second half of the queries. -/
theorem ran5_late (i : grid0.Coords) (t : Tile F) (o : ℕ) (ho : o + 256 ≤ 3072) (hb : IsLate o) :
    lanesOf 144 (ran5 vt k qz ones i t).acc o ho = (lateL vt k qz ones i o ho (t.lane o ho)).acc := by
  have hb' : IsBlock o := by unfold IsLate at hb; unfold IsBlock; omega
  have h := late_late_lane vt ones (2 * (i 1).val + 1) (ran4 vt k qz ones i t).swap o ho hb
  have h' := half_late_lane vt k qz ones (2 * (i 1).val) (fun o => causal 768#32 (BitVec.ofNat 32 (o % 1536))) (ran3 vt k qz ones i t) o ho hb
  rw [ran3_lane vt k qz ones i t o ho hb'] at h'
  have h4 : (ran4 vt k qz ones i t).swap.lane o ho = _ := h'
  rw [h4] at h
  exact congrArg Lane.acc h

/-- The whole run on a block of the first half of the queries. -/
theorem ran5_early (i : grid0.Coords) (t : Tile F) (o : ℕ) (ho : o + 256 ≤ 3072) (hb : IsEarly o) :
    lanesOf 144 (ran5 vt k qz ones i t).acc o ho = (earlyL vt k qz ones i o ho (t.lane o ho)).acc := by
  have hb' : IsBlock o := by unfold IsEarly at hb; unfold IsBlock; omega
  have h := late_early_lane vt ones (2 * (i 1).val + 1) (ran4 vt k qz ones i t).swap o ho hb
  have h' := half_early_lane vt k qz ones (2 * (i 1).val) (fun o => causal 768#32 (BitVec.ofNat 32 (o % 1536))) (ran3 vt k qz ones i t) o ho hb
  rw [ran3_lane vt k qz ones i t o ho hb'] at h'
  have h5 : lanesOf 144 (ran5 vt k qz ones i t).acc o ho = lanesOf 144 (ran4 vt k qz ones i t).acc o ho := congrArg Lane.acc h
  rw [h5]
  exact congrArg Lane.acc h'

/-- The run of a lane depends on its maximum and accumulator alone. -/
theorem lane3_of (i : grid0.Coords) (o : ℕ) (ho : o + 256 ≤ 3072) (x y : Lane F) (hm : x.m = y.m) (ha : x.acc = y.acc) :
    lane3 vt k qz ones i o ho x = lane3 vt k qz ones i o ho y := by
  have h : scoL (lead i o) (kTile k 0) (qLane qz o ho) x = scoL (lead i o) (kTile k 0) (qLane qz o ho) y := by
    unfold scoL; rw [hm, ha]
  unfold lane3
  rw [h]

end

/-- Tables that agree on every block of lanes are equal. -/
theorem ext_lanes (r : ℕ) {e : EltTy} (x y : Vec F ⟨2, ![r, 3072]⟩ e) (h : ∀ o ho, IsBlock o → lanesOf r x o ho = lanesOf r y o ho) : x = y := by
  funext z
  have hz : (z 1).val < 3072 := (z 1).isLt
  have hb : IsBlock ((z 1).val / 256 * 256) := by
    have : (z 1).val / 256 < 12 := by omega
    generalize (z 1).val / 256 = n at this
    unfold IsBlock
    omega
  obtain ⟨w, hw⟩ : ∃ w : (⟨2, ![r, 256]⟩ : Shape).Idx, (Rect.unit (s := ⟨2, ![r, 3072]⟩) ![0, (z 1).val / 256 * 256] ![r, 256] (lanes_inb r (by omega))).emb w = z :=
    ⟨fun a => match a with | ⟨0, _⟩ => ⟨(z 0).val, (z 0).isLt⟩ | ⟨1, _⟩ => ⟨(z 1).val % 256, Nat.mod_lt _ (by decide)⟩, by
      funext a
      match a with
      | ⟨0, _⟩ => exact Fin.ext (show 0 + 1 * (z 0).val = (z 0).val by omega)
      | ⟨1, _⟩ => exact Fin.ext (show (z 1).val / 256 * 256 + 1 * ((z 1).val % 256) = (z 1).val by omega)⟩
  have hx := congrFun (h ((z 1).val / 256 * 256) (by omega) hb) w
  have hx' : x ((Rect.unit (s := ⟨2, ![r, 3072]⟩) ![0, (z 1).val / 256 * 256] ![r, 256] (lanes_inb r (by omega))).emb w)
      = y ((Rect.unit (s := ⟨2, ![r, 3072]⟩) ![0, (z 1).val / 256 * 256] ![r, 256] (lanes_inb r (by omega))).emb w) := hx
  rw [hw] at hx'
  exact hx'

/-- The accumulator a grid point ends with does not depend on what the score buffers held. -/
theorem ran5_acc (vt : Vec F S22x128x768 .bf16) (k : Vec F S16896x128 .bf16) (qz : Vec F S128x3072 .bf16) (ones : FVec F S16x768 .bf16) (i : grid0.Coords)
    (t t' : Tile F) (hm : t.m = t'.m) (ha : t.acc = t'.acc) : (ran5 vt k qz ones i t).acc = (ran5 vt k qz ones i t').acc := by
  refine ext_lanes 144 _ _ fun o ho hb => ?_
  have hl := lane3_of vt k qz ones i o ho (t.lane o ho) (t'.lane o ho) (by unfold Tile.lane; rw [hm]) (by unfold Tile.lane; rw [ha])
  by_cases h : IsLate o
  · rw [ran5_late vt k qz ones i t o ho h, ran5_late vt k qz ones i t' o ho h]
    unfold lateL earlyL
    rw [hl]
  · have h' : IsEarly o := by unfold IsLate at h; unfold IsBlock at hb; unfold IsEarly; omega
    rw [ran5_early vt k qz ones i t o ho h', ran5_early vt k qz ones i t' o ho h']
    unfold earlyL
    rw [hl]

end Cert.Kernel2Ideal.Attn
-- ==== Proof.AttnRun.lean ====
module

public import proofs.«01_k».proof.Proof.AttnLane
public import Idealize.ShloMosaic.Lib.Claim

/-!
The run of the attention program for any float type: what its body stores at each grid point, and what the arrays hold at the end.
-/

@[expose] public section

set_option maxRecDepth 65536

noncomputable section

namespace Cert.Kernel2Ideal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F] [Named F]

local notation "𝕄" => MT nD τ sig Unit (Elt F) ℕ (UR sig nD τ) ℕ

/-! ## What the body stores -/

/-- What is put over the whole of a table is what the table holds. -/
theorem put_full {α : Type} {s : Shape} (x : s.Idx → α) (off : Fin s.rank → ℕ) (h0 : ∀ a, off a = 0) (w : s.Idx → α) :
    VecWindow.put (s := s) x off s.size w = w := by
  funext y
  unfold VecWindow.put
  rw [dif_pos (fun a => by rw [h0 a]; exact ⟨Nat.zero_le _, by rw [Nat.zero_add]; exact (y a).isLt⟩)]
  exact congrArg w (funext fun a => Fin.ext (show (y a).val - off a = (y a).val by rw [h0 a, Nat.sub_zero]))

/-- The queries as laid over the lanes, in a buffer that held `x`. -/
def qzOver (x : Vec F S128x3072 .bf16) (q : Vec F S2x128x768 .f32) : Vec F S128x3072 .bf16 :=
  VecWindow.put (s := S128x3072) (VecWindow.put (s := S128x3072) (VecWindow.put (s := S128x3072) (VecWindow.put (s := S128x3072) x ![0, 0] S128x768.size (qLo (VecWindow.window (s := S2x128x768) q ![0, 0, 0] S1x128x768.size inb_S2x128x768_S1x128x768_0_0_0)))
    ![0, 1536] S128x768.size (qHi (VecWindow.window (s := S2x128x768) q ![0, 0, 0] S1x128x768.size inb_S2x128x768_S1x128x768_0_0_0)))
    ![0, 768] S128x768.size (qLo (VecWindow.window (s := S2x128x768) q ![1, 0, 0] S1x128x768.size inb_S2x128x768_S1x128x768_1_0_0)))
    ![0, 2304] S128x768.size (qHi (VecWindow.window (s := S2x128x768) q ![1, 0, 0] S1x128x768.size inb_S2x128x768_S1x128x768_1_0_0))

/-- An empty buffer of queries. -/
def noQ : Vec F S128x3072 .bf16 := broadcast S128x3072 (Scalar.ofBits .bf16 0x0000#16)

/-- The queries over the lanes. -/
def qzOf (q : Vec F S2x128x768 .f32) : Vec F S128x3072 .bf16 := qzOver noQ q

/-- The four parts cover all lanes. -/
theorem qzOver_eq (x : Vec F S128x3072 .bf16) (q : Vec F S2x128x768 .f32) : qzOver x q = qzOf q := by
  unfold qzOf
  funext y
  unfold qzOver
  have hy0 : (y 0).val < 128 := (y 0).isLt
  have hy1 : (y 1).val < 3072 := (y 1).isLt
  have key : ∀ o : ℕ, o ≤ (y 1).val → (y 1).val < o + 768 → ∀ a : Fin 2, (![0, o] : Fin 2 → ℕ) a ≤ (y a).val ∧ (y a).val < (![0, o] : Fin 2 → ℕ) a + S128x768.size a := by
    intro o h1 h2 a
    match a with
    | ⟨0, _⟩ => exact ⟨Nat.zero_le _, by show (y 0).val < 0 + 128; omega⟩
    | ⟨1, _⟩ => exact ⟨h1, h2⟩
  unfold VecWindow.put
  by_cases h4 : 2304 ≤ (y 1).val
  · rw [dif_pos (key 2304 h4 (by omega)), dif_pos (key 2304 h4 (by omega))]
  have n4 : ¬∀ a : Fin 2, (![0, 2304] : Fin 2 → ℕ) a ≤ (y a).val ∧ (y a).val < (![0, 2304] : Fin 2 → ℕ) a + S128x768.size a := fun h => h4 (h 1).1
  rw [dif_neg n4, dif_neg n4]
  by_cases h3 : 768 ≤ (y 1).val ∧ (y 1).val < 1536
  · rw [dif_pos (key 768 h3.1 (by omega)), dif_pos (key 768 h3.1 (by omega))]
  have n3 : ¬∀ a : Fin 2, (![0, 768] : Fin 2 → ℕ) a ≤ (y a).val ∧ (y a).val < (![0, 768] : Fin 2 → ℕ) a + S128x768.size a := fun h => h3 (h 1)
  rw [dif_neg n3, dif_neg n3]
  by_cases h2 : 1536 ≤ (y 1).val
  · rw [dif_pos (key 1536 h2 (by omega)), dif_pos (key 1536 h2 (by omega))]
  have n2 : ¬∀ a : Fin 2, (![0, 1536] : Fin 2 → ℕ) a ≤ (y a).val ∧ (y a).val < (![0, 1536] : Fin 2 → ℕ) a + S128x768.size a := fun h => h2 (h 1).1
  rw [dif_neg n2, dif_neg n2, dif_pos (key 0 (Nat.zero_le _) (by omega)), dif_pos (key 0 (Nat.zero_le _) (by omega))]

/-- The running maximum before the first tile. -/
def max0 : Vec F S1x3072 .f32 := shapeCast S1x3072 (broadcast S1x3072 (Named.named κ "mask" 0xF149F2CA#32)) shapeCasts_S1x3072_S1x3072

/-- The accumulator before the first tile. -/
def acc0 : Vec F S144x3072 .f32 := shapeCast S144x3072 (broadcast S144x3072 (Scalar.ofBits .f32 0x00000000#32)) shapeCasts_S144x3072_S144x3072

/-- The buffers before the first tile, with nothing in those that are not yet set. -/
def tile0 : Tile F where
  s := broadcast S768x3072 (Scalar.ofBits .f32 0x00000000#32)
  mt := broadcast S1x3072 (Scalar.ofBits .f32 0x00000000#32)
  ns := broadcast S768x3072 (Scalar.ofBits .f32 0x00000000#32)
  nmt := broadcast S1x3072 (Scalar.ofBits .f32 0x00000000#32)
  m := max0
  acc := acc0

/-- The accumulator after the last tile. -/
def accOut (i : grid0.Coords) (q : Vec F S2x128x768 .f32) (k : Vec F S16896x128 .bf16) (vt : Vec F S22x128x768 .bf16) : Vec F S144x3072 .f32 :=
  (ran5 vt k (qzOf q) onesRows i tile0).acc

/-- The difference of the two softmaxes' averages after the last tile. -/
def diffVal (a : Vec F S144x3072 .f32) (l1 l2 l3 l4 : Vec F S1x64 .f32) : FVec F S128x1536 .f32 :=
  diffOf (lamOf (VecWindow.window (s := S1x64) l1 ![0, 0] S1x64.size inb_S1x64_S1x64_0_0) (VecWindow.window (s := S1x64) l2 ![0, 0] S1x64.size inb_S1x64_S1x64_0_0)
      (VecWindow.window (s := S1x64) l3 ![0, 0] S1x64.size inb_S1x64_S1x64_0_0) (VecWindow.window (s := S1x64) l4 ![0, 0] S1x64.size inb_S1x64_S1x64_0_0))
    (VecWindow.window (s := S144x3072) a ![0, 0] S128x3072.size inb_S144x3072_S128x3072_0_0)
    (VecWindow.window (s := S144x3072) a ![128, 0] S1x3072.size inb_S144x3072_S1x3072_128_0)

/-- The stored block, of the accumulator. -/
def outAcc (a : Vec F S144x3072 .f32) (l1 l2 l3 l4 : Vec F S1x64 .f32) (g : Vec F S128x1 .f32) : FVec F S1536x128 .bf16 :=
  outOf (diffVal a l1 l2 l3 l4) (mulf (diffVal a l1 l2 l3 l4) (diffVal a l1 l2 l3 l4)) (VecWindow.window (s := S128x1) g ![0, 0] S128x1.size inb_S128x1_S128x1_0_0)

/-- The stored block. -/
def outVal (i : grid0.Coords) (q : Vec F S2x128x768 .f32) (k : Vec F S16896x128 .bf16) (vt : Vec F S22x128x768 .bf16) (l1 l2 l3 l4 : Vec F S1x64 .f32) (g : Vec F S128x1 .f32) :
    Vec F S1536x128 .bf16 := outAcc (accOut i q k vt) l1 l2 l3 l4 g

section

variable (c : Dev nD) (E : Set ℕ)

/-- The program before the first tile sets the queries, the running maximum and the accumulator. -/
theorem initP_wp (arg2 : Memref sig .tc .vmem S2x128x768 .f32) (arg11 : Memref sig .tc .vmem S128x3072 .bf16) (harg11 : arg11.IsWhole)
    (arg16 : Memref sig .tc .vmem S1x3072 .f32) (arg17 : Memref sig .tc .vmem S144x3072 .f32)
    (q : Vec F S2x128x768 .f32) (x : Vec F S128x3072 .bf16) (y : Vec F S1x3072 .f32) (z : Vec F S144x3072 .f32) (K : PUnit.{1} → sProp 𝕄) :
    iprop(owns (c : Thread nD τ) arg2 fullShare q ∗ owns (c : Thread nD τ) arg11 fullShare x ∗ owns (c : Thread nD τ) arg16 fullShare y ∗ owns (c : Thread nD τ) arg17 fullShare z
        ∗ (((owns (c : Thread nD τ) arg2 fullShare q ∗ owns (c : Thread nD τ) arg11 fullShare (qzOf q) ∗ owns (c : Thread nD τ) arg16 fullShare max0 ∗ owns (c : Thread nD τ) arg17 fullShare acc0)) -∗ K ⟨⟩))
      ⊢ wp frame (wpE (defs₀ (F := F)) Variants.none c none) E (initP arg2 arg11 harg11 arg16 arg17) K := by
  unfold initP
  rw [← qzOver_eq x q]
  iintro ⟨H2, H11, H16, H17, Hk⟩
  iapply wp_load_owns
  isplitl [H2]; · iexact H2
  iintro H2
  iapply wp_load_owns
  isplitl [H11]; · iexact H11
  iintro H11
  iapply wp_store_owns
  isplitl [H11]; · iexact H11
  iintro H11
  iapply wp_load_owns
  isplitl [H11]; · iexact H11
  iintro H11
  iapply wp_store_owns
  isplitl [H11]; · iexact H11
  iintro H11
  iapply wp_load_owns
  isplitl [H2]; · iexact H2
  iintro H2
  iapply wp_load_owns
  isplitl [H11]; · iexact H11
  iintro H11
  iapply wp_store_owns
  isplitl [H11]; · iexact H11
  iintro H11
  iapply wp_load_owns
  isplitl [H11]; · iexact H11
  iintro H11
  iapply wp_store_owns
  isplitl [H11]; · iexact H11
  iintro H11
  iapply wp_load_owns
  isplitl [H16]; · iexact H16
  iintro H16
  iapply wp_store_owns
  isplitl [H16]; · iexact H16
  iintro H16
  iapply wp_load_owns
  isplitl [H17]; · iexact H17
  iintro H17
  rw [← bind_pure (Prog.lift _)]
  iapply wp_store_owns
  isplitl [H17]; · iexact H17
  iintro H17
  rw [wp_pure]
  imodintro
  rw [put_full (s := S1x3072) y ![0, 0] (by decide), put_full (s := S144x3072) z ![0, 0] (by decide)]
  iapply Hk
  isplitl [H2]; · iexact H2
  isplitl [H11]; · iexact H11
  isplitl [H16]; · iexact H16
  iexact H17

/-- The program after the last tile reads the accumulator and the weight of the second softmax. -/
theorem tailP_wp (arg5 arg6 arg7 arg8 : Memref sig .tc .vmem S1x64 .f32) (arg17 : Memref sig .tc .vmem S144x3072 .f32) (l1 l2 l3 l4 : Vec F S1x64 .f32) (a : Vec F S144x3072 .f32)
    (K : (Σ' (_ : FVec F S1x1 .f32) (_ : Vec F S128x3072 .f32), Vec F S1x3072 .f32) → sProp 𝕄) :
    iprop(owns (c : Thread nD τ) arg5 fullShare l1 ∗ owns (c : Thread nD τ) arg6 fullShare l2 ∗ owns (c : Thread nD τ) arg7 fullShare l3 ∗ owns (c : Thread nD τ) arg8 fullShare l4 ∗ owns (c : Thread nD τ) arg17 fullShare a
        ∗ ((owns (c : Thread nD τ) arg5 fullShare l1 ∗ owns (c : Thread nD τ) arg6 fullShare l2 ∗ owns (c : Thread nD τ) arg7 fullShare l3 ∗ owns (c : Thread nD τ) arg8 fullShare l4 ∗ owns (c : Thread nD τ) arg17 fullShare a)
          -∗ K ⟨lamOf (VecWindow.window (s := S1x64) l1 ![0, 0] S1x64.size inb_S1x64_S1x64_0_0) (VecWindow.window (s := S1x64) l2 ![0, 0] S1x64.size inb_S1x64_S1x64_0_0)
              (VecWindow.window (s := S1x64) l3 ![0, 0] S1x64.size inb_S1x64_S1x64_0_0) (VecWindow.window (s := S1x64) l4 ![0, 0] S1x64.size inb_S1x64_S1x64_0_0),
            VecWindow.window (s := S144x3072) a ![0, 0] S128x3072.size inb_S144x3072_S128x3072_0_0, VecWindow.window (s := S144x3072) a ![128, 0] S1x3072.size inb_S144x3072_S1x3072_128_0⟩))
      ⊢ wp frame (wpE (defs₀ (F := F)) Variants.none c none) E (tailP arg5 arg6 arg7 arg8 arg17) K := by
  unfold tailP
  iintro ⟨H5, H6, H7, H8, H17, Hk⟩
  iapply wp_load_owns
  isplitl [H5]; · iexact H5
  iintro H5
  iapply wp_load_owns
  isplitl [H6]; · iexact H6
  iintro H6
  iapply wp_load_owns
  isplitl [H7]; · iexact H7
  iintro H7
  iapply wp_load_owns
  isplitl [H8]; · iexact H8
  iintro H8
  iapply wp_load_owns
  isplitl [H17]; · iexact H17
  iintro H17
  iapply wp_load_owns
  isplitl [H17]; · iexact H17
  iintro H17
  rw [wp_pure]
  imodintro
  iapply Hk
  isplitl [H5]; · iexact H5
  isplitl [H6]; · iexact H6
  isplitl [H7]; · iexact H7
  isplitl [H8]; · iexact H8
  iexact H17

/-- The program that stores the block. -/
theorem endP_wp (arg9 : Memref sig .tc .vmem S128x1 .f32) (arg10 : Memref sig .tc .vmem S1536x128 .bf16) (harg10 : arg10.IsWhole) (g : Vec F S128x1 .f32) (d : Vec F S1536x128 .bf16)
    (x : Σ' (_ : FVec F S1x1 .f32) (_ : Vec F S128x3072 .f32), Vec F S1x3072 .f32) (K : PUnit.{1} → sProp 𝕄) :
    iprop(owns (c : Thread nD τ) arg9 fullShare g ∗ owns (c : Thread nD τ) arg10 fullShare d
        ∗ ((owns (c : Thread nD τ) arg9 fullShare g ∗ owns (c : Thread nD τ) arg10 fullShare (outOf (diffOf x.1 x.2.1 x.2.2) (mulf (diffOf x.1 x.2.1 x.2.2) (diffOf x.1 x.2.1 x.2.2)) (VecWindow.window (s := S128x1) g ![0, 0] S128x1.size inb_S128x1_S128x1_0_0))) -∗ K ⟨⟩))
      ⊢ wp frame (wpE (defs₀ (F := F)) Variants.none c none) E (endP arg9 arg10 harg10 x) K := by
  unfold endP
  iintro ⟨H9, H10, Hk⟩
  iapply wp_load_owns
  isplitl [H9]; · iexact H9
  iintro H9
  iapply wp_load_owns
  isplitl [H10]; · iexact H10
  iintro H10
  iapply wp_store_owns
  isplitl [H10]; · iexact H10
  iintro H10
  rw [wp_pure]
  imodintro
  rw [put_full (s := S1536x128) d ![0, 0] (by decide)]
  iapply Hk
  isplitl [H9]; · iexact H9
  iexact H10

/-- The body stores `outVal` and leaves its inputs. -/
theorem body_wp (i : grid0.Coords) (arg2 : Memref sig .tc .vmem S2x128x768 .f32) (harg2 : arg2.IsWhole) (arg3 : Memref sig .tc .vmem S16896x128 .bf16) (harg3 : arg3.IsWhole) (arg4 : Memref sig .tc .vmem S22x128x768 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S128x1 .f32) (harg9 : arg9.IsWhole) (arg10 : Memref sig .tc .vmem S1536x128 .bf16) (harg10 : arg10.IsWhole) (arg11 : Memref sig .tc .vmem S128x3072 .bf16) (harg11 : arg11.IsWhole) (arg12 : Memref sig .tc .vmem S768x3072 .f32) (harg12 : arg12.IsWhole) (arg13 : Memref sig .tc .vmem S768x3072 .f32) (harg13 : arg13.IsWhole) (arg14 : Memref sig .tc .vmem S1x3072 .f32) (harg14 : arg14.IsWhole) (arg15 : Memref sig .tc .vmem S1x3072 .f32) (harg15 : arg15.IsWhole) (arg16 : Memref sig .tc .vmem S1x3072 .f32) (harg16 : arg16.IsWhole) (arg17 : Memref sig .tc .vmem S144x3072 .f32) (harg17 : arg17.IsWhole)
    (q : Vec F S2x128x768 .f32) (k : Vec F S16896x128 .bf16) (vt : Vec F S22x128x768 .bf16) (l1 l2 l3 l4 : Vec F S1x64 .f32) (g : Vec F S128x1 .f32) (K : PUnit.{1} → sProp 𝕄) :
    iprop(owns (c : Thread nD τ) arg2 fullShare q ∗ owns (c : Thread nD τ) arg3 fullShare k ∗ owns (c : Thread nD τ) arg4 fullShare vt ∗ owns (c : Thread nD τ) arg5 fullShare l1 ∗ owns (c : Thread nD τ) arg6 fullShare l2 ∗ owns (c : Thread nD τ) arg7 fullShare l3 ∗ owns (c : Thread nD τ) arg8 fullShare l4 ∗ owns (c : Thread nD τ) arg9 fullShare g ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ ((owns (c : Thread nD τ) arg2 fullShare q ∗ owns (c : Thread nD τ) arg3 fullShare k ∗ owns (c : Thread nD τ) arg4 fullShare vt ∗ owns (c : Thread nD τ) arg5 fullShare l1 ∗ owns (c : Thread nD τ) arg6 fullShare l2 ∗ owns (c : Thread nD τ) arg7 fullShare l3 ∗ owns (c : Thread nD τ) arg8 fullShare l4 ∗ owns (c : Thread nD τ) arg9 fullShare g ∗ owns (c : Thread nD τ) arg10 fullShare (outVal i q k vt l1 l2 l3 l4 g) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none c none) E (cc0_diff_attn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  obtain ⟨r, r', e⟩ := body_eq (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
  rw [e]
  iintro ⟨H2, H3, H4, H5, H6, H7, H8, H9, ⟨%d10, H10⟩, ⟨%d11, H11⟩, ⟨%d12, H12⟩, ⟨%d13, H13⟩, ⟨%d14, H14⟩, ⟨%d15, H15⟩, ⟨%d16, H16⟩, ⟨%d17, H17⟩, Hk⟩
  rw [wp_bind]
  iapply (initP_wp c E arg2 arg11 harg11 arg16 arg17 q d11 d16 d17 _)
  isplitl [H2]; · iexact H2
  isplitl [H11]; · iexact H11
  isplitl [H16]; · iexact H16
  isplitl [H17]; · iexact H17
  iintro ⟨H2, H11, H16, H17⟩
  rw [wp_bind]
  iapply (Does.swapped c E arg3 arg4 arg11 arg12 arg14 arg13 arg15 arg16 arg17 k vt (qzOf q) (leadP_does c E arg3 arg4 arg11 arg13 arg15 arg12 arg14 arg16 arg17 k vt (qzOf q) i) ⟨d12, d14, d13, d15, max0, acc0⟩ _)
  isplitl [H3 H4 H11 H12 H13 H14 H15 H16 H17]
  · unfold heldT
    isplitl [H3]; · iexact H3
    isplitl [H4]; · iexact H4
    isplitl [H11]; · iexact H11
    isplitl [H12]; · iexact H12
    isplitl [H14]; · iexact H14
    isplitl [H13]; · iexact H13
    isplitl [H15]; · iexact H15
    isplitl [H16]; · iexact H16
    iexact H17
  iintro HH
  rw [wp_bind]
  iapply (beforeP_wp c E i arg3 arg4 arg11 arg12 arg13 arg14 arg15 arg16 arg17 k vt (qzOf q) onesRows r ⟨d12, d14, d13, d15, max0, acc0⟩ _)
  isplitl [HH]; · iexact HH
  iintro HH
  rw [wp_bind]
  iapply (firstP_wp c E i arg3 arg4 arg11 arg12 arg13 arg14 arg15 arg16 arg17 k vt (qzOf q) onesRows r' ⟨d12, d14, d13, d15, max0, acc0⟩ _)
  isplitl [HH]; · iexact HH
  iintro HH
  rw [wp_bind]
  iapply (secondP_wp c E i arg3 arg4 arg11 arg12 arg13 arg14 arg15 arg16 arg17 k vt (qzOf q) onesRows arg5 arg6 arg7 arg8 ⟨d12, d14, d13, d15, max0, acc0⟩ _)
  isplitl [HH]; · iexact HH
  iintro HH
  unfold H0 heldT
  icases HH with ⟨H3, H4, H11, H12, H14, H13, H15, H16, H17⟩
  rw [ran5_acc vt k (qzOf q) onesRows i ⟨d12, d14, d13, d15, max0, acc0⟩ tile0 rfl rfl]
  iapply (tailP_wp c E arg5 arg6 arg7 arg8 arg17 l1 l2 l3 l4 _ _)
  isplitl [H5]; · iexact H5
  isplitl [H6]; · iexact H6
  isplitl [H7]; · iexact H7
  isplitl [H8]; · iexact H8
  isplitl [H17]; · iexact H17
  iintro ⟨H5, H6, H7, H8, H17⟩
  iapply (endP_wp c E arg9 arg10 harg10 g d10 _ _)
  isplitl [H9]; · iexact H9
  isplitl [H10]; · iexact H10
  iintro ⟨H9, H10⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  iexists _; iexact H17

end

/-! ## The proof data -/

section

variable (m : (ℓ : Loc nD τ sig) → Buf (Elt F) ℓ) (ρ : Dev nD → PrngReg)

/-- What the region stores at a point. -/
def outBlock (c : Dev nD) (t : Fin cfg0.N) : Vec F S1536x128 .bf16 :=
  outVal (grid0.coords t) (iblk m c 0 t) (iblk m c 1 t) (iblk m c 2 t) (iblk m c 3 t) (iblk m c 4 t) (iblk m c 5 t) (iblk m c 6 t) (iblk m c 7 t)

/-- Scratch buffer 0. -/
abbrev sc0 : Memref sig .tc .vmem S128x3072 .bf16 := Memref.whole cc0_scratch0
/-- Scratch buffer 1. -/
abbrev sc1 : Memref sig .tc .vmem S768x3072 .f32 := Memref.whole cc0_scratch1
/-- Scratch buffer 2. -/
abbrev sc2 : Memref sig .tc .vmem S768x3072 .f32 := Memref.whole cc0_scratch2
/-- Scratch buffer 3. -/
abbrev sc3 : Memref sig .tc .vmem S1x3072 .f32 := Memref.whole cc0_scratch3
/-- Scratch buffer 4. -/
abbrev sc4 : Memref sig .tc .vmem S1x3072 .f32 := Memref.whole cc0_scratch4
/-- Scratch buffer 5. -/
abbrev sc5 : Memref sig .tc .vmem S1x3072 .f32 := Memref.whole cc0_scratch5
/-- Scratch buffer 6. -/
abbrev sc6 : Memref sig .tc .vmem S144x3072 .f32 := Memref.whole cc0_scratch6
/-- Window 0's staging buffer at a point. -/
abbrev stg0 (t : Fin cfg0.N) : Memref sig .tc .vmem S2x128x768 .f32 := win0_0.stage (cfg0.slots t 0)
/-- Window 1's staging buffer at a point. -/
abbrev stg1 (t : Fin cfg0.N) : Memref sig .tc .vmem S16896x128 .bf16 := win0_1.stage (cfg0.slots t 1)
/-- Window 2's staging buffer at a point. -/
abbrev stg2 (t : Fin cfg0.N) : Memref sig .tc .vmem S22x128x768 .bf16 := win0_2.stage (cfg0.slots t 2)
/-- Window 3's staging buffer at a point. -/
abbrev stg3 (t : Fin cfg0.N) : Memref sig .tc .vmem S1x64 .f32 := win0_3.stage (cfg0.slots t 3)
/-- Window 4's staging buffer at a point. -/
abbrev stg4 (t : Fin cfg0.N) : Memref sig .tc .vmem S1x64 .f32 := win0_4.stage (cfg0.slots t 4)
/-- Window 5's staging buffer at a point. -/
abbrev stg5 (t : Fin cfg0.N) : Memref sig .tc .vmem S1x64 .f32 := win0_5.stage (cfg0.slots t 5)
/-- Window 6's staging buffer at a point. -/
abbrev stg6 (t : Fin cfg0.N) : Memref sig .tc .vmem S1x64 .f32 := win0_6.stage (cfg0.slots t 6)
/-- Window 7's staging buffer at a point. -/
abbrev stg7 (t : Fin cfg0.N) : Memref sig .tc .vmem S128x1 .f32 := win0_7.stage (cfg0.slots t 7)
/-- Window 8's staging buffer at a point. -/
abbrev stg8 (t : Fin cfg0.N) : Memref sig .tc .vmem S1536x128 .bf16 := win0_8.stage (cfg0.slots t 8)

/-- The scratch buffers at anything. -/
theorem any_eq (c : Dev nD) :
    (Pipeline.ΦA spec0 c : sProp 𝕄) = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d)) ∗ (∃ r, prngReg c r)) := by
  unfold Pipeline.ΦA; rw [scopedRest0_eq]; simp only [sc0, sc1, sc2, sc3, sc4, sc5, sc6, owns_whole]; try rfl

/-- The proof data: the arrays as found, each input's buffer left at its block, the result's at `outBlock`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlock m c t
  Φ _ := Pipeline.ΦA spec0 c
  q _ := fullShare
  owed _ := 0

/-- The arrays of the proof data are those found. -/
theorem A_eq (c : Dev nD) (w : Fin cfg0.W) : (dats m 0 c).A w = V m c (Pipeline.arrRef spec0 w) := by
  dsimp only [dats]

/-- The result's buffer after a point. -/
theorem after_out (c : Dev nD) (t : Fin cfg0.N) : (dats m 0 c).after 8 t = outBlock m c t := by dsimp only [dats]

/-- Input 0's buffer holds its block before the body. -/
theorem before0 (c : Dev nD) (t : Fin cfg0.N) (d) : (dats m 0 c).before 0 t d = iblk m c 0 t :=
  before0_0_of m (dats m 0 c) (A_eq m c 0) (fun t => by dsimp only [dats]) t d
/-- Input 0's buffer is left at its block. -/
theorem leaves0 (c : Dev nD) (t : Fin cfg0.N) : (dats m 0 c).leavesExact 0 t = owns (c : Thread nD τ) (stg0 t) fullShare (iblk m c 0 t) := by
  have e : (dats m 0 c).after 0 t = iblk m c 0 t := by dsimp only [dats]
  unfold Dat.leavesExact; rw [show cfg0.idle 0 (grid0.coords t) = false from rfl, e]
/-- Input 1's buffer holds its block before the body. -/
theorem before1 (c : Dev nD) (t : Fin cfg0.N) (d) : (dats m 0 c).before 1 t d = iblk m c 1 t :=
  before0_1_of m (dats m 0 c) (A_eq m c 1) (fun t => by dsimp only [dats]) t d
/-- Input 1's buffer is left at its block. -/
theorem leaves1 (c : Dev nD) (t : Fin cfg0.N) : (dats m 0 c).leavesExact 1 t = owns (c : Thread nD τ) (stg1 t) fullShare (iblk m c 1 t) := by
  have e : (dats m 0 c).after 1 t = iblk m c 1 t := by dsimp only [dats]
  unfold Dat.leavesExact; rw [show cfg0.idle 1 (grid0.coords t) = false from rfl, e]
/-- Input 2's buffer holds its block before the body. -/
theorem before2 (c : Dev nD) (t : Fin cfg0.N) (d) : (dats m 0 c).before 2 t d = iblk m c 2 t :=
  before0_2_of m (dats m 0 c) (A_eq m c 2) (fun t => by dsimp only [dats]) t d
/-- Input 2's buffer is left at its block. -/
theorem leaves2 (c : Dev nD) (t : Fin cfg0.N) : (dats m 0 c).leavesExact 2 t = owns (c : Thread nD τ) (stg2 t) fullShare (iblk m c 2 t) := by
  have e : (dats m 0 c).after 2 t = iblk m c 2 t := by dsimp only [dats]
  unfold Dat.leavesExact; rw [show cfg0.idle 2 (grid0.coords t) = false from rfl, e]
/-- Input 3's buffer holds its block before the body. -/
theorem before3 (c : Dev nD) (t : Fin cfg0.N) (d) : (dats m 0 c).before 3 t d = iblk m c 3 t :=
  before0_3_of m (dats m 0 c) (A_eq m c 3) (fun t => by dsimp only [dats]) t d
/-- Input 3's buffer is left at its block. -/
theorem leaves3 (c : Dev nD) (t : Fin cfg0.N) : (dats m 0 c).leavesExact 3 t = owns (c : Thread nD τ) (stg3 t) fullShare (iblk m c 3 t) := by
  have e : (dats m 0 c).after 3 t = iblk m c 3 t := by dsimp only [dats]
  unfold Dat.leavesExact; rw [show cfg0.idle 3 (grid0.coords t) = false from rfl, e]
/-- Input 4's buffer holds its block before the body. -/
theorem before4 (c : Dev nD) (t : Fin cfg0.N) (d) : (dats m 0 c).before 4 t d = iblk m c 4 t :=
  before0_4_of m (dats m 0 c) (A_eq m c 4) (fun t => by dsimp only [dats]) t d
/-- Input 4's buffer is left at its block. -/
theorem leaves4 (c : Dev nD) (t : Fin cfg0.N) : (dats m 0 c).leavesExact 4 t = owns (c : Thread nD τ) (stg4 t) fullShare (iblk m c 4 t) := by
  have e : (dats m 0 c).after 4 t = iblk m c 4 t := by dsimp only [dats]
  unfold Dat.leavesExact; rw [show cfg0.idle 4 (grid0.coords t) = false from rfl, e]
/-- Input 5's buffer holds its block before the body. -/
theorem before5 (c : Dev nD) (t : Fin cfg0.N) (d) : (dats m 0 c).before 5 t d = iblk m c 5 t :=
  before0_5_of m (dats m 0 c) (A_eq m c 5) (fun t => by dsimp only [dats]) t d
/-- Input 5's buffer is left at its block. -/
theorem leaves5 (c : Dev nD) (t : Fin cfg0.N) : (dats m 0 c).leavesExact 5 t = owns (c : Thread nD τ) (stg5 t) fullShare (iblk m c 5 t) := by
  have e : (dats m 0 c).after 5 t = iblk m c 5 t := by dsimp only [dats]
  unfold Dat.leavesExact; rw [show cfg0.idle 5 (grid0.coords t) = false from rfl, e]
/-- Input 6's buffer holds its block before the body. -/
theorem before6 (c : Dev nD) (t : Fin cfg0.N) (d) : (dats m 0 c).before 6 t d = iblk m c 6 t :=
  before0_6_of m (dats m 0 c) (A_eq m c 6) (fun t => by dsimp only [dats]) t d
/-- Input 6's buffer is left at its block. -/
theorem leaves6 (c : Dev nD) (t : Fin cfg0.N) : (dats m 0 c).leavesExact 6 t = owns (c : Thread nD τ) (stg6 t) fullShare (iblk m c 6 t) := by
  have e : (dats m 0 c).after 6 t = iblk m c 6 t := by dsimp only [dats]
  unfold Dat.leavesExact; rw [show cfg0.idle 6 (grid0.coords t) = false from rfl, e]
/-- Input 7's buffer holds its block before the body. -/
theorem before7 (c : Dev nD) (t : Fin cfg0.N) (d) : (dats m 0 c).before 7 t d = iblk m c 7 t :=
  before0_7_of m (dats m 0 c) (A_eq m c 7) (fun t => by dsimp only [dats]) t d
/-- Input 7's buffer is left at its block. -/
theorem leaves7 (c : Dev nD) (t : Fin cfg0.N) : (dats m 0 c).leavesExact 7 t = owns (c : Thread nD τ) (stg7 t) fullShare (iblk m c 7 t) := by
  have e : (dats m 0 c).after 7 t = iblk m c 7 t := by dsimp only [dats]
  unfold Dat.leavesExact; rw [show cfg0.idle 7 (grid0.coords t) = false from rfl, e]
/-- The result's buffer is left at its block. -/
theorem leaves8 (c : Dev nD) (t : Fin cfg0.N) : (dats m 0 c).leavesExact 8 t = owns (c : Thread nD τ) (stg8 t) fullShare (outBlock m c t) := by
  unfold Dat.leavesExact; rw [show cfg0.idle 8 (grid0.coords t) = false from rfl, after_out]

/-- What the body starts with at a point. -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d)))

/-- What it leaves. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4000000 in
/-- The body at any point. -/
theorem sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, leaves0, leaves1, leaves2, leaves3, leaves4, leaves5, leaves6, leaves7, leaves8]
  rw [show (dats m 0 c).owesAt () t.succ = (dats m 0 c).owesAt () t.castSucc from rfl]
  rw [show (dats m 0 c).Φ t.succ = (Pipeline.ΦA spec0 c : sProp 𝕄) from rfl, show (dats m 0 c).Φ t.castSucc = (Pipeline.ΦA spec0 c : sProp 𝕄) from rfl]
  rw [any_eq]
  unfold outBlock
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_wp c Set.univ (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, HS0, HS1, HS2, HS3, HS4, HS5, HS6⟩
  isplitl [HS0 HS1 HS2 HS3 HS4 HS5 HS6 Hg]
  · isplitl [HS0 HS1 HS2 HS3 HS4 HS5 HS6]
    · isplitl [HS0]; · iexact HS0
      isplitl [HS1]; · iexact HS1
      isplitl [HS2]; · iexact HS2
      isplitl [HS3]; · iexact HS3
      isplitl [HS4]; · iexact HS4
      isplitl [HS5]; · iexact HS5
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body's obligation at every point. -/
theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (sound m c t) rfl .rfl fun _ => .rfl

/-! ## The run -/

set_option backward.isDefEq.respectTransparency.types false in
/-- Every execution of the program ends with the arrays at what the proof data say and every counter at zero. -/
theorem run_all : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m)
    (hin := fun c => (show (Pipeline.ΦA spec0 c : sProp 𝕄) ⊢ (dats m 0 c).Φ 0 from .rfl))
    (hout := fun c => (show (dats m 0 c).Φ (Fin.last cfg0.N) ⊢ (Pipeline.ΦA spec0 c : sProp 𝕄) from .rfl))

/-- The run with the arrays as the proof data say. -/
theorem run_post : θ_run defs (onTc (τ := τ) (main (F := F))) (s₀ m ρ) (Pipeline.FramePost cfgs (dats m) 0 (V m)) :=
  (θ_run defs _ _).mono (fun _ h => h.1) (run_all m ρ)

/-- The frame: the arguments end unchanged and every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_post m ρ)) ((θ_run defs _ _).mono (fun _ h => h.2) (run_all m ρ))

end

end Cert.Kernel2Ideal.Attn

end
-- ==== Proof.AttnMath.lean ====
module

public import Idealize.ShloMosaic.PureOps.Ideal

/-!
Softmax averages over the extended reals: the running form (a maximum and sums rescaled tile by tile) and the plain form agree,
and so do the difference of two averages and the average by the difference of two weights, once normalized.
-/

@[expose] public section

noncomputable section

namespace Cert.Attn

open Idealize.ShloMosaic
open scoped BigOperators

/-! ## Powers of two of differences -/

/-- `2 ^ (s - m)` as a real number, zero where the difference is infinite. -/
def ex2 (s m : EReal) : ℝ := (Ideal.exp2 (s - m)).toReal

/-- Nothing is left of a top maximum. -/
theorem sub_top' (s : EReal) : s - ⊤ = ⊥ := by rw [sub_eq_add_neg, EReal.neg_top, EReal.add_bot]

/-- Bottom less anything is bottom. -/
theorem bot_sub' (m : EReal) : ⊥ - m = ⊥ := by rw [sub_eq_add_neg, EReal.bot_add]

/-- Two to the bottom is zero. -/
theorem exp2_bot : Ideal.exp2 ⊥ = 0 := rfl

/-- Two to a real. -/
theorem exp2_coe (r : ℝ) : Ideal.exp2 (r : EReal) = ((Real.rpow 2 r : ℝ) : EReal) := rfl

/-- A bottom score has no weight. -/
theorem ex2_bot (m : EReal) : ex2 ⊥ m = 0 := by unfold ex2; rw [bot_sub', exp2_bot, EReal.toReal_zero]

/-- No score has weight against an infinite maximum. -/
theorem ex2_top (s : EReal) : ex2 s ⊤ = 0 := by unfold ex2; rw [sub_top', exp2_bot, EReal.toReal_zero]

/-- The weight of a real score against a real maximum. -/
theorem ex2_coe (s m : ℝ) : ex2 s m = Real.rpow 2 (s - m) := by
  unfold ex2; rw [← EReal.coe_sub, exp2_coe, EReal.toReal_coe]

/-- Below the maximum the power is a real number. -/
theorem exp2_eq {s m : EReal} (h : s ≤ m) : Ideal.exp2 (s - m) = (ex2 s m : EReal) := by
  induction m with
  | top => rw [ex2_top, sub_top', exp2_bot, EReal.coe_zero]
  | bot => rw [le_bot_iff.mp h, ex2_bot, bot_sub', exp2_bot, EReal.coe_zero]
  | coe m =>
    induction s with
    | bot => rw [ex2_bot, bot_sub', exp2_bot, EReal.coe_zero]
    | top => exact absurd h (not_le.mpr (EReal.coe_lt_top m))
    | coe s => rw [ex2_coe, ← EReal.coe_sub, exp2_coe]

/-- Weights are not negative. -/
theorem ex2_nonneg (s m : EReal) : 0 ≤ ex2 s m := by
  unfold ex2
  generalize s - m = x
  induction x with
  | bot => rw [exp2_bot, EReal.toReal_zero]
  | top => exact le_of_eq rfl
  | coe r => rw [exp2_coe, EReal.toReal_coe]; exact Real.rpow_nonneg (by norm_num) r

/-- Powers multiply along a chain of maxima. -/
theorem ex2_mul {s m m' : EReal} (h : s ≤ m) (h' : m ≤ m') : ex2 m m' * ex2 s m = ex2 s m' := by
  induction m' with
  | top => rw [ex2_top, ex2_top, zero_mul]
  | bot =>
    have hm := le_bot_iff.mp h'
    subst hm
    rw [le_bot_iff.mp h, ex2_bot, mul_zero]
  | coe m' =>
    induction m with
    | top => exact absurd h' (not_le.mpr (EReal.coe_lt_top m'))
    | bot => rw [le_bot_iff.mp h, ex2_bot, ex2_bot, mul_zero]
    | coe m =>
      induction s with
      | top => exact absurd h (not_le.mpr (EReal.coe_lt_top m))
      | bot => rw [ex2_bot, ex2_bot, mul_zero]
      | coe s =>
        rw [ex2_coe, ex2_coe, ex2_coe]
        have e := Real.rpow_add (by norm_num : (0 : ℝ) < 2) (m - m') (s - m)
        rw [show m - m' + (s - m) = s - m' by ring] at e
        exact e.symm

/-- A sum of real numbers in the extended reals. -/
theorem coe_sum' {ι : Type} (S : Finset ι) (f : ι → ℝ) : ((∑ i ∈ S, f i : ℝ) : EReal) = ∑ i ∈ S, (f i : EReal) := by
  classical
  induction S using Finset.induction with
  | empty => rfl
  | insert a S ha ih => rw [Finset.sum_insert ha, Finset.sum_insert ha, EReal.coe_add, ih]

/-! ## The running form -/

/-- After the first `n` keys: `m` is the maximum of their scores `T`, `a` the sum of their values `u` by the powers. -/
def On (T : ℕ → EReal) (u : ℕ → ℝ) (n : ℕ) (m a : EReal) : Prop :=
  m = (Finset.range n).sup T ∧ a = ((∑ k ∈ Finset.range n, ex2 (T k) m * u k : ℝ) : EReal)

/-- The running form before the first key. -/
theorem On.zero (T : ℕ → EReal) (u : ℕ → ℝ) : On T u 0 ⊥ 0 := ⟨rfl, rfl⟩

/-- The maximum over two stretches of keys. -/
theorem sup_range_add (T : ℕ → EReal) (n b : ℕ) :
    (Finset.range (n + b)).sup T = max ((Finset.range n).sup T) ((Finset.range b).sup fun k => T (n + k)) := by
  induction b with
  | zero => rw [Finset.range_zero, Finset.sup_empty, Nat.add_zero]; exact (max_bot_right _).symm
  | succ b ih =>
    rw [← Nat.add_assoc, Finset.range_add_one, Finset.sup_insert, ih, Finset.range_add_one, Finset.sup_insert]
    exact sup_left_comm _ _ _

/-- One tile of `b` keys more. -/
theorem On.step {T : ℕ → EReal} {u : ℕ → ℝ} {n : ℕ} {m a : EReal} (h : On T u n m a) (b : ℕ) (mt : EReal)
    (hmt : mt = (Finset.range b).sup fun k => T (n + k)) (p : EReal)
    (hp : p = ∑ k ∈ Finset.range b, (u (n + k) : EReal) * Ideal.exp2 (T (n + k) - max m mt)) :
    On T u (n + b) (max m mt) (Ideal.exp2 (m - max m mt) * a + p) := by
  obtain ⟨hm, ha⟩ := h
  have hmx : max m mt = (Finset.range (n + b)).sup T := by rw [sup_range_add, ← hm, ← hmt]
  refine ⟨hmx, ?_⟩
  have e1 : p = ((∑ k ∈ Finset.range b, ex2 (T (n + k)) (max m mt) * u (n + k) : ℝ) : EReal) := by
    rw [hp, coe_sum']
    refine Finset.sum_congr rfl fun k hk => ?_
    rw [exp2_eq (by rw [hmx]; exact Finset.le_sup (f := T) (Finset.mem_range.mpr (by have := Finset.mem_range.mp hk; omega))), EReal.coe_mul, mul_comm]
  rw [exp2_eq (le_max_left m mt), e1, ha, ← EReal.coe_mul, ← EReal.coe_add, Finset.mul_sum, Finset.sum_range_add]
  refine congrArg _ (congrArg (· + _) (Finset.sum_congr rfl fun k hk => ?_))
  rw [← mul_assoc, ex2_mul (by rw [hm]; exact Finset.le_sup (f := T) hk) (le_max_left m mt)]

/-- Masked keys add nothing. -/
theorem On.grow {T : ℕ → EReal} {u : ℕ → ℝ} {n : ℕ} {m a : EReal} (h : On T u n m a) (b : ℕ) (hb : ∀ k, n ≤ k → T k = ⊥) : On T u (n + b) m a := by
  obtain ⟨hm, ha⟩ := h
  refine ⟨?_, ?_⟩
  · rw [sup_range_add, ← hm, (Finset.sup_eq_bot_iff (fun k => T (n + k)) (Finset.range b)).mpr (fun k _ => hb _ (Nat.le_add_right _ _))]
    exact (max_bot_right _).symm
  · rw [ha, Finset.sum_range_add]
    refine congrArg _ ?_
    rw [Finset.sum_eq_zero (s := Finset.range b) (fun k _ => by rw [hb _ (Nat.le_add_right _ _), ex2_bot, zero_mul]), add_zero]

/-! ## From powers of two to the exponential -/

/-- `1 / ln 2`. -/
def c2 : ℝ := (Real.log 2)⁻¹

/-- The logarithm of two is positive. -/
theorem log2_pos : 0 < Real.log 2 := Real.log_pos (by norm_num)

/-- The change of base is positive. -/
theorem c2_pos : 0 < c2 := inv_pos.mpr log2_pos

/-- Bottom in another base. -/
theorem bot_mul_c2 : (⊥ : EReal) * (c2 : EReal) = ⊥ := EReal.bot_mul_coe_of_pos c2_pos

/-- Infinity in another base. -/
theorem top_mul_c2 : (⊤ : EReal) * (c2 : EReal) = ⊤ := EReal.top_mul_coe_of_pos c2_pos

/-- A power of two of a multiple of `1 / ln 2` is an exponential. -/
theorem exp2_c2 (x : EReal) : Ideal.exp2 (x * (c2 : EReal)) = Ideal.exp x := by
  induction x with
  | bot => rw [bot_mul_c2]; rfl
  | top => rw [top_mul_c2]; rfl
  | coe r =>
    rw [← EReal.coe_mul, exp2_coe]
    show ((Real.rpow 2 (r * c2) : ℝ) : EReal) = ((Real.exp r : ℝ) : EReal)
    have e : Real.rpow 2 (r * c2) = Real.exp (Real.log 2 * (r * c2)) := Real.rpow_def_of_pos (by norm_num) _
    rw [e]
    congr 2
    unfold c2
    field_simp [log2_pos.ne']

/-- Scaling a difference. -/
theorem sub_c2 (x y : EReal) : x * (c2 : EReal) - y * (c2 : EReal) = (x - y) * (c2 : EReal) := by
  induction x with
  | bot => rw [bot_mul_c2, bot_sub', bot_sub', bot_mul_c2]
  | top =>
    induction y with
    | bot => rw [top_mul_c2, bot_mul_c2]; show ⊤ - ⊥ = (⊤ - ⊥) * (c2 : EReal); rw [show (⊤ : EReal) - ⊥ = ⊤ from rfl, top_mul_c2]
    | top => rw [top_mul_c2, sub_top', bot_mul_c2]
    | coe y => rw [top_mul_c2, ← EReal.coe_mul, EReal.top_sub_coe, EReal.top_sub_coe, top_mul_c2]
  | coe x =>
    induction y with
    | bot => rw [bot_mul_c2, ← EReal.coe_mul, EReal.coe_sub_bot, EReal.coe_sub_bot, top_mul_c2]
    | top => rw [top_mul_c2, sub_top', sub_top', bot_mul_c2]
    | coe y => rw [← EReal.coe_mul, ← EReal.coe_mul, ← EReal.coe_sub, ← EReal.coe_sub, ← EReal.coe_mul, sub_mul]

/-- Scaling keeps the order. -/
theorem mul_c2_mono : Monotone fun x : EReal => x * (c2 : EReal) := fun x y h =>
  mul_le_mul_of_nonneg_right h (EReal.coe_nonneg.mpr c2_pos.le)

/-- Scaling a maximum. -/
theorem sup_c2 (S : ℕ → EReal) (n : ℕ) : (Finset.range n).sup (fun k => S k * (c2 : EReal)) = (Finset.range n).sup S * (c2 : EReal) :=
  (Finset.comp_sup_eq_sup_comp (s := Finset.range n) (f := S) (fun x : EReal => x * (c2 : EReal)) (fun x y => mul_c2_mono.map_sup x y) bot_mul_c2).symm

/-- The exponential of a score less the maximum, as a real number. -/
def ew (S : ℕ → EReal) (n k : ℕ) : ℝ := ex2 (S k * (c2 : EReal)) ((Finset.range n).sup S * (c2 : EReal))

/-- The exponential weight of a key. -/
theorem ew_eq (S : ℕ → EReal) (n k : ℕ) (hk : k < n) : Ideal.exp (S k - (Finset.range n).sup S) = (ew S n k : EReal) := by
  unfold ew
  rw [← exp2_eq (mul_c2_mono (Finset.le_sup (f := S) (Finset.mem_range.mpr hk))), sub_c2, exp2_c2]

/-- Exponential weights are not negative. -/
theorem ew_nonneg (S : ℕ → EReal) (n k : ℕ) : 0 ≤ ew S n k := ex2_nonneg _ _

/-- The running form's sums are the plain form's. -/
theorem On.plain {S : ℕ → EReal} {u : ℕ → ℝ} {n : ℕ} {m a : EReal} (h : On (fun k => S k * (c2 : EReal)) u n m a) :
    a = ((∑ k ∈ Finset.range n, ew S n k * u k : ℝ) : EReal) := by
  obtain ⟨hm, ha⟩ := h
  rw [ha, hm, sup_c2]
  rfl

/-! ## The difference of two averages, normalized -/

/-- A row of 128 normalized by its root mean square, by the gain `g`. -/
def rms (D : Fin 128 → EReal) (g : Fin 128 → EReal) (d : Fin 128) : EReal :=
  D d * Ideal.rsqrt (Ideal.div (∑ x, D x * D x) (Ideal.ofBits .f32 0x43000000#32) + Ideal.ofBits .f32 0x3727C5AC#32) * g d * Ideal.ofBits .f32 0x3F4CCCCD#32

end Cert.Attn
-- ==== Proof.AttnVal.lean ====
module

public import proofs.«01_k».proof.Proof.AttnRun
public import proofs.«01_k».proof.Proof.AttnMath
public import Idealize.ShloMosaic.Lib.Pointwise
public import Idealize.ShloMosaic.Lib.Pipeline.ValueKit

/-!
The attention kernel's accumulator over the extended reals: in each lane, the running form of a softmax over the keys that the lane's query may see.
-/

@[expose] public section

set_option maxRecDepth 16384

noncomputable section

namespace Cert.Kernel2Ideal.Attn

open Idealize.ShloMosaic Idealize.ShloMosaic.Tactic Idealize.SL.Sem
open Cert.Kernel2Ideal Cert.Kernel2Ideal.Gen Cert.Attn
open scoped BigOperators

/-! ## The payloads at an index -/

/-- The mask is bottom. -/
theorem mask_named : (Named.named κ "mask" 0xF149F2CA#32 : Ideal .f32) = (⊥ : EReal) := rfl

/-- The printed minus infinity. -/
theorem ofBits_bot : Ideal.ofBits .f32 0xFF800000#32 = (⊥ : EReal) := by simp [Ideal.ofBits, Ideal.ieee]

/-- The largest of finitely many scores, by their numbers. -/
theorem sup_fin (n : ℕ) (f : ℕ → EReal) : (Finset.univ : Finset (Fin n)).fold max ⊥ (fun x => f x.val) = (Finset.range n).sup f := by
  refine le_antisymm ?_ ?_
  · exact Finset.sup_le (s := (Finset.univ : Finset (Fin n))) (f := fun x => f x.val) fun x _ => Finset.le_sup (f := f) (Finset.mem_range.mpr x.isLt)
  · exact Finset.sup_le fun k hk => Finset.le_sup (s := (Finset.univ : Finset (Fin n))) (f := fun x => f x.val) (b := ⟨k, Finset.mem_range.mp hk⟩) (Finset.mem_univ _)

/-- The accumulator after a tile, at an index. -/
theorem accNew_apply (m mt : Vec Ideal S1x256 .f32) (s : Vec Ideal S768x256 .f32) (v : Vec Ideal S1x128x768 .bf16) (a : Vec Ideal S144x256 .f32) (r : Fin 144) (w : Fin 256) :
    accNew onesRows m mt s v a (ix2 r w) = Ideal.exp2 (m (ix2 0 w) - max (m (ix2 0 w)) (mt (ix2 0 w))) * a (ix2 r w) +
      ∑ x : Fin 768, (if h : r.val < 128 then (v (ix3 0 ⟨r.val, h⟩ x) : EReal) else 1) * Ideal.exp2 (s (ix2 x w) - max (m (ix2 0 w)) (mt (ix2 0 w))) := by
  pointwise [accNew, onesRows]
  rfl

/-- A product of keys and queries at an index. -/
theorem scoreOf_apply (k : Vec Ideal S768x128 .bf16) (q : Vec Ideal S128x256 .bf16) (r : Fin 768) (w : Fin 256) :
    scoreOf k q (ix2 r w) = ∑ x : Fin 128, (k (ix2 r x) : EReal) * q (ix2 x w) := by
  pointwise [scoreOf]

/-- The maximum of a lane of scores. -/
theorem maxOf_apply (s : FVec Ideal S768x256 .f32) (w : Fin 256) :
    maxOf s (ix2 0 w) = (Finset.univ : Finset (Fin 768)).fold max (⊥ : EReal) (fun x => (s (ix2 x w) : EReal)) := by
  rw [← ofBits_bot]
  pointwise [maxOf]

/-- The causal mask at an index. -/
theorem causal_apply (x o : ℕ) (hx : x + 768 < 10000) (ho : o + 256 < 10000) (s : FVec Ideal S768x256 .f32) (r : Fin 768) (w : Fin 256) :
    causal (BitVec.ofNat 32 x) (BitVec.ofNat 32 o) s (ix2 r w) = if x + r.val ≤ o + w.val then (s (ix2 r w) : EReal) else ⊥ := by
  pointwise [causal]
  have hr := r.isLt
  have hw := w.isLt
  rw [WordCmp.addi_ofNat, WordCmp.addi_ofNat, WordCmp.cmpi_sle_ofNat (by norm_num; omega) (by norm_num; omega), mask_named]
  by_cases h : x + r.val ≤ o + w.val
  · rw [if_pos h, decide_eq_true h]; rfl
  · rw [if_neg h, decide_eq_false h]; rfl

/-- The mask of the leading tile at an index. -/
theorem lead_apply (i : grid0.Coords) (o : ℕ) (ho : o + 256 ≤ 3072) (hb : IsBlock o) (s : FVec Ideal S768x256 .f32) (r : Fin 768) (w : Fin 256) :
    lead i o s (ix2 r w) = if r.val ≤ 1536 * (i 1).val + (o % 1536 + w.val) ∧ 112 ≤ r.val then (s (ix2 r w) : EReal) else ⊥ := by
  pointwise [lead]
  have hr := r.isLt
  have hw := w.isLt
  have hn : (i 1).val < 11 := (i 1).isLt
  have e1 : Scalar.muli (BitVec.ofNat 32 (i 1).val) 1536#32 = BitVec.ofNat 32 ((i 1).val * 1536) := WordCmp.muli_ofNat _ _
  have e2 : Scalar.select (IntOp.cmpi CmpIPredicate.sge (IntOp.addi (BitVec.ofNat 32 o) (BitVec.ofNat 32 w.val)) 1536#32)
            (IntOp.subi (IntOp.addi (BitVec.ofNat 32 o) (BitVec.ofNat 32 w.val)) 1536#32)
            (IntOp.addi (BitVec.ofNat 32 o) (BitVec.ofNat 32 w.val)) = BitVec.ofNat 32 (o % 1536 + w.val) := by
    rw [WordCmp.addi_ofNat, WordCmp.cmpi_sge_ofNat (by norm_num; omega) (by norm_num)]
    have key : o % 1536 + w.val = if 1536 ≤ o + w.val then o + w.val - 1536 else o + w.val := by
      rcases hb with h | h | h | h | h | h | h | h | h | h | h | h <;> subst h <;> split <;> omega
    rw [key]
    by_cases h : 1536 ≤ o + w.val
    · rw [if_pos h, decide_eq_true h]
      obtain ⟨z, hz⟩ : ∃ z, o + w.val = z + 1536 := ⟨o + w.val - 1536, by omega⟩
      rw [hz, Nat.add_sub_cancel]
      show BitVec.ofNat 32 (z + 1536) - BitVec.ofNat 32 1536 = BitVec.ofNat 32 z
      rw [BitVec.ofNat_add, BitVec.add_sub_cancel]
    · rw [if_neg h, decide_eq_false h]; exact if_neg (by decide)
  rw [e1, e2, WordCmp.addi_ofNat, WordCmp.addi_ofNat, WordCmp.cmpi_sle_ofNat (by norm_num; omega) (by norm_num; omega),
    WordCmp.cmpi_sge_ofNat (by norm_num; omega) (by norm_num), mask_named]
  by_cases h : r.val ≤ 1536 * (i 1).val + (o % 1536 + w.val)
  · rw [decide_eq_true (by omega : 0 + r.val ≤ (i 1).val * 1536 + (o % 1536 + w.val))]
    by_cases h' : 112 ≤ r.val
    · rw [if_pos ⟨h, h'⟩, decide_eq_true (by omega : 112 ≤ 0 + r.val)]; rfl
    · rw [if_neg (fun e => h' e.2), decide_eq_false (by omega : ¬112 ≤ 0 + r.val)]; rfl
  · rw [if_neg (fun e => h e.1), decide_eq_false (by omega : ¬0 + r.val ≤ (i 1).val * 1536 + (o % 1536 + w.val))]; rfl

end Cert.Kernel2Ideal.Attn
-- ==== Proof.AttnSum.lean ====
module

public import proofs.«01_k».proof.Proof.AttnVal

/-!
Each lane of the attention kernel's accumulator holds, after its last tile, the sums of the softmax over all keys that its query may see.
-/

@[expose] public section

set_option maxRecDepth 16384

noncomputable section

namespace Cert.Kernel2Ideal.Attn

open Idealize.ShloMosaic Idealize.ShloMosaic.Tactic Idealize.SL.Sem
open Cert.Kernel2Ideal Cert.Kernel2Ideal.Gen Cert.Attn
open scoped BigOperators

variable (vt : Vec Ideal S22x128x768 .bf16) (k : Vec Ideal S16896x128 .bf16) (qz : Vec Ideal S128x3072 .bf16) (vr : ℕ → Fin 128 → ℝ)

/-- The product of key `κ` with the query in lane `l`. -/
def prod (l : Fin 3072) (κ : ℕ) : EReal := if h : κ < 16896 then ∑ d : Fin 128, (k (ix2 ⟨κ, h⟩ d) : EReal) * qz (ix2 d l) else ⊥

/-- The score of key `κ` in lane `l` at a grid point: bottom where the lane's query may not see the key. -/
def score (i : grid0.Coords) (l : Fin 3072) (κ : ℕ) : EReal :=
  if κ ≤ 1536 * (i 1).val + l.val % 1536 ∧ 112 ≤ κ then prod k qz l κ else ⊥

/-- What row `r` of the accumulator sums: the values' columns, then ones. -/
def wt (r : Fin 144) (κ : ℕ) : ℝ := if h : r.val < 128 then vr κ ⟨r.val, h⟩ else 1

/-- The lane numbered `w` in the block from `o`. -/
abbrev lix (o : ℕ) (ho : o + 256 ≤ 3072) (w : Fin 256) : Fin 3072 := ⟨o + w.val, by have := w.isLt; omega⟩

/-- A tile of keys at an index. -/
theorem kTile_apply (j : ℕ) (hj : j < 22) (r : Fin 768) (d : Fin 128) :
    kTile k j (ix2 r d) = k (ix2 ⟨768 * j + r.val, by have := r.isLt; omega⟩ d) := by
  unfold kTile
  rw [VecWindow.window]
  refine congrArg k (funext fun a => Fin.ext ?_)
  rw [Rect.emb_apply]
  fin_cases a
  · show 768 * (j % 22) + 1 * r.val = 768 * j + r.val
    rw [Nat.mod_eq_of_lt hj, Nat.one_mul]
  · show 0 + 1 * d.val = d.val
    omega

/-- A tile of values at an index. -/
theorem vTile_apply (j : ℕ) (hj : j < 22) (d : Fin 128) (x : Fin 768) : vTile vt j (ix3 0 d x) = vt (ix3 ⟨j, hj⟩ d x) := by
  unfold vTile
  rw [VecWindow.window]
  refine congrArg vt (funext fun a => Fin.ext ?_)
  rw [Rect.emb_apply]
  fin_cases a
  · show j % 22 + 1 * 0 = j
    rw [Nat.mod_eq_of_lt hj, Nat.mul_zero, Nat.add_zero]
  · show 0 + 1 * d.val = d.val
    omega
  · show 0 + 1 * x.val = x.val
    omega

/-- A block of lanes at an index. -/
theorem lanesOf_apply (r : ℕ) {e : EltTy} (x : Vec Ideal ⟨2, ![r, 3072]⟩ e) (o : ℕ) (ho : o + 256 ≤ 3072) (a : Fin r) (w : Fin 256) :
    lanesOf r x o ho (ix2 a w) = x (ix2 a (lix o ho w)) := by
  rw [lanesOf, VecWindow.window]
  refine congrArg x (funext fun a' => Fin.ext ?_)
  rw [Rect.emb_apply]
  fin_cases a'
  · show 0 + 1 * a.val = a.val
    omega
  · show o + 1 * w.val = o + w.val
    omega

section

variable (T : ℕ → EReal) (w : Fin 256)

/-- The first `n` keys are in a lane's maximum and sums. -/
def Sums (n : ℕ) (x : Lane Ideal) : Prop := ∀ r : Fin 144, On T (wt vr r) n (x.m (ix2 0 w)) (x.acc (ix2 r w))

/-- The first `n` keys are in a lane's maximum and sums, and the next tile's scores at hand. -/
def Ready (n : ℕ) (x : Lane Ideal) : Prop :=
  Sums vr T w n x ∧ (∀ κ : Fin 768, x.s (ix2 κ w) = T (n + κ.val)) ∧ x.mt (ix2 0 w) = (Finset.range 768).sup fun κ => T (n + κ)

/-- An accumulation takes the tile at hand into a lane's sums. -/
theorem acc_sums (hv : ∀ (j : Fin 22) (d : Fin 128) (x : Fin 768), vt (ix3 j d x) = ((vr (768 * j.val + x.val) d : ℝ) : EReal)) (j : ℕ) (hj : j < 22) (x : Lane Ideal)
    (h : Ready vr T w (768 * j) x) : Sums vr T w (768 * (j + 1)) (accL onesRows (vTile vt j) x) := by
  obtain ⟨h1, h2, h3⟩ := h
  intro r
  have e := On.step (h1 r) 768 (x.mt (ix2 0 w)) h3 _ rfl
  have em : (accL onesRows (vTile vt j) x).m (ix2 0 w) = max (x.m (ix2 0 w)) (x.mt (ix2 0 w)) := by
    unfold accL
    rw [shapeCast_self]
    rfl
  have ea : (accL onesRows (vTile vt j) x).acc (ix2 r w) = Ideal.exp2 (x.m (ix2 0 w) - max (x.m (ix2 0 w)) (x.mt (ix2 0 w))) * x.acc (ix2 r w) +
      ∑ κ ∈ Finset.range 768, (wt vr r (768 * j + κ) : EReal) * Ideal.exp2 (T (768 * j + κ) - max (x.m (ix2 0 w)) (x.mt (ix2 0 w))) := by
    unfold accL
    dsimp only
    rw [shapeCast_self, accNew_apply, Finset.sum_range]
    refine congrArg (Ideal.exp2 _ * _ + ·) (Finset.sum_congr rfl fun κ _ => ?_)
    rw [h2]
    refine congrArg (· * Ideal.exp2 _) ?_
    unfold wt
    by_cases hr : r.val < 128
    · rw [dif_pos hr, dif_pos hr, vTile_apply vt j hj, hv]
    · rw [dif_neg hr, dif_neg hr, EReal.coe_one]
  rw [em, ea, Nat.mul_add, Nat.mul_one]
  exact e

/-- A score step readies the next tile. -/
theorem sco_ready (f : FVec Ideal S768x256 .f32 → FVec Ideal S768x256 .f32) (kt : Vec Ideal S768x128 .bf16) (q : Vec Ideal S128x256 .bf16) (n : ℕ) (x : Lane Ideal)
    (h : Sums vr T w n x) (hf : ∀ κ : Fin 768, f (scoreOf kt q) (ix2 κ w) = T (n + κ.val)) : Ready vr T w n (scoL f kt q x) := by
  refine ⟨h, fun κ => ?_, ?_⟩
  · unfold scoL
    rw [shapeCast_self]
    exact hf κ
  · unfold scoL
    dsimp only
    rw [shapeCast_self, maxOf_apply, ← sup_fin 768 (fun κ => T (n + κ))]
    exact congrArg (fun g => Finset.fold max (⊥ : EReal) g (Finset.univ : Finset (Fin 768))) (funext hf)

end

/-- The unmasked scores of a tile. -/
theorem tile_prod (o : ℕ) (ho : o + 256 ≤ 3072) (w : Fin 256) (j : ℕ) (hj : j < 22) (κ : Fin 768) :
    scoreOf (kTile k j) (qLane qz o ho) (ix2 κ w) = prod k qz (lix o ho w) (768 * j + κ.val) := by
  rw [scoreOf_apply]
  unfold prod
  rw [dif_pos (by have := κ.isLt; omega)]
  refine Finset.sum_congr rfl fun d _ => ?_
  rw [kTile_apply k j hj, qLane, lanesOf_apply]

section

variable (i : grid0.Coords) (o : ℕ) (ho : o + 256 ≤ 3072) (hb : IsBlock o) (w : Fin 256)
  (hv : ∀ (j : Fin 22) (d : Fin 128) (x : Fin 768), vt (ix3 j d x) = ((vr (768 * j.val + x.val) d : ℝ) : EReal))

include hb hv

/-- The query of a lane. -/
theorem lix_mod : (lix o ho w).val % 1536 = o % 1536 + w.val := by
  have := w.isLt
  show (o + w.val) % 1536 = _
  rcases hb with h | h | h | h | h | h | h | h | h | h | h | h <;> subst h <;> omega

/-- The leading tile is readied. -/
theorem lead_ready (x : Lane Ideal) (hx : Sums vr (score k qz i (lix o ho w)) w 0 x) :
    Ready vr (score k qz i (lix o ho w)) w (768 * 0) (scoL (lead i o) (kTile k 0) (qLane qz o ho) x) := by
  refine sco_ready vr _ w _ _ _ _ x hx fun κ => ?_
  rw [lead_apply i o ho hb, tile_prod k qz o ho w 0 (by decide), score, lix_mod vt vr o ho hb w hv, Nat.mul_zero, Nat.zero_add]

/-- The unmasked passes keep a tile ready. -/
theorem pass_ready (x : Lane Ideal) (hx : Ready vr (score k qz i (lix o ho w)) w (768 * 0) x) :
    ∀ n, n ≤ 2 * (i 1).val - 1 → Ready vr (score k qz i (lix o ho w)) w (768 * n) (passL vt k qz onesRows o ho x n)
  | 0, _ => hx
  | n + 1, hn => by
    have hi : (i 1).val < 11 := (i 1).isLt
    have ih := pass_ready x hx n (by omega)
    refine sco_ready vr _ w _ _ _ _ _ (acc_sums vt vr _ w hv n (by omega) _ ih) fun κ => ?_
    have hκ := κ.isLt
    rw [tile_prod k qz o ho w (n + 1) (by omega), score, if_pos ⟨by omega, by omega⟩]

/-- The first tile on the diagonal is readied. -/
theorem lane3_ready (x : Lane Ideal) (hx : Sums vr (score k qz i (lix o ho w)) w 0 x) :
    Ready vr (score k qz i (lix o ho w)) w (768 * (2 * (i 1).val)) (lane3 vt k qz onesRows i o ho x) := by
  have hi : (i 1).val < 11 := (i 1).isLt
  have h0 := lead_ready vt k qz vr i o ho hb w hv x hx
  unfold lane3
  by_cases h : (i 1).val = 0
  · rw [if_pos h, h]; exact h0
  rw [if_neg h]
  have h1 := pass_ready vt k qz vr i o ho hb w hv _ h0 (2 * (i 1).val - 1) le_rfl
  have h2 := acc_sums vt vr _ w hv _ (by omega) _ h1
  rw [show 2 * (i 1).val - 1 + 1 = 2 * (i 1).val by omega] at h2
  refine sco_ready vr _ w _ _ _ _ _ h2 fun κ => ?_
  have hκ := κ.isLt
  have hw := w.isLt
  unfold diag0
  rw [score, lix_mod vt vr o ho hb w hv]
  by_cases hl : o % 1536 < 768
  · rw [if_pos hl, show (0#32) = BitVec.ofNat 32 0 from rfl, causal_apply 0 (o % 1536) (by omega) (by omega), tile_prod k qz o ho w _ (by omega)]
    by_cases hc : 0 + κ.val ≤ o % 1536 + w.val
    · rw [if_pos hc, if_pos ⟨by omega, by omega⟩]
    · rw [if_neg hc, if_neg (by omega)]
  · rw [if_neg hl, tile_prod k qz o ho w _ (by omega), if_pos ⟨by omega, by omega⟩]

/-- The sums of a lane of the first half. -/
theorem early_sums (x : Lane Ideal) (hx : Sums vr (score k qz i (lix o ho w)) w 0 x) :
    Sums vr (score k qz i (lix o ho w)) w (768 * (2 * (i 1).val + 1)) (earlyL vt k qz onesRows i o ho x) := by
  have hi : (i 1).val < 11 := (i 1).isLt
  exact acc_sums vt vr _ w hv _ (by omega) _ (lane3_ready vt k qz vr i o ho hb w hv x hx)

/-- The sums of a lane of the second half. -/
theorem late_sums (hl : 768 ≤ o % 1536) (x : Lane Ideal) (hx : Sums vr (score k qz i (lix o ho w)) w 0 x) :
    Sums vr (score k qz i (lix o ho w)) w (768 * (2 * (i 1).val + 2)) (lateL vt k qz onesRows i o ho x) := by
  have hi : (i 1).val < 11 := (i 1).isLt
  have h := early_sums vt k qz vr i o ho hb w hv x hx
  refine acc_sums vt vr _ w hv _ (by omega) _ (sco_ready vr _ w _ _ _ _ _ h fun κ => ?_)
  have hκ := κ.isLt
  have hw := w.isLt
  rw [show (768#32) = BitVec.ofNat 32 768 from rfl, causal_apply 768 (o % 1536) (by omega) (by omega), tile_prod k qz o ho w _ (by omega), score, lix_mod vt vr o ho hb w hv]
  by_cases hc : 768 + κ.val ≤ o % 1536 + w.val
  · rw [if_pos hc, if_pos ⟨by omega, by omega⟩]
  · rw [if_neg hc, if_neg (by omega)]

end

/-- The sums before the first tile. -/
theorem tile0_sums (T : ℕ → EReal) (o : ℕ) (ho : o + 256 ≤ 3072) (w : Fin 256) : Sums vr T w 0 ((tile0 (F := Ideal)).lane o ho) := by
  intro r
  have e1 : ((tile0 (F := Ideal)).lane o ho).m (ix2 0 w) = (⊥ : EReal) := by
    show lanesOf (F := Ideal) 1 max0 o ho (ix2 0 w) = (⊥ : EReal)
    rw [lanesOf_apply, max0, shapeCast_self]
    rfl
  have e2 : ((tile0 (F := Ideal)).lane o ho).acc (ix2 r w) = (0 : EReal) := by
    show lanesOf (F := Ideal) 144 acc0 o ho (ix2 r w) = (0 : EReal)
    rw [lanesOf_apply]
    pointwise [acc0]
  rw [e1, e2]
  exact On.zero T _

/-- The accumulator after the last tile, in every lane. -/
theorem accOut_on (i : grid0.Coords) (q : Vec Ideal S2x128x768 .f32)
    (hv : ∀ (j : Fin 22) (d : Fin 128) (x : Fin 768), vt (ix3 j d x) = ((vr (768 * j.val + x.val) d : ℝ) : EReal)) (r : Fin 144) (l : Fin 3072) :
    ∃ mx : EReal, On (score k (qzOf q) i l) (wt vr r) 16896 mx (accOut i q k vt (ix2 r l)) := by
  have hi : (i 1).val < 11 := (i 1).isLt
  have hl := l.isLt
  obtain ⟨o, ho, w, hb, rfl⟩ : ∃ (o : ℕ) (ho : o + 256 ≤ 3072) (w : Fin 256), IsBlock o ∧ l = lix o ho w := by
    refine ⟨l.val / 256 * 256, by omega, ⟨l.val % 256, Nat.mod_lt _ (by decide)⟩, ?_, Fin.ext ?_⟩
    · have : l.val / 256 < 12 := by omega
      generalize l.val / 256 = n at this
      unfold IsBlock
      omega
    · show l.val = l.val / 256 * 256 + l.val % 256
      omega
  have hw := w.isLt
  have h0 := tile0_sums vr (score k (qzOf q) i (lix o ho w)) o ho w
  have hm := lix_mod vt vr o ho hb w hv
  rw [← lanesOf_apply 144 (accOut i q k vt) o ho r w]
  by_cases hlt : IsLate o
  · have hl2 : 768 ≤ o % 1536 := by unfold IsLate at hlt; omega
    have h := late_sums vt k (qzOf q) vr i o ho hb w hv hl2 _ h0 r
    have g := On.grow h (16896 - 768 * (2 * (i 1).val + 2)) fun κ hκ => by
      rw [score, hm, if_neg (by omega)]
    rw [show 768 * (2 * (i 1).val + 2) + (16896 - 768 * (2 * (i 1).val + 2)) = 16896 by omega] at g
    refine ⟨(lateL vt k (qzOf q) onesRows i o ho (tile0.lane o ho)).m (ix2 0 w), ?_⟩
    unfold accOut
    rw [ran5_late vt k (qzOf q) onesRows i tile0 o ho hlt]
    exact g
  · have he : IsEarly o := by unfold IsLate at hlt; unfold IsBlock at hb; unfold IsEarly; omega
    have hl2 : o % 1536 < 768 := by unfold IsEarly at he; omega
    have hl3 : o % 1536 + 256 ≤ 768 := by unfold IsEarly at he; omega
    have h := early_sums vt k (qzOf q) vr i o ho hb w hv _ h0 r
    have g := On.grow h (16896 - 768 * (2 * (i 1).val + 1)) fun κ hκ => by
      rw [score, hm, if_neg (by omega)]
    rw [show 768 * (2 * (i 1).val + 1) + (16896 - 768 * (2 * (i 1).val + 1)) = 16896 by omega] at g
    refine ⟨(earlyL vt k (qzOf q) onesRows i o ho (tile0.lane o ho)).m (ix2 0 w), ?_⟩
    unfold accOut
    rw [ran5_early vt k (qzOf q) onesRows i tile0 o ho he]
    exact g

end Cert.Kernel2Ideal.Attn
-- ==== Proof.AttnDiff.lean ====
module

public import proofs.«01_k».proof.Proof.AttnMath

/-!
The difference of two weighted averages and the average by the difference of the weights agree once normalized,
also where a softmax has no weight at all.
-/

@[expose] public section

noncomputable section

namespace Cert.Attn

open Idealize.ShloMosaic
open scoped BigOperators

/-- A quotient of reals. -/
theorem div_coe (x y : ℝ) (hy : y ≠ 0) : Ideal.div (x : EReal) (y : EReal) = ((x / y : ℝ) : EReal) := by
  unfold Ideal.div
  rw [if_neg (by rw [← EReal.coe_zero]; exact fun h => hy (EReal.coe_eq_coe_iff.mp h))]
  rw [div_eq_mul_inv, EReal.coe_mul, EReal.coe_inv]

/-- Zero by zero is bottom. -/
theorem div_zero_zero : Ideal.div (0 : EReal) (0 : EReal) = ⊥ := by
  unfold Ideal.div
  rw [if_pos rfl, if_neg (lt_irrefl _)]

/-- The printed constant 128. -/
theorem ofBits_128 : Ideal.ofBits .f32 0x43000000#32 = ((128 : ℝ) : EReal) := by
  simp [Ideal.ofBits, Ideal.ieee, -EReal.coe_mul]
  norm_num

/-- The printed epsilon is real. -/
theorem eps_coe : ∃ r : ℝ, Ideal.ofBits .f32 0x3727C5AC#32 = (r : EReal) := by
  simp only [Ideal.ofBits, Ideal.ieee]
  rw [if_neg (by decide), if_neg (by decide)]
  exact ⟨_, rfl⟩

/-- The inverse root of infinity is zero. -/
theorem rsqrt_top : Ideal.rsqrt ⊤ = 0 := rfl

/-- A row of zeros and infinities is normalized to zeros. -/
theorem rms_inf (D g : Fin 128 → EReal) (h : ∀ d, D d = 0 ∨ D d = ⊤ ∨ D d = ⊥) (d : Fin 128) : rms D g d = 0 := by
  unfold rms
  rcases h d with h0 | h0
  · rw [h0, zero_mul, zero_mul, zero_mul]
  have hs : ∑ x, D x * D x = ⊤ := by
    refine top_le_iff.mp ?_
    have e : D d * D d = ⊤ := by
      rcases h0 with h0 | h0 <;> rw [h0] <;> rfl
    rw [← e]
    refine Finset.single_le_sum (f := fun x => D x * D x) (fun x _ => ?_) (Finset.mem_univ d)
    rcases h x with h1 | h1 | h1 <;> rw [h1]
    · rw [mul_zero]
    · exact le_top
    · exact le_top
  obtain ⟨e, he⟩ := eps_coe
  rw [hs, ofBits_128, he]
  have h1 : Ideal.div ⊤ ((128 : ℝ) : EReal) = ⊤ := by
    unfold Ideal.div
    rw [if_neg (by rw [← EReal.coe_zero]; exact fun h => by norm_num at h)]
    rw [← EReal.coe_inv]
    exact EReal.top_mul_coe_of_pos (by norm_num)
  rw [h1, EReal.top_add_coe, rsqrt_top, mul_zero, zero_mul, zero_mul]

/-- Zeros and infinities add to zeros and infinities. -/
theorem sum_inf {ι : Type} (S : Finset ι) (f : ι → EReal) (h : ∀ i ∈ S, f i = 0 ∨ f i = ⊤ ∨ f i = ⊥) : (∑ i ∈ S, f i = 0) ∨ (∑ i ∈ S, f i = ⊤) ∨ ∑ i ∈ S, f i = ⊥ := by
  classical
  induction S using Finset.induction with
  | empty => exact .inl rfl
  | insert a S ha ih =>
    rw [Finset.sum_insert ha]
    rcases h a (Finset.mem_insert_self a S) with h1 | h1 | h1 <;> rcases ih (fun i hi => h i (Finset.mem_insert_of_mem hi)) with h2 | h2 | h2 <;> rw [h1, h2]
    · left; rw [add_zero]
    · right; left; rw [zero_add]
    · right; right; rw [zero_add]
    · right; left; rw [add_zero]
    · right; left; rfl
    · right; right; rfl
    · right; right; rw [add_zero]
    · right; right; rfl
    · right; right; rfl

/-- A real times an infinity is zero or an infinity. -/
theorem coe_mul_inf (r : ℝ) (u : EReal) (hu : u = ⊤ ∨ u = ⊥) : (r : EReal) * u = 0 ∨ (r : EReal) * u = ⊤ ∨ (r : EReal) * u = ⊥ := by
  rcases lt_trichotomy r 0 with h | h | h
  · rcases hu with rfl | rfl
    · right; right; exact EReal.coe_mul_top_of_neg h
    · right; left; exact EReal.coe_mul_bot_of_neg h
  · left; rw [h, EReal.coe_zero, zero_mul]
  · rcases hu with rfl | rfl
    · right; left; exact EReal.coe_mul_top_of_pos h
    · right; right; exact EReal.coe_mul_bot_of_pos h

section

variable (n : ℕ) (e1 e2 : ℕ → ℝ) (v : ℕ → Fin 128 → ℝ) (lam : ℝ)

/-- A sum of weights. -/
abbrev tot (e : ℕ → ℝ) : EReal := ((∑ k ∈ Finset.range n, e k : ℝ) : EReal)

/-- A weighted sum of values. -/
abbrev wsum (e : ℕ → ℝ) (d : Fin 128) : EReal := ((∑ k ∈ Finset.range n, e k * v k d : ℝ) : EReal)

/-- The difference of the two averages. -/
def avgDiff (d : Fin 128) : EReal := Ideal.div (wsum n v e1 d) (tot n e1) - (lam : EReal) * Ideal.div (wsum n v e2 d) (tot n e2)

/-- The average by the difference of the weights. -/
def diffAvg (d : Fin 128) : EReal :=
  ∑ k ∈ Finset.range n, (v k d : EReal) * (Ideal.div (e1 k : EReal) (tot n e1) - (lam : EReal) * Ideal.div (e2 k : EReal) (tot n e2))

/-- Without a total no weight is left. -/
theorem none_of (e : ℕ → ℝ) (he : ∀ k, 0 ≤ e k) (h : ∑ k ∈ Finset.range n, e k = 0) (k : ℕ) (hk : k ∈ Finset.range n) : e k = 0 :=
  (Finset.sum_eq_zero_iff_of_nonneg (fun k _ => he k)).mp h k hk

/-- Without weight the quotients are bottom. -/
theorem div_none (e : ℕ → ℝ) (he : ∀ k, 0 ≤ e k) (h : ∑ k ∈ Finset.range n, e k = 0) :
    (∀ d, Ideal.div (wsum n v e d) (tot n e) = ⊥) ∧ ∀ k ∈ Finset.range n, Ideal.div (e k : EReal) (tot n e) = ⊥ := by
  refine ⟨fun d => ?_, fun k hk => ?_⟩
  · unfold wsum tot
    rw [h, Finset.sum_eq_zero (fun k hk => by rw [none_of n e he h k hk, zero_mul]), EReal.coe_zero, div_zero_zero]
  · unfold tot
    rw [h, none_of n e he h k hk, EReal.coe_zero, div_zero_zero]

/-- Infinite coefficients: both forms are normalized to zero. -/
theorem both_inf (g : Fin 128 → EReal) (u : EReal) (hu : u = ⊤ ∨ u = ⊥) (hA : ∀ d, avgDiff n e1 e2 v lam d = u)
    (hB : ∀ k ∈ Finset.range n, Ideal.div (e1 k : EReal) (tot n e1) - (lam : EReal) * Ideal.div (e2 k : EReal) (tot n e2) = u) (d : Fin 128) :
    rms (avgDiff n e1 e2 v lam) g d = rms (diffAvg n e1 e2 v lam) g d := by
  rw [rms_inf _ g (fun d => by rw [hA]; exact .inr hu), rms_inf _ g fun d => ?_]
  exact sum_inf _ _ fun k hk => by
    rw [hB k hk]
    exact coe_mul_inf _ u hu

/-- The two forms agree once normalized. -/
theorem rms_eq (h1 : ∀ k, 0 ≤ e1 k) (h2 : ∀ k, 0 ≤ e2 k) (g : Fin 128 → EReal) (d : Fin 128) :
    rms (avgDiff n e1 e2 v lam) g d = rms (diffAvg n e1 e2 v lam) g d := by
  by_cases t1 : ∑ k ∈ Finset.range n, e1 k = 0
  · obtain ⟨a, b⟩ := div_none n v e1 h1 t1
    refine both_inf n e1 e2 v lam g ⊥ (.inr rfl) (fun d => ?_) (fun k hk => ?_) d
    · unfold avgDiff
      rw [a, bot_sub']
    · rw [b k hk, bot_sub']
  by_cases t2 : ∑ k ∈ Finset.range n, e2 k = 0
  · obtain ⟨a, b⟩ := div_none n v e2 h2 t2
    by_cases hl : lam = 0
    · refine congrArg (fun D => rms D g d) (funext fun d => ?_)
      unfold avgDiff diffAvg
      rw [a, hl, EReal.coe_zero, zero_mul, div_coe _ _ t1, ← EReal.coe_zero, ← EReal.coe_sub, sub_zero, Finset.sum_div, coe_sum']
      refine Finset.sum_congr rfl fun k hk => ?_
      rw [EReal.coe_zero, zero_mul, div_coe _ _ t1, ← EReal.coe_zero, ← EReal.coe_sub, sub_zero, ← EReal.coe_mul]
      congr 1
      ring
    · obtain ⟨u, hu, hx⟩ : ∃ u : EReal, (u = ⊤ ∨ u = ⊥) ∧ ∀ x : ℝ, (x : EReal) - (lam : EReal) * ⊥ = u := by
        rcases lt_or_gt_of_ne hl with h | h
        · exact ⟨⊥, .inr rfl, fun x => by rw [EReal.coe_mul_bot_of_neg h, sub_top']⟩
        · exact ⟨⊤, .inl rfl, fun x => by rw [EReal.coe_mul_bot_of_pos h, EReal.coe_sub_bot]⟩
      refine both_inf n e1 e2 v lam g u hu (fun d => ?_) (fun k hk => ?_) d
      · unfold avgDiff
        rw [a, div_coe _ _ t1, hx]
      · rw [b k hk, div_coe _ _ t1, hx]
  · refine congrArg (fun D => rms D g d) (funext fun d => ?_)
    unfold avgDiff diffAvg
    rw [div_coe _ _ t1, div_coe _ _ t2, ← EReal.coe_mul, ← EReal.coe_sub, Finset.sum_div, Finset.sum_div, Finset.mul_sum, ← Finset.sum_sub_distrib, coe_sum']
    refine Finset.sum_congr rfl fun k hk => ?_
    rw [div_coe _ _ t1, div_coe _ _ t2, ← EReal.coe_mul, ← EReal.coe_sub, ← EReal.coe_mul]
    congr 1
    ring

end

/-! ## Scaling of sums -/

/-- Scaling a sum of two. -/
theorem add_c2 (x y : EReal) : (x + y) * (c2 : EReal) = x * (c2 : EReal) + y * (c2 : EReal) := by
  induction x with
  | bot => rw [EReal.bot_add, bot_mul_c2, EReal.bot_add]
  | top =>
    induction y with
    | bot => rw [EReal.add_bot, bot_mul_c2, EReal.add_bot]
    | top => rw [top_mul_c2]; show (⊤ + ⊤ : EReal) * (c2 : EReal) = ⊤ + ⊤; rw [show (⊤ + ⊤ : EReal) = ⊤ from rfl, top_mul_c2]
    | coe y => rw [EReal.top_add_coe, top_mul_c2, ← EReal.coe_mul, EReal.top_add_coe]
  | coe x =>
    induction y with
    | bot => rw [EReal.add_bot, bot_mul_c2, EReal.add_bot]
    | top => rw [EReal.coe_add_top, top_mul_c2, ← EReal.coe_mul, EReal.coe_add_top]
    | coe y => rw [← EReal.coe_add, ← EReal.coe_mul, ← EReal.coe_mul, ← EReal.coe_mul, ← EReal.coe_add, add_mul]

/-- Scaling a finite sum. -/
theorem sum_c2 {ι : Type} (S : Finset ι) (f : ι → EReal) : (∑ i ∈ S, f i) * (c2 : EReal) = ∑ i ∈ S, f i * (c2 : EReal) := by
  classical
  induction S using Finset.induction with
  | empty => rw [Finset.sum_empty, Finset.sum_empty, zero_mul]
  | insert a S ha ih => rw [Finset.sum_insert ha, Finset.sum_insert ha, add_c2, ih]

/-- The printed constant one eighth. -/
theorem ofBits_eighth : Ideal.ofBits .f32 0x3E000000#32 = ((1 / 8 : ℝ) : EReal) := by
  simp [Ideal.ofBits, Ideal.ieee, -EReal.coe_mul]
  norm_num

/-- The queries' scale is an eighth in the base of the exponential. -/
theorem qs_eq : (((8 * Real.log 2)⁻¹ : ℝ) : EReal) = Ideal.ofBits .f32 0x3E000000#32 * (c2 : EReal) := by
  rw [ofBits_eighth, ← EReal.coe_mul, c2, mul_inv]
  norm_num

end Cert.Attn
-- ==== Proof.AttnArr.lean ====
module

public import proofs.«01_k».proof.Proof.AttnSum
public import proofs.«01_k».proof.Proof.AttnDiff

/-!
The attention launch's blocks read at an index, and the scores of the queries laid over the lanes.
-/

@[expose] public section

set_option maxRecDepth 16384

noncomputable section

namespace Cert.Kernel2Ideal.Attn

open Idealize.ShloMosaic Idealize.ShloMosaic.Tactic Idealize.SL.Sem
open Cert.Kernel2Ideal Cert.Kernel2Ideal.Gen Cert.Attn
open scoped BigOperators

/-! ## The queries over the lanes -/

/-- A stored group of lanes read at a lane. -/
theorem put_lane (x : Vec Ideal S128x3072 .bf16) (o : ℕ) (w : Vec Ideal S128x768 .bf16) (d : Fin 128) (l : Fin 3072) :
    VecWindow.put (s := S128x3072) x ![0, o] S128x768.size w (ix2 d l) = if h : o ≤ l.val ∧ l.val < o + 768 then w (ix2 d ⟨l.val - o, by omega⟩) else x (ix2 d l) := by
  have hd := d.isLt
  unfold VecWindow.put
  by_cases h : o ≤ l.val ∧ l.val < o + 768
  · have key : ∀ a : Fin 2, (![0, o] : Fin 2 → ℕ) a ≤ ((ix2 d l : S128x3072.Idx) a).val ∧ ((ix2 d l : S128x3072.Idx) a).val < (![0, o] : Fin 2 → ℕ) a + S128x768.size a := by
      intro a
      match a with
      | ⟨0, _⟩ => exact ⟨Nat.zero_le _, by show d.val < 0 + 128; omega⟩
      | ⟨1, _⟩ => exact h
    rw [dif_pos h, dif_pos key]
    refine congrArg w (funext fun a => Fin.ext ?_)
    match a with
    | ⟨0, _⟩ => rfl
    | ⟨1, _⟩ => rfl
  · rw [dif_neg h, dif_neg (fun key => h (key 1))]

/-- The scaled query tile with its second half cleared. -/
theorem qLo_apply (v : Vec Ideal S1x128x768 .f32) (d : Fin 128) (r : Fin 768) :
    qLo v (ix2 d r) = if d.val < 64 then (v (ix3 0 d r) : EReal) * (((8 * Real.log 2)⁻¹ : ℝ) : EReal) else 0 := by
  pointwise [qLo, qScaled]
  have hd := d.isLt
  rw [WordCmp.cmpi_slt_ofNat (by norm_num; omega) (by norm_num)]
  by_cases h : d.val < 64
  · rw [if_pos h, decide_eq_true h]; rfl
  · rw [if_neg h, decide_eq_false h]; rfl

/-- The scaled query tile with its first half cleared. -/
theorem qHi_apply (v : Vec Ideal S1x128x768 .f32) (d : Fin 128) (r : Fin 768) :
    qHi v (ix2 d r) = if d.val < 64 then (0 : EReal) else (v (ix3 0 d r) : EReal) * (((8 * Real.log 2)⁻¹ : ℝ) : EReal) := by
  pointwise [qHi, qScaled]
  have hd := d.isLt
  rw [WordCmp.cmpi_sge_ofNat (by norm_num; omega) (by norm_num)]
  by_cases h : d.val < 64
  · rw [if_pos h, decide_eq_false (by omega)]; rfl
  · rw [if_neg h, decide_eq_true (by omega)]; rfl

/-- One of the two query tiles of a block. -/
theorem qTile_apply (q : Vec Ideal S2x128x768 .f32) (a : Fin 2) (h) (d : Fin 128) (r : Fin 768) :
    VecWindow.window (s := S2x128x768) q ![a.val, 0, 0] S1x128x768.size h (ix3 0 d r) = q (ix3 a d r) := by
  rw [VecWindow.window]
  refine congrArg q (funext fun b => Fin.ext ?_)
  rw [Rect.emb_apply]
  fin_cases b
  · show a.val + 1 * 0 = a.val
    omega
  · show 0 + 1 * d.val = d.val
    omega
  · show 0 + 1 * r.val = r.val
    omega

/-- The query in lane `l`: one of two tiles' rows, one of the head's two halves. -/
theorem qzOf_apply (q : Vec Ideal S2x128x768 .f32) (a : Fin 2) (t : Fin 2) (r : Fin 768) (l : Fin 3072) (hl : l.val = 1536 * a.val + 768 * t.val + r.val) (d : Fin 128) :
    qzOf q (ix2 d l) = if d.val / 64 = a.val then (q (ix3 t d r) : EReal) * (((8 * Real.log 2)⁻¹ : ℝ) : EReal) else 0 := by
  have hd := d.isLt
  have hr := r.isLt
  unfold qzOf qzOver
  have q0 := fun r => qTile_apply q 0 inb_S2x128x768_S1x128x768_0_0_0 d r
  have q1 := fun r => qTile_apply q 1 inb_S2x128x768_S1x128x768_1_0_0 d r
  have es : ∀ (n : ℕ) (h), n = r.val → (⟨n, h⟩ : Fin 768) = r := fun n h e => Fin.ext e
  rw [put_lane, put_lane, put_lane, put_lane]
  fin_cases a <;> fin_cases t <;> simp only [] at hl ⊢
  · rw [dif_neg (by simp at hl; omega), dif_neg (by simp at hl; omega), dif_neg (by simp at hl; omega), dif_pos (by simp at hl; omega), qLo_apply, es _ _ (by simp at hl; omega)]
    erw [q0]
    by_cases h : d.val < 64
    · rw [if_pos h, if_pos (show d.val / 64 = 0 by omega)]; rfl
    · rw [if_neg h, if_neg (show ¬d.val / 64 = 0 by omega)]
  · rw [dif_neg (by simp at hl; omega), dif_pos (by simp at hl; omega), qLo_apply, es _ _ (by simp at hl; omega)]
    erw [q1]
    by_cases h : d.val < 64
    · rw [if_pos h, if_pos (show d.val / 64 = 0 by omega)]; rfl
    · rw [if_neg h, if_neg (show ¬d.val / 64 = 0 by omega)]
  · rw [dif_neg (by simp at hl; omega), dif_neg (by simp at hl; omega), dif_pos (by simp at hl; omega), qHi_apply, es _ _ (by simp at hl; omega)]
    erw [q0]
    by_cases h : d.val < 64
    · rw [if_pos h, if_neg (show ¬d.val / 64 = 1 by omega)]
    · rw [if_neg h, if_pos (show d.val / 64 = 1 by omega)]; rfl
  · rw [dif_pos (by simp at hl; omega), qHi_apply, es _ _ (by simp at hl; omega)]
    erw [q1]
    by_cases h : d.val < 64
    · rw [if_pos h, if_neg (show ¬d.val / 64 = 1 by omega)]
    · rw [if_neg h, if_pos (show d.val / 64 = 1 by omega)]; rfl

/-- A product over the head, where the other half's entries are zero. -/
theorem half_sum (f : Fin 128 → EReal) (a : Fin 2) (h : ∀ d : Fin 128, d.val / 64 ≠ a.val → f d = 0) :
    ∑ d : Fin 128, f d = ∑ x : Fin 64, f ⟨64 * a.val + x.val, by have := x.isLt; have := a.isLt; omega⟩ := by
  have e : ∑ d : Fin 128, f d = ∑ x : Fin 64, f ⟨x.val, by have := x.isLt; omega⟩ + ∑ x : Fin 64, f ⟨64 + x.val, by have := x.isLt; omega⟩ :=
    Fin.sum_univ_add (a := 64) (b := 64) f
  rw [e]
  fin_cases a
  · rw [Finset.sum_eq_zero (s := Finset.univ) (f := fun x : Fin 64 => f ⟨64 + x.val, by have := x.isLt; omega⟩) (fun x _ => h _ (by have := x.isLt; show (64 + x.val) / 64 ≠ 0; omega)), add_zero]
    refine Finset.sum_congr rfl fun x _ => congrArg f (Fin.ext ?_)
    show x.val = 64 * 0 + x.val
    omega
  · rw [Finset.sum_eq_zero (s := Finset.univ) (f := fun x : Fin 64 => f ⟨x.val, by have := x.isLt; omega⟩) (fun x _ => h _ (by have := x.isLt; show x.val / 64 ≠ 1; omega)), zero_add]
    rfl

/-! ## Where the blocks lie -/

variable (m : (ℓ : Loc nD τ sig) → Buf (Elt Ideal) ℓ) (c : Dev nD)

/-- The block that each window takes at a point. -/
theorem idx : ∀ t : Fin cfg0.N, ((cfg0.win 0).index t 0 = t.val % 11 ∧ (cfg0.win 0).index t 1 = t.val / 11 ∧ (cfg0.win 0).index t 2 = 0)
    ∧ ((cfg0.win 1).index t 0 = 0 ∧ (cfg0.win 1).index t 1 = 16 + t.val / 11)
    ∧ ((cfg0.win 2).index t 0 = 0 ∧ (cfg0.win 2).index t 1 = t.val / 11 ∧ (cfg0.win 2).index t 2 = 0)
    ∧ ((cfg0.win 3).index t 0 = 0 ∧ (cfg0.win 3).index t 1 = 0)
    ∧ ((cfg0.win 4).index t 0 = 0 ∧ (cfg0.win 4).index t 1 = 0)
    ∧ ((cfg0.win 5).index t 0 = 0 ∧ (cfg0.win 5).index t 1 = 0)
    ∧ ((cfg0.win 6).index t 0 = 0 ∧ (cfg0.win 6).index t 1 = 0)
    ∧ ((cfg0.win 7).index t 0 = 0 ∧ (cfg0.win 7).index t 1 = 0)
    ∧ ((cfg0.win 8).index t 0 = t.val % 11 ∧ (cfg0.win 8).index t 1 = t.val / 11) := by decide +kernel

/-- The query tile of a point. -/
theorem coord1 : ∀ t : Fin cfg0.N, ((grid0.coords t) 1).val = t.val % 11 := by decide +kernel

/-- There are eighty-eight points. -/
theorem point_lt (t : Fin cfg0.N) : t.val < 88 := t.isLt

/-- The row of the array at place `r` of a point's queries. -/
def qrow (t : Fin cfg0.N) (r : Fin 1536) : Fin 16896 := ⟨t.val % 11 * 1536 + r.val, by have := r.isLt; omega⟩

/-- The column of the array at place `d` of a point's head. -/
def hcol (t : Fin cfg0.N) (d : Fin 128) : Fin 1024 := ⟨t.val / 11 * 128 + d.val, by have := d.isLt; have := point_lt t; omega⟩

/-- The keys' column at place `d` of a point's head. -/
def kcol (t : Fin cfg0.N) (d : Fin 128) : Fin 5120 := ⟨2048 + (t.val / 11 * 128 + d.val), by have := d.isLt; have := point_lt t; omega⟩

/-- The row of place `x` of tile `j`. -/
def trow (j : Fin 22) (x : Fin 768) : Fin 16896 := ⟨768 * j.val + x.val, by have := j.isLt; have := x.isLt; omega⟩

/-- A block of queries. -/
theorem block0 (t : Fin cfg0.N) (a : Fin 2) (d : Fin 128) (r : Fin 768) :
    iblk m c 0 t (ix3 a d r) = m ((c.tc : Thread nD τ).loc main_arg1) (ix2 (qrow t ⟨768 * a.val + r.val, by have := a.isLt; have := r.isLt; omega⟩) (hcol t d)) := by
  blk_simp [iblk, idx t]
  entry_read
  pointwise []
  refine congrArg (m ((c.tc : Thread nD τ).loc main_arg1)) ?_
  blk_ext [idx t]
  all_goals (simp only [qrow, hcol, kcol, trow]; try omega)

/-- A block of keys. -/
theorem block1 (t : Fin cfg0.N) (κ : Fin 16896) (d : Fin 128) :
    iblk m c 1 t (ix2 κ d) = m ((c.tc : Thread nD τ).loc main_arg0) (ix2 κ (kcol t d)) := by
  blk_simp [iblk, idx t]
  entry_read
  pointwise []
  refine congrArg (m ((c.tc : Thread nD τ).loc main_arg0)) ?_
  blk_ext [idx t]
  all_goals (simp only [qrow, hcol, kcol, trow]; try omega)

/-- A block of values. -/
theorem block2 (t : Fin cfg0.N) (j : Fin 22) (d : Fin 128) (x : Fin 768) :
    iblk m c 2 t (ix3 j d x) = m ((c.tc : Thread nD τ).loc main_arg2) (ix2 (trow j x) (hcol t d)) := by
  blk_simp [iblk, idx t]
  entry_read
  pointwise []
  refine congrArg (m ((c.tc : Thread nD τ).loc main_arg2)) ?_
  blk_ext [idx t]
  all_goals (simp only [qrow, hcol, kcol, trow]; try omega)

/-- The first vector. -/
theorem block3 (t : Fin cfg0.N) (d : Fin 64) : iblk m c 3 t (ix2 0 d) = m ((c.tc : Thread nD τ).loc main_arg3) (ix1 d) := by
  blk_simp [iblk, idx t]
  entry_read
  pointwise []
  refine congrArg (m ((c.tc : Thread nD τ).loc main_arg3)) ?_
  blk_ext [idx t]

/-- The second vector. -/
theorem block4 (t : Fin cfg0.N) (d : Fin 64) : iblk m c 4 t (ix2 0 d) = m ((c.tc : Thread nD τ).loc main_arg4) (ix1 d) := by
  blk_simp [iblk, idx t]
  entry_read
  pointwise []
  refine congrArg (m ((c.tc : Thread nD τ).loc main_arg4)) ?_
  blk_ext [idx t]

/-- The third vector. -/
theorem block5 (t : Fin cfg0.N) (d : Fin 64) : iblk m c 5 t (ix2 0 d) = m ((c.tc : Thread nD τ).loc main_arg5) (ix1 d) := by
  blk_simp [iblk, idx t]
  entry_read
  pointwise []
  refine congrArg (m ((c.tc : Thread nD τ).loc main_arg5)) ?_
  blk_ext [idx t]

/-- The fourth vector. -/
theorem block6 (t : Fin cfg0.N) (d : Fin 64) : iblk m c 6 t (ix2 0 d) = m ((c.tc : Thread nD τ).loc main_arg6) (ix1 d) := by
  blk_simp [iblk, idx t]
  entry_read
  pointwise []
  refine congrArg (m ((c.tc : Thread nD τ).loc main_arg6)) ?_
  blk_ext [idx t]

/-- The norm's gains. -/
theorem block7 (t : Fin cfg0.N) (d : Fin 128) : iblk m c 7 t (ix2 d 0) = m ((c.tc : Thread nD τ).loc main_arg7) (ix1 d) := by
  blk_simp [iblk, idx t]
  entry_read
  pointwise []
  refine congrArg (m ((c.tc : Thread nD τ).loc main_arg7)) ?_
  blk_ext [idx t]

end Cert.Kernel2Ideal.Attn
-- ==== Proof.AttnRef.lean ====
module

public import proofs.«01_k».proof.Proof.Gen.Reference2Ideal.Run
public import proofs.«01_k».proof.Proof.AttnDiff
public import Idealize.ShloMosaic.Lib.Pointwise
public import Idealize.ShloMosaic.Lib.WordCmp
public import Idealize.ShloMosaic.Lib.Pipeline.ValueKit

/-!
The attention reference's composed term, read at a row and a column.
-/

@[expose] public section

set_option maxRecDepth 16384

noncomputable section

namespace Cert.Reference2Ideal.Attn

open Idealize.ShloMosaic Idealize.SL.Sem Idealize.ShloMosaic.StableHlo Idealize.ShloMosaic.Tactic
open Cert.Reference2Ideal Cert.Reference2Ideal.Gen Cert.Reference2Ideal.Value Cert.Attn
open scoped BigOperators

/-- The masked scores of one half of the heads. -/
def scores (a : ℕ) (h : S16896x8x2x64.Slices ![0, 0, a, 0] S16896x8x1x64) (p : FVec Ideal S16896x5120 .f32) (q : FVec Ideal S16896x1024 .f32) : FVec Ideal S8x16896x16896 .f32 :=
  select (broadcastInDim S8x16896x16896 ![1, 2] bcast_S16896x16896_S8x16896x16896_1_2 (andi (cmpi .sle (broadcastInDim S16896x16896 ![0, 1] bcast_S1x16896_S16896x16896_0_1 (broadcastInDim S1x16896 ![1] bcast_S16896_S1x16896_1 (iotaInDim S16896 32 0))) (broadcastInDim S16896x16896 ![0, 1] bcast_S16896x1_S16896x16896_0_1 (broadcastInDim S16896x1 ![0] bcast_S16896_S16896x1_0 (iotaInDim S16896 32 0)))) (broadcastInDim S16896x16896 ![0, 1] bcast_S1x16896_S16896x16896_0_1 (broadcastInDim S1x16896 ![1] bcast_S16896_S1x16896_1 (cmpi .sge (iotaInDim S16896 32 0) (broadcastInDim S16896 ![] bcast_S_S16896 (constantI S_ 32 112#32)))))))
    (Host.dotGeneral dot_S16896x8x64_S16896x8x64_S8x16896x16896_2_2_0_0_1_1 none (shapeCast _ (extractStridedSlice S16896x8x1x64 ![0, 0, a, 0] (mulf (shapeCast _ q shapeCasts_S16896x1024_S16896x8x2x64) (broadcastInDim S16896x8x2x64 ![] bcast_S_S16896x8x2x64 (constant S_ .f32 0x3E000000#32))) h) shapeCasts_S16896x8x1x64_S16896x8x64)
      (shapeCast _ (extractStridedSlice S16896x8x1x64 ![0, 0, a, 0] (shapeCast _ (extractStridedSlice S16896x1024 ![0, 2048] p slices_S16896x5120_S16896x1024_0_2048) shapeCasts_S16896x1024_S16896x8x2x64) h) shapeCasts_S16896x8x1x64_S16896x8x64))
    (broadcastInDim S8x16896x16896 ![] bcast_S_S8x16896x16896 (id (constant S_ .f32 0xFF800000#32)))

/-- The exponentials of scores less their maximum. -/
def expo (s : FVec Ideal S8x16896x16896 .f32) : FVec Ideal S8x16896x16896 .f32 :=
  Host.exp (subf s (broadcastInDim S8x16896x16896 ![0, 1, 2] bcast_S8x16896x1_S8x16896x16896_0_1_2 (broadcastInDim S8x16896x1 ![0, 1] bcast_S8x16896_S8x16896x1_0_1 (maximumf (broadcastInDim S8x16896 ![] bcast_S_S8x16896 (constant S_ .f32 0xFF800000#32)) (Host.reduce FloatOps.maximumf s (constant S_ .f32 0xFF800000#32) reducesTo_S8x16896x16896_S8x16896_d2 h_S_)))))

/-- Rows divided by their sums. -/
def quot (e : FVec Ideal S8x16896x16896 .f32) : FVec Ideal S8x16896x16896 .f32 :=
  Host.divf e (broadcastInDim S8x16896x16896 ![0, 1, 2] bcast_S8x16896x1_S8x16896x16896_0_1_2 (broadcastInDim S8x16896x1 ![0, 1] bcast_S8x16896_S8x16896x1_0_1 (Host.reduceAdd e (constant S_ .f32 0x00000000#32) reducesTo_S8x16896x16896_S8x16896_d2 h_S_)))

/-- The weight of the second softmax. -/
def lamR (a b d e : FVec Ideal S64 .f32) : FVec Ideal S_ .f32 :=
  addf (subf (Host.exp (Host.reduceAdd (mulf a b) (constant S_ .f32 0x00000000#32) reducesTo_S64_S_d0 h_S_)) (Host.exp (Host.reduceAdd (mulf d e) (constant S_ .f32 0x00000000#32) reducesTo_S64_S_d0 h_S_))) (constant S_ .f32 0x3E4CCCCD#32)

/-- The values averaged by the difference of two tables of weights. -/
def average (v : FVec Ideal S16896x1024 .f32) (l : FVec Ideal S_ .f32) (a1 a2 : FVec Ideal S8x16896x16896 .f32) : FVec Ideal S16896x8x128 .f32 :=
  transpose S16896x8x128 [2, 0, 1] (Host.dotGeneral dot_S16896x8x128_S8x16896x16896_S8x128x16896_0_2_2_1_1_0 none (shapeCast _ v shapeCasts_S16896x1024_S16896x8x128) (subf a1 (mulf (broadcastInDim S8x16896x16896 ![] bcast_S_S8x16896x16896 l) a2))) transposes_S8x128x16896_S16896x8x128_2_0_1

/-- The normalized rows. -/
def normed (o : FVec Ideal S16896x8x128 .f32) (g : FVec Ideal S128 .f32) : FVec Ideal S16896x1024 .bf16 :=
  truncf .bf16 (shapeCast _ (mulf (mulf (mulf o (broadcastInDim S16896x8x128 ![0, 1, 2] bcast_S16896x8x1_S16896x8x128_0_1_2 (Host.rsqrt (addf (Host.divf (broadcastInDim S16896x8x1 ![0, 1] bcast_S16896x8_S16896x8x1_0_1 (Host.reduceAdd (mulf o o) (constant S_ .f32 0x00000000#32) reducesTo_S16896x8x128_S16896x8_d2 h_S_)) (broadcastInDim S16896x8x1 ![] bcast_S_S16896x8x1 (constant S_ .f32 0x43000000#32))) (broadcastInDim S16896x8x1 ![] bcast_S_S16896x8x1 (constant S_ .f32 0x3727C5AC#32))))))
    (broadcastInDim S16896x8x128 ![0, 1, 2] bcast_S1x1x128_S16896x8x128_0_1_2 (broadcastInDim S1x1x128 ![2] bcast_S128_S1x1x128_2 g))) (broadcastInDim S16896x8x128 ![] bcast_S_S16896x8x128 (constant S_ .f32 0x3F4CCCCD#32))) shapeCasts_S16896x8x128_S16896x1024) bitsLt_bf16_f32

variable (m : (ℓ : Loc nD τ sig) → Buf (Elt Ideal) ℓ) (c : Dev nD)

/-- The reference's term, in these parts. -/
theorem res_eq : res_out0 m c = normed (average (m ((c.tc : Thread nD τ).loc main_arg2)) (lamR (m ((c.tc : Thread nD τ).loc main_arg3)) (m ((c.tc : Thread nD τ).loc main_arg4)) (m ((c.tc : Thread nD τ).loc main_arg5)) (m ((c.tc : Thread nD τ).loc main_arg6)))
    (quot (expo (scores 0 slices_S16896x8x2x64_S16896x8x1x64_0_0_0_0 (m ((c.tc : Thread nD τ).loc main_arg0)) (m ((c.tc : Thread nD τ).loc main_arg1)))))
    (quot (expo (scores 1 slices_S16896x8x2x64_S16896x8x1x64_0_0_1_0 (m ((c.tc : Thread nD τ).loc main_arg0)) (m ((c.tc : Thread nD τ).loc main_arg1)))))) (m ((c.tc : Thread nD τ).loc main_arg7)) := rfl

/-- The score of the key in row `κ` with the query in row `R`, in half `a` of head `x`: bottom where the query may not see the key. -/
def scoreR (p : FVec Ideal S16896x5120 .f32) (q : FVec Ideal S16896x1024 .f32) (a : Fin 2) (x : Fin 8) (R : Fin 16896) (κ : ℕ) : EReal :=
  if h : κ ≤ R.val ∧ 112 ≤ κ then ∑ d : Fin 64, (q (ix2 R ⟨x.val * 128 + a.val * 64 + d.val, by have := x.isLt; have := a.isLt; have := d.isLt; omega⟩) : EReal)
      * Ideal.ofBits .f32 0x3E000000#32 * p (ix2 ⟨κ, by have := R.isLt; omega⟩ ⟨2048 + (x.val * 128 + a.val * 64 + d.val), by have := x.isLt; have := a.isLt; have := d.isLt; omega⟩)
  else ⊥

/-- The printed minus infinity. -/
theorem ofBits_bot : Ideal.ofBits .f32 0xFF800000#32 = (⊥ : EReal) := by simp [Ideal.ofBits, Ideal.ieee]

/-- The masked scores at an index. -/
theorem scores_apply (a : Fin 2) (h) (p : FVec Ideal S16896x5120 .f32) (q : FVec Ideal S16896x1024 .f32) (x : Fin 8) (R κ : Fin 16896) :
    scores a.val h p q (ix3 x R κ) = scoreR p q a x R κ.val := by
  pointwise [scores]
  have hR := R.isLt
  have hκ := κ.isLt
  rw [WordCmp.cmpi_sle_ofNat (by norm_num; omega) (by norm_num; omega), WordCmp.cmpi_sge_ofNat (by norm_num; omega) (by norm_num), WordCmp.andi_ofBool]
  unfold scoreR
  by_cases h1 : κ.val ≤ R.val
  · by_cases h2 : 112 ≤ κ.val
    · rw [dif_pos ⟨h1, h2⟩, decide_eq_true h1, decide_eq_true h2]; rfl
    · rw [dif_neg (fun e => h2 e.2), decide_eq_true h1, decide_eq_false h2]; exact ofBits_bot
  · rw [dif_neg (fun e => h1 e.1), decide_eq_false h1, Bool.false_and]; exact ofBits_bot

/-- A row divided by its sum, at an index. -/
theorem quot_apply (s : FVec Ideal S8x16896x16896 .f32) (x : Fin 8) (R κ : Fin 16896) :
    quot s (ix3 x R κ) = Ideal.div (s (ix3 x R κ)) (∑ y : Fin 16896, (s (ix3 x R y) : EReal)) := by
  pointwise [quot]

/-- The weight of the second softmax, as two sums. -/
theorem lam_apply (a b d e : FVec Ideal S64 .f32) : lamR a b d e ix0 = Ideal.exp (∑ x : Fin 64, (a (ix1 x) : EReal) * b (ix1 x)) - Ideal.exp (∑ x : Fin 64, (d (ix1 x) : EReal) * e (ix1 x))
      + Ideal.ofBits .f32 0x3E4CCCCD#32 := by
  pointwise [lamR]

/-- The averaged values at an index. -/
theorem average_apply (v : FVec Ideal S16896x1024 .f32) (l : FVec Ideal S_ .f32) (a1 a2 : FVec Ideal S8x16896x16896 .f32) (R : Fin 16896) (x : Fin 8) (d : Fin 128) :
    average v l a1 a2 (ix3 R x d) = ∑ κ : Fin 16896, (v (ix2 κ ⟨x.val * 128 + d.val, by have := x.isLt; have := d.isLt; omega⟩) : EReal) * (a1 (ix3 x R κ) - l ix0 * a2 (ix3 x R κ)) := by
  pointwise [average]

/-- The normalized rows at an index. -/
theorem normed_apply (o : FVec Ideal S16896x8x128 .f32) (g : FVec Ideal S128 .f32) (R : Fin 16896) (D : Fin 1024) (x : Fin 8) (d : Fin 128) (hD : D.val = x.val * 128 + d.val) :
    normed o g (ix2 R D) = rms (fun y => o (ix3 R x y)) (fun y => g (ix1 y)) d := by
  pointwise [normed]
  have hd := d.isLt
  have e1 : (⟨D.val / 128, by have := D.isLt; omega⟩ : Fin 8) = x := Fin.ext (by show D.val / 128 = x.val; omega)
  have e2 : (⟨D.val % 128, by omega⟩ : Fin 128) = d := Fin.ext (by show D.val % 128 = d.val; omega)
  simp only [e1, e2]
  rfl

end Cert.Reference2Ideal.Attn
-- ==== Proof.AttnMax.lean ====
module

public import proofs.«01_k».proof.Proof.AttnRef

/-!
The attention reference's exponentials at an index: a row's scores less their maximum.
-/

@[expose] public section

set_option maxRecDepth 16384

noncomputable section

namespace Cert.Reference2Ideal.Attn

open Idealize.ShloMosaic Idealize.SL.Sem Idealize.ShloMosaic.StableHlo Idealize.ShloMosaic.Tactic
open Cert.Reference2Ideal Cert.Reference2Ideal.Gen Cert.Reference2Ideal.Value Cert.Attn
open scoped BigOperators

/-- The maximum along the last of three axes, at an index. -/
theorem rowMax {a b n : ℕ} {u : Shape} (s : FVec Ideal ⟨3, ![a, b, n]⟩ .f32) (init : FVec Ideal u .f32) (h : (⟨3, ![a, b, n]⟩ : Shape).ReducesTo [2] ⟨2, ![a, b]⟩) (hu : 0 < u.numel)
    (x : Fin a) (R : Fin b) :
    Host.reduce FloatOps.maximumf s init h hu (ix2 x R) = (Finset.univ : Finset (Fin n)).fold max (init (Shape.Idx.first hu)) (fun κ => (s (ix3 x R κ) : EReal)) := by
  simp only [pointwise]

/-- The largest of finitely many scores, by their numbers. -/
theorem sup_fin (n : ℕ) (f : ℕ → EReal) : (Finset.univ : Finset (Fin n)).fold max ⊥ (fun x => f x.val) = (Finset.range n).sup f := by
  refine le_antisymm ?_ ?_
  · exact Finset.sup_le (s := (Finset.univ : Finset (Fin n))) (f := fun x => f x.val) fun x _ => Finset.le_sup (f := f) (Finset.mem_range.mpr x.isLt)
  · exact Finset.sup_le fun k hk => Finset.le_sup (s := (Finset.univ : Finset (Fin n))) (f := fun x => f x.val) (b := ⟨k, Finset.mem_range.mp hk⟩) (Finset.mem_univ _)

/-- Exponentials of scores less the maxima `M`. -/
def expoOf (s : FVec Ideal S8x16896x16896 .f32) (M : FVec Ideal S8x16896 .f32) : FVec Ideal S8x16896x16896 .f32 :=
  Host.exp (subf s (broadcastInDim S8x16896x16896 ![0, 1, 2] bcast_S8x16896x1_S8x16896x16896_0_1_2 (broadcastInDim S8x16896x1 ![0, 1] bcast_S8x16896_S8x16896x1_0_1 (maximumf (broadcastInDim S8x16896 ![] bcast_S_S8x16896 (constant S_ .f32 0xFF800000#32)) M))))

/-- The exponentials at an index. -/
theorem expoOf_apply (s : FVec Ideal S8x16896x16896 .f32) (M : FVec Ideal S8x16896 .f32) (x : Fin 8) (R κ : Fin 16896) :
    expoOf s M (ix3 x R κ) = Ideal.exp (s (ix3 x R κ) - M (ix2 x R)) := by
  have e : expoOf s M (ix3 x R κ) = Ideal.exp (s (ix3 x R κ) - max (Ideal.ofBits .f32 0xFF800000#32) (M (ix2 x R))) := by
    pointwise [expoOf]
  rw [e, ofBits_bot, max_eq_right bot_le]

/-- The reference's exponentials are the exponential weights of its scores. -/
theorem expo_apply (a : Fin 2) (h) (p : FVec Ideal S16896x5120 .f32) (q : FVec Ideal S16896x1024 .f32) (x : Fin 8) (R κ : Fin 16896) :
    expo (scores a.val h p q) (ix3 x R κ) = ((ew (scoreR p q a x R) 16896 κ.val : ℝ) : EReal) := by
  have e : expo (scores a.val h p q) = expoOf (scores a.val h p q)
      (Host.reduce FloatOps.maximumf (scores a.val h p q) (constant S_ .f32 0xFF800000#32) reducesTo_S8x16896x16896_S8x16896_d2 h_S_) := by
    unfold expo expoOf
    with_reducible rfl
  have e2 : (constant S_ .f32 0xFF800000#32 : FVec Ideal S_ .f32) (Shape.Idx.first h_S_) = (⊥ : EReal) := ofBits_bot
  rw [e, expoOf_apply, rowMax, e2, ← ew_eq _ _ _ κ.isLt]
  simp only [scores_apply]
  rw [sup_fin]

/-- The values as reals. -/
def vreal (v : FVec Ideal S16896x1024 .f32) (x : Fin 8) (κ : ℕ) (d : Fin 128) : ℝ :=
  if h : κ < 16896 then EReal.toReal (v (ix2 ⟨κ, h⟩ ⟨x.val * 128 + d.val, by have := x.isLt; have := d.isLt; omega⟩)) else 0

/-- The attention's result at row `R`, head `x` and place `d`. -/
def result (p : FVec Ideal S16896x5120 .f32) (q v : FVec Ideal S16896x1024 .f32) (lam : ℝ) (g : FVec Ideal S128 .f32) (R : Fin 16896) (x : Fin 8) (d : Fin 128) : EReal :=
  rms (diffAvg 16896 (ew (scoreR p q 0 x R) 16896) (ew (scoreR p q 1 x R) 16896) (vreal v x) lam) (fun y => g (ix1 y)) d

/-- The reference's softmax at an index. -/
theorem quot_ew (a : Fin 2) (h) (p : FVec Ideal S16896x5120 .f32) (q : FVec Ideal S16896x1024 .f32) (x : Fin 8) (R κ : Fin 16896) :
    quot (expo (scores a.val h p q)) (ix3 x R κ) = Ideal.div ((ew (scoreR p q a x R) 16896 κ.val : ℝ) : EReal) (tot 16896 (ew (scoreR p q a x R) 16896)) := by
  rw [quot_apply]
  simp only [expo_apply]
  rw [tot, coe_sum', Finset.sum_range]

/-- The normalized rows, of two softmaxes given at their indices. -/
theorem result_of (p : FVec Ideal S16896x5120 .f32) (q v : FVec Ideal S16896x1024 .f32) (l : FVec Ideal S_ .f32) (lam : ℝ) (g : FVec Ideal S128 .f32) (a0 a1 : FVec Ideal S8x16896x16896 .f32)
    (hv : ∀ (κ : Fin 16896) (D : Fin 1024), ∃ r : ℝ, v (ix2 κ D) = (r : EReal)) (hl : l ix0 = (lam : EReal)) (R : Fin 16896) (D : Fin 1024) (x : Fin 8) (d : Fin 128)
    (h0 : ∀ κ : Fin 16896, a0 (ix3 x R κ) = Ideal.div ((ew (scoreR p q 0 x R) 16896 κ.val : ℝ) : EReal) (tot 16896 (ew (scoreR p q 0 x R) 16896)))
    (h1 : ∀ κ : Fin 16896, a1 (ix3 x R κ) = Ideal.div ((ew (scoreR p q 1 x R) 16896 κ.val : ℝ) : EReal) (tot 16896 (ew (scoreR p q 1 x R) 16896)))
    (hD : D.val = x.val * 128 + d.val) : normed (average v l a0 a1) g (ix2 R D) = result p q v lam g R x d := by
  rw [normed_apply _ _ _ _ _ _ hD, result]
  refine congrArg (fun D => rms D _ d) (funext fun y => ?_)
  rw [average_apply, diffAvg, Finset.sum_range]
  refine Finset.sum_congr rfl fun κ _ => ?_
  obtain ⟨r, hr⟩ := hv κ ⟨x.val * 128 + y.val, by have := x.isLt; have := y.isLt; omega⟩
  have ev : v (ix2 κ ⟨x.val * 128 + y.val, by have := x.isLt; have := y.isLt; omega⟩) = ((vreal v x κ.val y : ℝ) : EReal) := by
    unfold vreal
    rw [dif_pos κ.isLt]
    rw [hr, EReal.toReal_coe]
  rw [ev, hl, h0, h1]

variable (m : (ℓ : Loc nD τ sig) → Buf (Elt Ideal) ℓ) (c : Dev nD)

/-- The reference's result. -/
theorem out_apply (lam : ℝ) (hv : ∀ (κ : Fin 16896) (D : Fin 1024), ∃ r : ℝ, m ((c.tc : Thread nD τ).loc main_arg2) (ix2 κ D) = (r : EReal))
    (hl : lamR (m ((c.tc : Thread nD τ).loc main_arg3)) (m ((c.tc : Thread nD τ).loc main_arg4)) (m ((c.tc : Thread nD τ).loc main_arg5)) (m ((c.tc : Thread nD τ).loc main_arg6)) ix0 = (lam : EReal))
    (R : Fin 16896) (D : Fin 1024) (x : Fin 8) (d : Fin 128) (hD : D.val = x.val * 128 + d.val) :
    res_out0 m c (ix2 R D) = result (m ((c.tc : Thread nD τ).loc main_arg0)) (m ((c.tc : Thread nD τ).loc main_arg1)) (m ((c.tc : Thread nD τ).loc main_arg2)) lam (m ((c.tc : Thread nD τ).loc main_arg7)) R x d :=
  (congrFun (res_eq m c) (ix2 R D)).trans (result_of _ _ _ _ lam _ _ _ hv hl R D x d
    (fun κ => quot_ew 0 slices_S16896x8x2x64_S16896x8x1x64_0_0_0_0 _ _ x R κ)
    (fun κ => quot_ew 1 slices_S16896x8x2x64_S16896x8x1x64_0_0_1_0 _ _ x R κ) hD)

end Cert.Reference2Ideal.Attn
-- ==== Proof.AttnOut.lean ====
module

public import proofs.«01_k».proof.Proof.AttnArr
public import proofs.«01_k».proof.Proof.AttnMax

/-!
The attention kernel's result array after the run, at an index.
-/

@[expose] public section

set_option maxRecDepth 16384

noncomputable section

namespace Cert.Kernel2Ideal.Attn

open Idealize.ShloMosaic Idealize.ShloMosaic.Tactic Idealize.SL.Sem
open Cert.Kernel2Ideal Cert.Kernel2Ideal.Gen Cert.Attn
open Cert.Reference2Ideal.Attn (scoreR vreal result)
open scoped BigOperators

/-! ## The last payloads at an index -/

/-- The weight of the second softmax. -/
theorem lamOf_apply (a b d e : Vec Ideal S1x64 .f32) : lamOf a b d e (ix2 0 0) = Ideal.exp (∑ x : Fin 64, (a (ix2 0 x) : EReal) * b (ix2 0 x)) - Ideal.exp (∑ x : Fin 64, (d (ix2 0 x) : EReal) * e (ix2 0 x))
    + Ideal.ofBits .f32 0x3E4CCCCD#32 := by
  pointwise [lamOf]

/-- The difference of the two averages at an index. -/
theorem diffOf_apply (l : FVec Ideal S1x1 .f32) (n : Vec Ideal S128x3072 .f32) (d : Vec Ideal S1x3072 .f32) (r : Fin 128) (w : Fin 1536) :
    diffOf l n d (ix2 r w) = Ideal.div (n (ix2 r ⟨w.val, by have := w.isLt; omega⟩)) (d (ix2 0 ⟨w.val, by have := w.isLt; omega⟩))
      - (l (ix2 0 0) : EReal) * Ideal.div (n (ix2 r ⟨1536 + w.val, by have := w.isLt; omega⟩)) (d (ix2 0 ⟨1536 + w.val, by have := w.isLt; omega⟩)) := by
  pointwise [diffOf]

/-- The stored block at an index is a normalized row. -/
theorem outOf_apply (x : FVec Ideal S128x1536 .f32) (g : Vec Ideal S128x1 .f32) (r : Fin 1536) (w : Fin 128) :
    outOf x (mulf x x) g (ix2 r w) = rms (fun y => x (ix2 y r)) (fun y => g (ix2 y 0)) w := by
  pointwise [outOf]
  rfl

/-- The accumulator's rows of values. -/
theorem rowsOf_apply (a : Vec Ideal S144x3072 .f32) (h) (r : Fin 128) (l : Fin 3072) :
    VecWindow.window (s := S144x3072) a ![0, 0] S128x3072.size h (ix2 r l) = a (ix2 ⟨r.val, by have := r.isLt; omega⟩ l) := by
  rw [VecWindow.window]
  refine congrArg a (funext fun b => Fin.ext ?_)
  rw [Rect.emb_apply]
  fin_cases b
  · show 0 + 1 * r.val = r.val
    omega
  · show 0 + 1 * l.val = l.val
    omega

/-- The accumulator's row of totals. -/
theorem totalOf_apply (a : Vec Ideal S144x3072 .f32) (h) (l : Fin 3072) :
    VecWindow.window (s := S144x3072) a ![128, 0] S1x3072.size h (ix2 0 l) = a (ix2 128 l) := by
  rw [VecWindow.window]
  refine congrArg a (funext fun b => Fin.ext ?_)
  rw [Rect.emb_apply]
  fin_cases b
  · rfl
  · show 0 + 1 * l.val = l.val
    omega

/-- A vector of 64 loaded whole. -/
theorem row64_apply (a : Vec Ideal S1x64 .f32) (h) (x : Fin 64) : VecWindow.window (s := S1x64) a ![0, 0] S1x64.size h (ix2 0 x) = a (ix2 0 x) := by
  rw [VecWindow.window]
  refine congrArg a (funext fun b => Fin.ext ?_)
  rw [Rect.emb_apply]
  fin_cases b
  · rfl
  · show 0 + 1 * x.val = x.val
    omega

/-- A column of 128 loaded whole. -/
theorem col128_apply (a : Vec Ideal S128x1 .f32) (h) (x : Fin 128) : VecWindow.window (s := S128x1) a ![0, 0] S128x1.size h (ix2 x 0) = a (ix2 x 0) := by
  rw [VecWindow.window]
  refine congrArg a (funext fun b => Fin.ext ?_)
  rw [Rect.emb_apply]
  fin_cases b
  · show 0 + 1 * x.val = x.val
    omega
  · rfl

/-- The stored block, of an accumulator that holds two softmaxes' sums. -/
theorem outAcc_apply (a : Vec Ideal S144x3072 .f32) (l1 l2 l3 l4 : Vec Ideal S1x64 .f32) (g : Vec Ideal S128x1 .f32) (n : ℕ) (e : Fin 2 → ℕ → ℝ) (v : ℕ → Fin 128 → ℝ) (lam : ℝ) (w : Fin 1536) (d : Fin 128)
    (ha : ∀ (h : Fin 2) (r : Fin 144), a (ix2 r ⟨1536 * h.val + w.val, by have := w.isLt; have := h.isLt; omega⟩) = ((∑ k ∈ Finset.range n, e h k * wt v r k : ℝ) : EReal))
    (hl : Ideal.exp (∑ x : Fin 64, (l1 (ix2 0 x) : EReal) * l2 (ix2 0 x)) - Ideal.exp (∑ x : Fin 64, (l3 (ix2 0 x) : EReal) * l4 (ix2 0 x)) + Ideal.ofBits .f32 0x3E4CCCCD#32 = (lam : EReal)) :
    outAcc a l1 l2 l3 l4 g (ix2 w d) = rms (avgDiff n (e 0) (e 1) v lam) (fun y => g (ix2 y 0)) d := by
  have hn : ∀ (h : Fin 2) (r : Fin 128), a (ix2 ⟨r.val, by have := r.isLt; omega⟩ ⟨1536 * h.val + w.val, by have := w.isLt; have := h.isLt; omega⟩) = wsum n v (e h) r := by
    intro h r
    rw [ha, wsum]
    refine congrArg _ (Finset.sum_congr rfl fun k _ => ?_)
    unfold wt
    rw [dif_pos r.isLt]
  have ht : ∀ h : Fin 2, a (ix2 128 ⟨1536 * h.val + w.val, by have := w.isLt; have := h.isLt; omega⟩) = tot n (e h) := by
    intro h
    rw [ha, tot]
    refine congrArg _ (Finset.sum_congr rfl fun k _ => ?_)
    unfold wt
    rw [dif_neg (by decide), mul_one]
  have e0 : (⟨w.val, by have := w.isLt; omega⟩ : Fin 3072) = ⟨1536 * (0 : Fin 2).val + w.val, by have := w.isLt; show 1536 * 0 + w.val < 3072; omega⟩ := Fin.ext (by show w.val = 1536 * 0 + w.val; omega)
  have e1 : (⟨1536 + w.val, by have := w.isLt; omega⟩ : Fin 3072) = ⟨1536 * (1 : Fin 2).val + w.val, by have := w.isLt; show 1536 * 1 + w.val < 3072; omega⟩ := Fin.ext (by show 1536 + w.val = 1536 * 1 + w.val; omega)
  unfold outAcc
  rw [outOf_apply]
  have eg : (fun y : Fin 128 => (VecWindow.window (s := S128x1) g ![0, 0] S128x1.size inb_S128x1_S128x1_0_0 (ix2 y 0) : EReal)) = fun y => g (ix2 y 0) := funext fun y => col128_apply g _ y
  have ed : (fun y : Fin 128 => (diffVal a l1 l2 l3 l4 (ix2 y w) : EReal)) = avgDiff n (e 0) (e 1) v lam := by
    funext y
    unfold diffVal
    rw [diffOf_apply, lamOf_apply]
    have el := Eq.trans (congrArg₂ (fun a b : EReal => Ideal.exp a - Ideal.exp b + Ideal.ofBits .f32 0x3E4CCCCD#32)
      (Finset.sum_congr rfl fun x (_ : x ∈ (Finset.univ : Finset (Fin 64))) => congrArg₂ (fun a b : EReal => a * b) (row64_apply l1 inb_S1x64_S1x64_0_0 x) (row64_apply l2 inb_S1x64_S1x64_0_0 x))
      (Finset.sum_congr rfl fun x (_ : x ∈ (Finset.univ : Finset (Fin 64))) => congrArg₂ (fun a b : EReal => a * b) (row64_apply l3 inb_S1x64_S1x64_0_0 x) (row64_apply l4 inb_S1x64_S1x64_0_0 x))) hl
    have n0 := (rowsOf_apply a inb_S144x3072_S128x3072_0_0 y ⟨w.val, by have := w.isLt; omega⟩).trans ((congrArg (fun z => a (ix2 _ z)) e0).trans (hn 0 y))
    have n1 := (rowsOf_apply a inb_S144x3072_S128x3072_0_0 y ⟨1536 + w.val, by have := w.isLt; omega⟩).trans ((congrArg (fun z => a (ix2 _ z)) e1).trans (hn 1 y))
    have d0 := (totalOf_apply a inb_S144x3072_S1x3072_128_0 ⟨w.val, by have := w.isLt; omega⟩).trans ((congrArg (fun z => a (ix2 128 z)) e0).trans (ht 0))
    have d1 := (totalOf_apply a inb_S144x3072_S1x3072_128_0 ⟨1536 + w.val, by have := w.isLt; omega⟩).trans ((congrArg (fun z => a (ix2 128 z)) e1).trans (ht 1))
    exact congrArg₂ (fun a b : EReal => a - b) (congrArg₂ Ideal.div n0 d0) (congrArg₂ (fun a b : EReal => a * b) el (congrArg₂ Ideal.div n1 d1))
  exact congrArg₂ (fun D G => rms D G d) ed eg

variable (m : (ℓ : Loc nD τ sig) → Buf (Elt Ideal) ℓ) (c : Dev nD)

/-- The head of a point. -/
def head (t : Fin cfg0.N) : Fin 8 := ⟨t.val / 11, by have := point_lt t; omega⟩

/-- The queries. -/
abbrev qArg : FVec Ideal S16896x1024 .f32 := m ((c.tc : Thread nD τ).loc main_arg1)

/-- The lanes' scores are the reference's scores in the base of the exponential. -/
theorem score_eq (t : Fin cfg0.N) (a : Fin 2) (w : Fin 1536) (κ : ℕ) :
    score (iblk m c 1 t) (qzOf (iblk m c 0 t)) (grid0.coords t) ⟨1536 * a.val + w.val, by have := w.isLt; have := a.isLt; omega⟩ κ
      = scoreR (m ((c.tc : Thread nD τ).loc main_arg0)) (m ((c.tc : Thread nD τ).loc main_arg1)) a (head t) (qrow t w) κ * (c2 : EReal) := by
  have hw := w.isLt
  have ha := a.isLt
  have ht := point_lt t
  have em : (1536 * a.val + w.val) % 1536 = w.val := by omega
  unfold score scoreR
  simp only [em, coord1 t]
  by_cases h : κ ≤ t.val % 11 * 1536 + w.val ∧ 112 ≤ κ
  · have hκ : κ < 16896 := by omega
    rw [if_pos ⟨by omega, h.2⟩, dif_pos (show κ ≤ (qrow t w).val ∧ 112 ≤ κ from h)]
    unfold prod
    rw [dif_pos hκ, sum_c2]
    have hq : ∀ d : Fin 128, qzOf (iblk m c 0 t) (ix2 d ⟨1536 * a.val + w.val, by omega⟩) = if d.val / 64 = a.val then
        (qArg m c (ix2 (qrow t w) (hcol t d)) : EReal) * (((8 * Real.log 2)⁻¹ : ℝ) : EReal) else 0 := by
      intro d
      rw [qzOf_apply (iblk m c 0 t) a ⟨w.val / 768, by omega⟩ ⟨w.val % 768, by omega⟩ _ (by show 1536 * a.val + w.val = 1536 * a.val + 768 * (w.val / 768) + w.val % 768; omega) d, block0]
      have ew : (⟨768 * (w.val / 768) + w.val % 768, by omega⟩ : Fin 1536) = w := Fin.ext (by show 768 * (w.val / 768) + w.val % 768 = w.val; omega)
      simp only [ew]
    rw [half_sum _ a (fun d hd => by rw [hq, if_neg hd, mul_zero])]
    refine Finset.sum_congr rfl fun x _ => ?_
    have hx := x.isLt
    rw [hq, if_pos (by show (64 * a.val + x.val) / 64 = a.val; omega), block1, qs_eq]
    have ec : hcol t ⟨64 * a.val + x.val, by omega⟩ = ⟨(head t).val * 128 + a.val * 64 + x.val, by show t.val / 11 * 128 + a.val * 64 + x.val < 1024; omega⟩ := Fin.ext (by
      show t.val / 11 * 128 + (64 * a.val + x.val) = t.val / 11 * 128 + a.val * 64 + x.val; omega)
    have ek : kcol t ⟨64 * a.val + x.val, by omega⟩ = ⟨2048 + ((head t).val * 128 + a.val * 64 + x.val), by show 2048 + (t.val / 11 * 128 + a.val * 64 + x.val) < 5120; omega⟩ := Fin.ext (by
      show 2048 + (t.val / 11 * 128 + (64 * a.val + x.val)) = 2048 + (t.val / 11 * 128 + a.val * 64 + x.val); omega)
    rw [ec, ek, mul_comm, ← mul_assoc, mul_right_comm]
  · rw [if_neg (fun e => h ⟨by omega, e.2⟩), dif_neg (show ¬(κ ≤ (qrow t w).val ∧ 112 ≤ κ) from h), bot_mul_c2]

variable (lam : ℝ) (hv : ∀ (κ : Fin 16896) (D : Fin 1024), ∃ r : ℝ, m ((c.tc : Thread nD τ).loc main_arg2) (ix2 κ D) = (r : EReal))
  (hl : Cert.Reference2Ideal.Attn.lamR (m ((c.tc : Thread nD τ).loc main_arg3)) (m ((c.tc : Thread nD τ).loc main_arg4)) (m ((c.tc : Thread nD τ).loc main_arg5)) (m ((c.tc : Thread nD τ).loc main_arg6)) ix0 = (lam : EReal))

/-- The result on the operands found. -/
abbrev res (R : Fin 16896) (x : Fin 8) (d : Fin 128) : EReal :=
  result (m ((c.tc : Thread nD τ).loc main_arg0)) (m ((c.tc : Thread nD τ).loc main_arg1)) (m ((c.tc : Thread nD τ).loc main_arg2)) lam (m ((c.tc : Thread nD τ).loc main_arg7)) R x d

include hv hl

/-- A point stores its rows of the result. -/
theorem outBlock_apply (t : Fin cfg0.N) (w : Fin 1536) (d : Fin 128) : outBlock m c t (ix2 w d) = res m c lam (qrow t w) (head t) d := by
  have hvt : ∀ (j : Fin 22) (d : Fin 128) (x : Fin 768), iblk m c 2 t (ix3 j d x) = ((vreal (m ((c.tc : Thread nD τ).loc main_arg2)) (head t) (768 * j.val + x.val) d : ℝ) : EReal) := by
    intro j d x
    have hj := j.isLt
    have hx := x.isLt
    rw [block2]
    unfold vreal
    rw [dif_pos (by omega)]
    obtain ⟨r, hr⟩ := hv (trow j x) (hcol t d)
    have e : m ((c.tc : Thread nD τ).loc main_arg2) (ix2 ⟨768 * j.val + x.val, by omega⟩ ⟨(head t).val * 128 + d.val, by have := (head t).isLt; have := d.isLt; omega⟩) = (r : EReal) := hr
    rw [hr, e, EReal.toReal_coe]
  unfold outBlock outVal
  rw [outAcc_apply _ _ _ _ _ _ 16896 (fun a => ew (scoreR (m ((c.tc : Thread nD τ).loc main_arg0)) (m ((c.tc : Thread nD τ).loc main_arg1)) a (head t) (qrow t w)) 16896)
    (vreal (m ((c.tc : Thread nD τ).loc main_arg2)) (head t)) lam w d ?_ ?_]
  · rw [rms_eq _ _ _ _ _ (fun k => ew_nonneg _ _ k) (fun k => ew_nonneg _ _ k)]
    simp only [block7]
    rfl
  · intro a r
    obtain ⟨mx, h⟩ := accOut_on (iblk m c 2 t) (iblk m c 1 t) (vreal (m ((c.tc : Thread nD τ).loc main_arg2)) (head t)) (grid0.coords t) (iblk m c 0 t) hvt r ⟨1536 * a.val + w.val, by have := w.isLt; have := a.isLt; omega⟩
    rw [show score (iblk m c 1 t) (qzOf (iblk m c 0 t)) (grid0.coords t) ⟨1536 * a.val + w.val, by have := w.isLt; have := a.isLt; omega⟩ = _ from funext (score_eq m c t a w)] at h
    exact On.plain h
  · simp only [block3, block4, block5, block6]
    exact (Cert.Reference2Ideal.Attn.lam_apply _ _ _ _).symm.trans hl

/-- The result array after the run. -/
theorem out_eq : (dats m 0 c).arrAt 8 cfg0.N = fun i : S16896x1024.Idx =>
    res m c lam (i 0) ⟨(i 1).val / 128, by have : (i 1).val < 1024 := (i 1).isLt; omega⟩ ⟨(i 1).val % 128, Nat.mod_lt _ (by decide)⟩ := by
  refine (dats m 0 c).arrAt_eq_of_covers 8 _ (by decide +kernel) fun t hf y => ?_
  blk_simp
  rw [after_out]
  obtain ⟨r, d, rfl⟩ : ∃ (r : Fin 1536) (d : Fin 128), y = ix2 r d := ⟨y 0, y 1, eq_ix2 y⟩
  have hd := d.isLt
  refine (outBlock_apply m c lam hv hl t r d).trans ?_
  have e1 : ∀ {R R' : Fin 16896} {x x' : Fin 8} {d d' : Fin 128}, R = R' → x = x' → d = d' → res m c lam R x d = res m c lam R' x' d' := by
    rintro _ _ _ _ _ _ rfl rfl rfl; rfl
  refine e1 ?_ ?_ ?_
  · refine Fin.ext ?_
    blk_simp [idx t]
    try rfl
  · refine Fin.ext ?_
    blk_simp [idx t]
    show t.val / 11 = (t.val / 11 * 128 + d.val) / 128
    omega
  · refine Fin.ext ?_
    blk_simp [idx t]
    show d.val = (t.val / 11 * 128 + d.val) % 128
    omega

end Cert.Kernel2Ideal.Attn
-- ==== Proof.Same2.lean ====
module

public import proofs.«01_k».proof.Defs
public import proofs.«01_k».proof.Proof.Gen.Kernel2
public import proofs.«01_k».proof.Proof.Gen.Kernel2Ideal

/-!
The attention kernel is the text of its idealization where each named constant is read by its bits: their body tables are equal.
-/

@[expose] public section

set_option maxRecDepth 16384

noncomputable section

namespace Cert.Proof

open Idealize.ShloMosaic

/-- A named constant over machine floats is the float of its bits. -/
@[reducible] def namedBits : Named Bits where
  named _ _ {φ} bits := Scalar.ofBits φ bits

attribute [local instance] namedBits

/-- The bodies are equal. -/
theorem same_body2 : @Cert.Kernel2.cc0_diff_attn Bits _ _ = @Cert.Kernel2Ideal.cc0_diff_attn Bits _ _ _ := rfl

/-- The kernels' tables are equal. -/
theorem same_table2 : Cert.Kernel2.defs₀ (F := Bits) = Cert.Kernel2Ideal.defs₀ (F := Bits) := by
  unfold Cert.Kernel2.defs₀ Cert.Kernel2Ideal.defs₀
  refine congrArg (Defs.onTc (Λ := Cert.Kernel2Ideal.Λ₀)) (funext fun l => funext fun a => ?_)
  match l, a with
  | ⟨0, _⟩, (t, s) =>
    exact (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun same_body2 _) _) _) _) _) _) _) _) _) _) _) _) _) _) _) _) _) _) _) _) _) _) _) _) _) _) _) _) _) _) _) _) _)
  | ⟨_ + 1, h⟩, _ => exact absurd h (Nat.not_lt.2 (Nat.le_add_left _ _))

/-- The whole tables are equal. -/
theorem same_defs2 : Cert.Kernel2.defs (F := Bits) = Cert.Kernel2Ideal.defs (F := Bits) :=
  congrArg (Pipeline.defs (Cert.Kernel2Ideal.pcfgs (F := Bits))) same_table2

end Cert.Proof
-- ==== Proof.AttnPre.lean ====
module

public import proofs.«01_k».proof.Proof.AttnMax
public import proofs.«01_k».proof.Proof.Gen.Pre_finite
public import Idealize.ShloMosaic.Lib.ReduceAll

/-!
What the attention's precondition says: the values and the four vectors are real.
-/

@[expose] public section

set_option maxRecDepth 16384

noncomputable section

namespace Cert.Pre_finite.Attn

open Idealize.ShloMosaic Idealize.SL.Sem Idealize.ShloMosaic.Tactic
open Cert.Pre_finite Cert.Pre_finite.Gen
open scoped BigOperators

/-- The printed infinity. -/
theorem ofBits_top : Ideal.ofBits .f32 0x7F800000#32 = (⊤ : EReal) := by simp [Ideal.ofBits, Ideal.ieee]

/-- A number whose absolute value is below infinity is real. -/
theorem real_of_abs (x : EReal) (h : max x (-x) < ⊤) : ∃ r : ℝ, x = (r : EReal) := by
  induction x with
  | bot => exact absurd h (by rw [EReal.neg_bot, max_eq_right bot_le]; exact lt_irrefl _)
  | coe r => exact ⟨r, rfl⟩
  | top => exact absurd h (by rw [EReal.neg_top, max_eq_left bot_le]; exact lt_irrefl _)

/-- A bit that is one decides its proposition. -/
theorem of_bit {p : Prop} [Decidable p] (h : BitVec.ofBool (decide p) = 1#1) : p := by
  by_contra hn
  rw [decide_eq_false hn] at h
  exact absurd h (by decide)

/-- Both of two bits that are one together. -/
theorem andi_split {a b : IVec S_ 1} (h : andi a b ix0 = 1#1) : a ix0 = 1#1 ∧ b ix0 = 1#1 := by
  have key : ∀ x y : BitVec 1, x &&& y = 1#1 → x = 1#1 ∧ y = 1#1 := by decide
  exact key _ _ h

/-- A vector whose absolute values are all below infinity is real. -/
theorem real64 (a : FVec Ideal S64 .f32)
    (h : Host.reduce IntOp.andi (cmpf .olt (Host.absf a) (broadcastInDim S64 ![] bcast_S_S64 (constant S_ .f32 0x7F800000#32))) (constantI S_ 1 1#1) reducesTo_S64_S_d0 h_S_ ix0 = 1#1)
    (x : Fin 64) : ∃ r : ℝ, a (ix1 x) = (r : EReal) := by
  have h2 := Host.reduce_andi_all _ _ _ _ ix0 h (ix1 x)
  pointwise [] at h2
  rw [ofBits_top] at h2
  exact real_of_abs _ (of_bit h2)

/-- A table whose absolute values are all below infinity is real. -/
theorem realTable (a : FVec Ideal S16896x1024 .f32)
    (h : Host.reduce IntOp.andi (cmpf .olt (Host.absf a) (broadcastInDim S16896x1024 ![] bcast_S_S16896x1024 (constant S_ .f32 0x7F800000#32))) (constantI S_ 1 1#1) reducesTo_S16896x1024_S_d0_1 h_S_ ix0 = 1#1)
    (κ : Fin 16896) (D : Fin 1024) : ∃ r : ℝ, a (ix2 κ D) = (r : EReal) := by
  have h2 := Host.reduce_andi_all _ _ _ _ ix0 h (ix2 κ D)
  pointwise [] at h2
  rw [ofBits_top] at h2
  exact real_of_abs _ (of_bit h2)

/-- The precondition makes the values and the four vectors real. -/
theorem all_real (p : FVec Ideal S16896x5120 .f32) (q v : FVec Ideal S16896x1024 .f32) (a b d e : FVec Ideal S64 .f32) (g : FVec Ideal S128 .f32) (h : fn p q v a b d e g ix0 = 1#1) :
    (∀ (κ : Fin 16896) (D : Fin 1024), ∃ r : ℝ, v (ix2 κ D) = (r : EReal)) ∧ (∀ x : Fin 64, ∃ r : ℝ, a (ix1 x) = (r : EReal)) ∧ (∀ x : Fin 64, ∃ r : ℝ, b (ix1 x) = (r : EReal))
      ∧ (∀ x : Fin 64, ∃ r : ℝ, d (ix1 x) = (r : EReal)) ∧ ∀ x : Fin 64, ∃ r : ℝ, e (ix1 x) = (r : EReal) := by
  unfold fn fn_part1 at h
  obtain ⟨h, h4⟩ := andi_split h
  obtain ⟨h, h3⟩ := andi_split h
  obtain ⟨h, h2⟩ := andi_split h
  obtain ⟨h0, h1⟩ := andi_split h
  exact ⟨realTable v h0, real64 a h1, real64 b h2, real64 d h3, real64 e h4⟩

/-- The exponential of a product of real vectors is real. -/
theorem exp_real (a b : Fin 64 → EReal) (ha : ∀ x, ∃ r : ℝ, a x = (r : EReal)) (hb : ∀ x, ∃ r : ℝ, b x = (r : EReal)) : ∃ r : ℝ, Ideal.exp (∑ x, a x * b x) = (r : EReal) := by
  choose a' ha' using ha
  choose b' hb' using hb
  have e : ∑ x, a x * b x = ((∑ x, a' x * b' x : ℝ) : EReal) := by
    rw [Cert.Attn.coe_sum']
    refine Finset.sum_congr rfl fun x _ => ?_
    rw [ha', hb', EReal.coe_mul]
  rw [e]
  exact ⟨_, rfl⟩

/-- The printed constant 0.2 is real. -/
theorem ofBits_fifth : ∃ r : ℝ, Ideal.ofBits .f32 0x3E4CCCCD#32 = (r : EReal) := by
  simp only [Ideal.ofBits, Ideal.ieee]
  rw [if_neg (by decide), if_neg (by decide)]
  exact ⟨_, rfl⟩

/-- The weight of the second softmax is real. -/
theorem lam_real (a b d e : FVec Ideal S64 .f32) (ha : ∀ x : Fin 64, ∃ r : ℝ, a (ix1 x) = (r : EReal)) (hb : ∀ x : Fin 64, ∃ r : ℝ, b (ix1 x) = (r : EReal))
    (hd : ∀ x : Fin 64, ∃ r : ℝ, d (ix1 x) = (r : EReal)) (he : ∀ x : Fin 64, ∃ r : ℝ, e (ix1 x) = (r : EReal)) : ∃ lam : ℝ, Cert.Reference2Ideal.Attn.lamR a b d e ix0 = (lam : EReal) := by
  obtain ⟨r1, h1⟩ := exp_real (fun x => a (ix1 x)) (fun x => b (ix1 x)) ha hb
  obtain ⟨r2, h2⟩ := exp_real (fun x => d (ix1 x)) (fun x => e (ix1 x)) hd he
  obtain ⟨r3, h3⟩ := ofBits_fifth
  refine ⟨r1 - r2 + r3, ?_⟩
  rw [Cert.Reference2Ideal.Attn.lam_apply, h1, h2, h3, EReal.coe_add, EReal.coe_sub]

end Cert.Pre_finite.Attn
-- ==== Proof.AttnClaim.lean ====
module

public import proofs.«01_k».proof.Proof.AttnOut
public import proofs.«01_k».proof.Proof.Same2
public import proofs.«01_k».proof.Proof.AttnPre
public import Idealize.ShloMosaic.Adequacy
public import Idealize.ShloMosaic.Init

/-!
The attention call's claims.
-/

@[expose] public section

set_option maxRecDepth 16384

noncomputable section

namespace Cert.Proof

open Idealize.ShloMosaic Idealize.SL.Sem
open scoped BigOperators

attribute [local instance] namedBits

/-! ## The frames -/

/-- The attention kernel's frame, from the one run over any floats. -/
theorem frame_kernel2 : Cert.quiescent_Kernel2 := fun m ρ _ =>
  Eq.mpr (congrArg (fun D => θ_run D (onTc (τ := Cert.Kernel2Ideal.τ) (Cert.Kernel2Ideal.main (F := Bits))) ⟨m, fun _ => 0, ρ⟩ _) same_defs2)
    (Cert.Kernel2Ideal.Attn.frame_all (F := Bits) m ρ)

/-- The idealized attention kernel's frame. -/
theorem frame_ideal2 : Cert.quiescent_Kernel2Ideal := fun m ρ _ => Cert.Kernel2Ideal.Attn.frame_all (F := Ideal) m ρ

/-- The same under the precondition. -/
theorem frame_ideal2_pre : Cert.quiescent_Kernel2Ideal_pre_finite := fun m ρ _ => Cert.Kernel2Ideal.Attn.frame_all (F := Ideal) m ρ

/-- The attention reference's frame. -/
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The same under the precondition. -/
theorem frame_reference2_pre : Cert.quiescent_Reference2Ideal_pre_finite := fun m ρ _ => frame_reference2 m ρ trivial

/-! ## The named constants -/

/-- The two named constants have the values that the table gives them. -/
theorem preserves2 : Cert.preserves_Kernel2_Kernel2Ideal :=
  ⟨IdealRules.named_const.statement _ _ _ _ _ rfl, IdealRules.named_const.statement _ _ _ _ _ rfl⟩

/-! ## The value -/

/-- The attention's result on the operands found, with `lam` for the weight of the second softmax. -/
abbrev attn (m : (ℓ : Loc Cert.Kernel2Ideal.nD Cert.Kernel2Ideal.τ Cert.Kernel2Ideal.sig) → Buf (Elt Ideal) ℓ) (lam : ℝ) (c : Dev Cert.Kernel2Ideal.nD) : Cert.Kernel2Ideal.S16896x1024.Idx → EReal := fun i =>
  Cert.Kernel2Ideal.Attn.res m c lam (i 0) ⟨(i 1).val / 128, by have : (i 1).val < 1024 := (i 1).isLt; omega⟩ ⟨(i 1).val % 128, Nat.mod_lt _ (by decide)⟩

/-- The attention kernel's run with its result. -/
theorem run_kernel2 (m : (ℓ : Loc Cert.Kernel2Ideal.nD Cert.Kernel2Ideal.τ Cert.Kernel2Ideal.sig) → Buf (Elt Ideal) ℓ) (ρ : Dev Cert.Kernel2Ideal.nD → PrngReg) (lam : Dev Cert.Kernel2Ideal.nD → ℝ)
    (hv : ∀ (c : Dev Cert.Kernel2Ideal.nD) (κ : Fin 16896) (D : Fin 1024), ∃ r : ℝ, m ((c.tc : Thread Cert.Kernel2Ideal.nD Cert.Kernel2Ideal.τ).loc Cert.Kernel2Ideal.main_arg2) (ix2 κ D) = (r : EReal))
    (hl : ∀ c : Dev Cert.Kernel2Ideal.nD, Cert.Reference2Ideal.Attn.lamR (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) ix0 = (lam c : EReal)) :
    θ_run (Cert.Kernel2Ideal.defs (F := Ideal)) (onTc (τ := Cert.Kernel2Ideal.τ) (Cert.Kernel2Ideal.main (F := Ideal))) ⟨m, fun _ => 0, ρ⟩ (fun r =>
      (∀ c : Dev Cert.Kernel2Ideal.nD, r.2.mem ((c.tc : Thread Cert.Kernel2Ideal.nD Cert.Kernel2Ideal.τ).loc Cert.Kernel2Ideal.main_v11) = attn m (lam c) c)) :=
  (θ_run Cert.Kernel2Ideal.defs _ _).mono (fun _ h c => ((h c).1 8).trans (Cert.Kernel2Ideal.Attn.out_eq m c (lam c) (hv c) (hl c)))
    (Cert.Kernel2Ideal.Attn.run_post (F := Ideal) m ρ)

/-- The attention reference's result. -/
theorem run_reference2 (m : (ℓ : Loc Cert.Reference2Ideal.nD Cert.Reference2Ideal.τ Cert.Reference2Ideal.sig) → Buf (Elt Ideal) ℓ) (c : Dev Cert.Reference2Ideal.nD) (lam : ℝ)
    (hv : ∀ (κ : Fin 16896) (D : Fin 1024), ∃ r : ℝ, m ((c.tc : Thread Cert.Reference2Ideal.nD Cert.Reference2Ideal.τ).loc Cert.Reference2Ideal.main_arg2) (ix2 κ D) = (r : EReal))
    (hl : Cert.Reference2Ideal.Attn.lamR (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) ix0 = (lam : EReal)) :
    Cert.Reference2Ideal.Value.res_main_v80 m c = fun i : Cert.Reference2Ideal.S16896x1024.Idx =>
      Cert.Reference2Ideal.Attn.result (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) lam (m ((c.tc : Thread Cert.Reference2Ideal.nD Cert.Reference2Ideal.τ).loc Cert.Reference2Ideal.main_arg7)) (i 0)
        ⟨(i 1).val / 128, by have : (i 1).val < 1024 := (i 1).isLt; omega⟩ ⟨(i 1).val % 128, Nat.mod_lt _ (by decide)⟩ := by
  funext i
  obtain ⟨R, D, rfl⟩ : ∃ (R : Fin 16896) (D : Fin 1024), i = ix2 R D := ⟨i 0, i 1, eq_ix2 i⟩
  exact Cert.Reference2Ideal.Attn.out_apply m c lam hv hl R D _ _ (by show D.val = D.val / 128 * 128 + D.val % 128; omega)

/-- Attention kernel and reference end with equal results. -/
theorem value2 : Cert.algebraic_Kernel2Ideal_Reference2Ideal_pre_finite := fun m g m' g' hpre hag => by
  have hr := fun c => Cert.Pre_finite.Attn.all_real _ _ _ _ _ _ _ _ (congrFun (hpre c) ix0)
  have hlam := fun c => Cert.Pre_finite.Attn.lam_real _ _ _ _ (hr c).2.1 (hr c).2.2.1 (hr c).2.2.2.1 (hr c).2.2.2.2
  choose lam hl using hlam
  refine ⟨fun c => attn m (lam c) c,
    (θ_run Cert.Kernel2Ideal.defs _ _).mono (fun _ h c => ⟨h.1 c, h.2.1 c⟩)
      (θ_run_and (run_kernel2 m g lam (fun c => (hr c).1) hl) (Cert.Kernel2Ideal.Attn.frame_all (F := Ideal) m g)),
    (θ_run Cert.Reference2Ideal.defs _ _).mono (fun _ h c => ⟨(h c).1.trans ?_, (h c).2⟩)
      (Cert.Reference2Ideal.Value.run (F := Ideal) m' g')⟩
  obtain ⟨h0, h1, h2, h3, h4, h5, h6, h7⟩ := hag c
  refine (run_reference2 m' c (lam c) ?_ ?_).trans ?_
  · rw [h2]; exact (hr c).1
  · rw [h3, h4, h5, h6]; exact hl c
  · rw [h0, h1, h2, h7]

end Cert.Proof
-- ==== Proof.Body.lean ====
module

public import proofs.«01_k».proof.Proof.Gen.KernelIdeal.Frame
public import proofs.«01_k».proof.Proof.Gen.KernelIdeal.Loops
public import Idealize.ShloMosaic.Lib.Pipeline.FrameBody
public import Idealize.ShloMosaic.Lib.Ring
public import Idealize.ShloMosaic.Lib.VecWindow
public import Idealize.ShloMosaic.Lib.Tactic
public import Idealize.ShloMosaic.Lib.WordCmp

/-!
The body of the expert kernel at one grid point, for any float type `F`: what each of its three kinds of point (the first
expert of a row tile, a middle expert, the last expert) leaves in its buffers, as plain functions of the blocks it reads.
-/

@[expose] public section

set_option maxRecDepth 16384

noncomputable section

namespace Cert.KernelIdeal

open Idealize.ShloMosaic

/-- Signed division by one changes nothing. -/
theorem divsi_one (x : BitVec 32) : Scalar.divsi x 1#32 = x := by
  unfold Scalar.divsi IntOp.divsi
  rw [if_neg (by unfold IntOp.SDivCorner; rintro (h | ⟨_, h⟩) <;> exact absurd h (by decide))]
  exact BitVec.sdiv_one

/-- A product by one changes nothing. -/
theorem muli_one (x : BitVec 32) : Scalar.muli x 1#32 = x := BitVec.mul_one x
/-- A sum with zero changes nothing. -/
theorem zero_addi (x : BitVec 32) : Scalar.addi 0#32 x = x := BitVec.zero_add x
/-- A difference with zero changes nothing. -/
theorem subi_zero (x : BitVec 32) : Scalar.subi x 0#32 = x := BitVec.sub_zero x

/-- A loop by steps of one from `a` to `b` never overflows its counter. -/
theorem ok_step_one (a b : BitVec 32) : Scf.OK a b 1#32 := by
  refine ⟨by decide, ?_⟩
  have h1 : (1#32 : BitVec 32).toInt = 1 := by decide
  have ha := BitVec.toInt_lt (x := a)
  have hb := BitVec.toInt_lt (x := b)
  unfold Scf.trips
  rw [h1]
  omega

/-- The number of blocks of 256 slots that `v` tokens take, as the kernel computes it. -/
def blocks (v : BitVec 32) : BitVec 32 := (k0_t1_loop v).ub

/-- The first loop runs from zero. -/
theorem loop1_lb (v : BitVec 32) : (k0_t1_loop v).lb = 0#32 := rfl
/-- The second loop starts where the first one ends and ends there. -/
theorem loop2_empty (v : BitVec 32) : (k0_t2_loop v).ub = (k0_t2_loop v).lb := by
  show Scalar.addi 0#32 (Scalar.subi _ 0#32) = Scalar.addi 0#32 (Scalar.muli (Scalar.divsi (Scalar.subi _ 0#32) 1#32) 1#32)
  rw [divsi_one, muli_one]

/-- The second loop makes no trip. -/
theorem loop2_trips (v : BitVec 32) : (k0_t2_loop v).trips = 0 := by
  show Scf.trips (k0_t2_loop v).lb (k0_t2_loop v).ub 1#32 = 0
  rw [loop2_empty]
  unfold Scf.trips
  have h1 : (1#32 : BitVec 32).toInt = 1 := by decide
  rw [h1]; omega

/-- The side condition the body assumes of the token count holds of every word. -/
theorem k0_chk1_all : ∀ v17 : BitVec 32, k0_chk1 v17 := fun v =>
  ⟨ok_step_one _ _, ok_step_one _ _⟩

namespace Moe

open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## What a point computes -/

/-- One block of 256 slots added into the accumulator: the rows gathered for the slots, run through the expert, scaled by
    their weights and put back at their tokens. -/
def stepAcc (w : Vec F S1x1536 .f32) (rk : Vec F S1x1536 .f32) (v : BitVec 32) (x2 x3 x4 : Vec F S1x1024x1024 .bf16)
    (xb : Vec F S1536x1024 .bf16) (k : Fin (k0_t1_loop v).trips) (acc : Vec F S1536x1024 .f32) : Vec F S1536x1024 .f32 :=
  k0_pay1 (k0_pay5 (k0_pay16 w) rk v 0#32 1#32 k) (k0_pay6 (k0_pay15 w) (k0_pay16 w) rk v 0#32 1#32 k)
    (k0_pay7 (k0_pay16 w) rk v 0#32 1#32 k xb x2 x3) x4 acc

/-- The accumulator after `n` blocks. -/
def accAfter (w : Vec F S1x1536 .f32) (rk : Vec F S1x1536 .f32) (v : BitVec 32) (x2 x3 x4 : Vec F S1x1024x1024 .bf16)
    (xb : Vec F S1536x1024 .bf16) (acc : Vec F S1536x1024 .f32) : ℕ → Vec F S1536x1024 .f32
  | 0 => acc
  | n + 1 => if h : n < (k0_t1_loop v).trips then stepAcc w rk v x2 x3 x4 xb ⟨n, h⟩ (accAfter w rk v x2 x3 x4 xb acc n)
      else accAfter w rk v x2 x3 x4 xb acc n

/-- The row of a table of 16 rows that belongs to the point's expert. -/
def erow (x : Vec F S16x1536 .f32) (i : grid0.Coords) : Vec F S1x1536 .f32 :=
  VecWindow.window x (k0_off1 i) S1x1536.size (k0_off1_inb i)

/-- The count of tokens with a positive weight, as a word. -/
def cnt (w : Vec F S1x1536 .f32) : BitVec 32 := Scalar.fptosi 32 (k0_pay17 w)

/-- The accumulator after the point's expert: every block of its tokens added. -/
def expert (i : grid0.Coords) (x1 : Vec F S16x1536 .f32) (rk : Vec F S16x1536 .f32) (x2 x3 x4 : Vec F S1x1024x1024 .bf16)
    (xb : Vec F S1536x1024 .bf16) (acc : Vec F S1536x1024 .f32) : Vec F S1536x1024 .f32 :=
  accAfter (erow x1 i) (erow rk i) (cnt (erow x1 i)) x2 x3 x4 xb acc (k0_t1_loop (cnt (erow x1 i))).trips

/-! ## The loops -/

/-- One trip of the first loop leaves `stepAcc` of what it finds. -/
theorem trip_read (c : Dev nD) (i : grid0.Coords) (arg2 : Memref sig .tc .vmem S1536x1024 .f32) (harg2 : arg2.IsWhole) (arg3 : Memref sig .tc .vmem S16x1536 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1536x1024 .f32) (harg9 : arg9.IsWhole) (arg10 : Memref sig .tc .vmem S1536x1024 .bf16) (harg10 : arg10.IsWhole) (arg11 : Memref sig .tc .vmem S1536x1024 .f32) (harg11 : arg11.IsWhole) (arg12 : Memref sig .tc .vmem S16x1536 .f32) (harg12 : arg12.IsWhole) (w rk : Vec F S1x1536 .f32) (v : BitVec 32) (hw : k0_chk1 v) (X4 : BufTy.Contents (Elt F) arg4.view.ty) (X5 : BufTy.Contents (Elt F) arg5.view.ty) (X6 : BufTy.Contents (Elt F) arg6.view.ty) (X10 : BufTy.Contents (Elt F) arg10.view.ty)
    (k : Fin (k0_t1_loop v).trips) (f f' : BufTy.Contents (Elt F) arg11.view.ty) :
    arg11.view.read (Elt F) (arg11.view.writes (Elt F) f' (tripL_k0_t1 (F := F) Variants.none c none i arg2 harg2 arg3 harg3 arg4 harg4 arg5 harg5 arg6 harg6 arg7 harg7 arg8 harg8 arg9 harg9 arg10 harg10 arg11 harg11 arg12 harg12 (k0_pay15 w) (k0_pay16 w) rk v hw 0#32 X4 X5 X6 X10 k f))
      = stepAcc w rk v (arg4.view.read (Elt F) X4) (arg5.view.read (Elt F) X5) (arg6.view.read (Elt F) X6) (arg10.view.read (Elt F) X10) k (arg11.view.read (Elt F) f) := by
  unfold tripL_k0_t1 trip_k0_t1
  dsimp only
  refine (View.read_writes_full arg11.view f' inb_S1536x1024_S1536x1024_0_0 _ []).trans ?_
  unfold stepAcc
  have e4 := View.readAt_full arg4.view X4 inb_S1x1024x1024_S1x1024x1024_0_0_0
  have e5 := View.readAt_full arg5.view X5 inb_S1x1024x1024_S1x1024x1024_0_0_0
  have e6 := View.readAt_full arg6.view X6 inb_S1x1024x1024_S1x1024x1024_0_0_0
  have e10 := View.readAt_full arg10.view X10 inb_S1536x1024_S1536x1024_0_0
  have e11 := View.readAt_full arg11.view f inb_S1536x1024_S1536x1024_0_0
  rw [← e4, ← e5, ← e6, ← e10, ← e11]
  rfl

/-- The first loop's trips before `n` leave `accAfter`. -/
theorem loop_read (c : Dev nD) (i : grid0.Coords) (arg2 : Memref sig .tc .vmem S1536x1024 .f32) (harg2 : arg2.IsWhole) (arg3 : Memref sig .tc .vmem S16x1536 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1536x1024 .f32) (harg9 : arg9.IsWhole) (arg10 : Memref sig .tc .vmem S1536x1024 .bf16) (harg10 : arg10.IsWhole) (arg11 : Memref sig .tc .vmem S1536x1024 .f32) (harg11 : arg11.IsWhole) (arg12 : Memref sig .tc .vmem S16x1536 .f32) (harg12 : arg12.IsWhole) (w rk : Vec F S1x1536 .f32) (v : BitVec 32) (hw : k0_chk1 v) (X4 : BufTy.Contents (Elt F) arg4.view.ty) (X5 : BufTy.Contents (Elt F) arg5.view.ty) (X6 : BufTy.Contents (Elt F) arg6.view.ty) (X10 : BufTy.Contents (Elt F) arg10.view.ty)
    (G : BufTy.Contents (Elt F) arg11.view.ty) : ∀ n : ℕ, n ≤ (k0_t1_loop v).trips →
    arg11.view.read (Elt F) (arg11.view.writes (Elt F) G (pb_k0_t1 (F := F) Variants.none c none i arg2 harg2 arg3 harg3 arg4 harg4 arg5 harg5 arg6 harg6 arg7 harg7 arg8 harg8 arg9 harg9 arg10 harg10 arg11 harg11 arg12 harg12 (k0_pay15 w) (k0_pay16 w) rk v hw 0#32 X4 X5 X6 X10 G n))
      = accAfter w rk v (arg4.view.read (Elt F) X4) (arg5.view.read (Elt F) X5) (arg6.view.read (Elt F) X6) (arg10.view.read (Elt F) X10) (arg11.view.read (Elt F) G) n
  | 0, _ => rfl
  | n + 1, h => by
    have ih := loop_read c i arg2 harg2 arg3 harg3 arg4 harg4 arg5 harg5 arg6 harg6 arg7 harg7 arg8 harg8 arg9 harg9 arg10 harg10 arg11 harg11 arg12 harg12 w rk v hw X4 X5 X6 X10 G n (Nat.le_of_succ_le h)
    have e := pb_k0_t1_succ (F := F) Variants.none c none i arg2 harg2 arg3 harg3 arg4 harg4 arg5 harg5 arg6 harg6 arg7 harg7 arg8 harg8 arg9 harg9 arg10 harg10 arg11 harg11 arg12 harg12 (k0_pay15 w) (k0_pay16 w) rk v hw 0#32 X4 X5 X6 X10 G ⟨n, h⟩
    rw [e, View.writes_append, trip_read, ih]
    have hlt : n < (k0_t1_loop v).trips := h
    simp only [accAfter, dif_pos hlt]

/-- The second loop writes nothing. -/
theorem loop2_nil (c : Dev nD) (i : grid0.Coords) (arg2 : Memref sig .tc .vmem S1536x1024 .f32) (harg2 : arg2.IsWhole) (arg3 : Memref sig .tc .vmem S16x1536 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1536x1024 .f32) (harg9 : arg9.IsWhole) (arg10 : Memref sig .tc .vmem S1536x1024 .bf16) (harg10 : arg10.IsWhole) (arg11 : Memref sig .tc .vmem S1536x1024 .f32) (harg11 : arg11.IsWhole) (arg12 : Memref sig .tc .vmem S16x1536 .f32) (harg12 : arg12.IsWhole) (v : BitVec 32) (hw : k0_chk1 v) (v41 : BitVec 32) (X4 : BufTy.Contents (Elt F) arg4.view.ty) (X5 : BufTy.Contents (Elt F) arg5.view.ty) (X6 : BufTy.Contents (Elt F) arg6.view.ty) (X10 : BufTy.Contents (Elt F) arg10.view.ty)
    (v5 : FVec F S1x1536 .f32) (v7 : IVec S1x1536 1) (rk : Vec F S1x1536 .f32) (G : BufTy.Contents (Elt F) arg11.view.ty) :
    pb_k0_t2 (F := F) Variants.none c none i arg2 harg2 arg3 harg3 arg4 harg4 arg5 harg5 arg6 harg6 arg7 harg7 arg8 harg8 arg9 harg9 arg10 harg10 arg11 harg11 arg12 harg12 v5 v7 rk v hw v41 X4 X5 X6 X10 G (k0_t2_loop v).trips = [] := by
  have e : ∀ n, n = 0 → pb_k0_t2 (F := F) Variants.none c none i arg2 harg2 arg3 harg3 arg4 harg4 arg5 harg5 arg6 harg6 arg7 harg7 arg8 harg8 arg9 harg9 arg10 harg10 arg11 harg11 arg12 harg12 v5 v7 rk v hw v41 X4 X5 X6 X10 G n = [] := fun n hn => by subst hn; rfl
  exact e _ (loop2_trips v)

/-- A point's expert row, as the body loads it. -/
theorem load_row (m : Memref sig .tc .vmem S16x1536 .f32) (f : BufTy.Contents (Elt F) m.view.ty) (i : grid0.Coords) :
    View.readAt (Elt F) m.view (Rect.unit (s := S16x1536) (k0_off1 i) S1x1536.size (k0_off1_inb i)).toLoadRect f = erow (m.view.read (Elt F) f) i :=
  View.readAt_unit m.view f (k0_off1_inb i) rfl (k0_off1_inb i)

/-- The loops of a point leave `expert` in the accumulator. -/
theorem expert_read (c : Dev nD) (i : grid0.Coords) (arg2 : Memref sig .tc .vmem S1536x1024 .f32) (harg2 : arg2.IsWhole) (arg3 : Memref sig .tc .vmem S16x1536 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1536x1024 .f32) (harg9 : arg9.IsWhole) (arg10 : Memref sig .tc .vmem S1536x1024 .bf16) (harg10 : arg10.IsWhole) (arg11 : Memref sig .tc .vmem S1536x1024 .f32) (harg11 : arg11.IsWhole) (arg12 : Memref sig .tc .vmem S16x1536 .f32) (harg12 : arg12.IsWhole) (x1 rk : Vec F S16x1536 .f32) (x2 x3 x4 : Vec F S1x1024x1024 .bf16) (xb : Vec F S1536x1024 .bf16)
    (acc : Vec F S1536x1024 .f32) (w r : Vec F S1x1536 .f32) (v : BitVec 32) (hw : k0_chk1 v) (v41 : BitVec 32) (X4 : BufTy.Contents (Elt F) arg4.view.ty) (X5 : BufTy.Contents (Elt F) arg5.view.ty) (X6 : BufTy.Contents (Elt F) arg6.view.ty) (X10 : BufTy.Contents (Elt F) arg10.view.ty)
    (v5 : FVec F S1x1536 .f32) (v7 : IVec S1x1536 1) (G G' f : BufTy.Contents (Elt F) arg11.view.ty) (L : List (View.Piece (Elt F) S1536x1024 .f32))
    (hv5 : v5 = k0_pay15 w) (hv7 : v7 = k0_pay16 w) (hv : v = cnt w) (hw1 : w = erow x1 i) (hr : r = erow rk i)
    (h2 : arg4.view.read (Elt F) X4 = x2) (h3 : arg5.view.read (Elt F) X5 = x3) (h4 : arg6.view.read (Elt F) X6 = x4)
    (hb : arg10.view.read (Elt F) X10 = xb) (hG : G = arg11.view.writes (Elt F) f L) (ha : arg11.view.read (Elt F) G = acc) :
    arg11.view.read (Elt F) (arg11.view.writes (Elt F) f
      (pb_k0_t2 (F := F) Variants.none c none i arg2 harg2 arg3 harg3 arg4 harg4 arg5 harg5 arg6 harg6 arg7 harg7 arg8 harg8 arg9 harg9 arg10 harg10 arg11 harg11 arg12 harg12 v5 v7 r v hw v41 X4 X5 X6 X10 G' (k0_t2_loop v).trips
        ++ (pb_k0_t1 (F := F) Variants.none c none i arg2 harg2 arg3 harg3 arg4 harg4 arg5 harg5 arg6 harg6 arg7 harg7 arg8 harg8 arg9 harg9 arg10 harg10 arg11 harg11 arg12 harg12 v5 v7 r v hw 0#32 X4 X5 X6 X10 G (k0_t1_loop v).trips ++ L)))
      = expert i x1 rk x2 x3 x4 xb acc := by
  subst hv5 hv7 hv
  rw [loop2_nil, List.nil_append, View.writes_append, ← hG, loop_read _ _ _ _ _ _ _ _ _ _ _ _ _ _ _ _ _ _ _ _ _ _ _ _ w r (cnt w) hw X4 X5 X6 X10 G _ le_rfl, h2, h3, h4, hb, ha, hw1, hr]
  rfl

/-- The same where the accumulator has not been stored before the loops. -/
theorem expert_read' (c : Dev nD) (i : grid0.Coords) (arg2 : Memref sig .tc .vmem S1536x1024 .f32) (harg2 : arg2.IsWhole) (arg3 : Memref sig .tc .vmem S16x1536 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1536x1024 .f32) (harg9 : arg9.IsWhole) (arg10 : Memref sig .tc .vmem S1536x1024 .bf16) (harg10 : arg10.IsWhole) (arg11 : Memref sig .tc .vmem S1536x1024 .f32) (harg11 : arg11.IsWhole) (arg12 : Memref sig .tc .vmem S16x1536 .f32) (harg12 : arg12.IsWhole) (x1 rk : Vec F S16x1536 .f32) (x2 x3 x4 : Vec F S1x1024x1024 .bf16) (xb : Vec F S1536x1024 .bf16)
    (acc : Vec F S1536x1024 .f32) (w r : Vec F S1x1536 .f32) (v : BitVec 32) (hw : k0_chk1 v) (v41 : BitVec 32) (X4 : BufTy.Contents (Elt F) arg4.view.ty) (X5 : BufTy.Contents (Elt F) arg5.view.ty) (X6 : BufTy.Contents (Elt F) arg6.view.ty) (X10 : BufTy.Contents (Elt F) arg10.view.ty)
    (v5 : FVec F S1x1536 .f32) (v7 : IVec S1x1536 1) (G G' : BufTy.Contents (Elt F) arg11.view.ty)
    (hv5 : v5 = k0_pay15 w) (hv7 : v7 = k0_pay16 w) (hv : v = cnt w) (hw1 : w = erow x1 i) (hr : r = erow rk i)
    (h2 : arg4.view.read (Elt F) X4 = x2) (h3 : arg5.view.read (Elt F) X5 = x3) (h4 : arg6.view.read (Elt F) X6 = x4)
    (hb : arg10.view.read (Elt F) X10 = xb) (ha : arg11.view.read (Elt F) G = acc) :
    arg11.view.read (Elt F) (arg11.view.writes (Elt F) G
      (pb_k0_t2 (F := F) Variants.none c none i arg2 harg2 arg3 harg3 arg4 harg4 arg5 harg5 arg6 harg6 arg7 harg7 arg8 harg8 arg9 harg9 arg10 harg10 arg11 harg11 arg12 harg12 v5 v7 r v hw v41 X4 X5 X6 X10 G' (k0_t2_loop v).trips
        ++ pb_k0_t1 (F := F) Variants.none c none i arg2 harg2 arg3 harg3 arg4 harg4 arg5 harg5 arg6 harg6 arg7 harg7 arg8 harg8 arg9 harg9 arg10 harg10 arg11 harg11 arg12 harg12 v5 v7 r v hw 0#32 X4 X5 X6 X10 G (k0_t1_loop v).trips))
      = expert i x1 rk x2 x3 x4 xb acc := by
  have e := expert_read c i arg2 harg2 arg3 harg3 arg4 harg4 arg5 harg5 arg6 harg6 arg7 harg7 arg8 harg8 arg9 harg9 arg10 harg10 arg11 harg11 arg12 harg12 x1 rk x2 x3 x4 xb acc w r v hw v41 X4 X5 X6 X10 v5 v7 G G' G [] hv5 hv7 hv hw1 hr h2 h3 h4 hb rfl ha
  rwa [List.append_nil] at e

/-! ## The body's runs -/

/-- The condition of the body's first branch: the point's expert is the first. -/
abbrev first (i : grid0.Coords) : Prop := (let arg1 : BitVec 32 := BitVec.ofNat 32 (i 1).val; let v0 : BitVec 1 := Scalar.cmpi .eq arg1 0#32; let v1 : BitVec 32 := Scalar.extui v0; Scalar.cmpi .ne v1 0#32) = 1#1
/-- The condition of the body's second branch: the point's expert is the last. -/
abbrev last (i : grid0.Coords) : Prop := k0_cond2 i = 1#1

set_option maxHeartbeats 2000000 in
/-- At the first expert of a tile: the rows are stored, the accumulator zeroed and the ranks computed, then the expert added. -/
theorem run_first (c : Dev nD) (i : grid0.Coords) (arg2 : Memref sig .tc .vmem S1536x1024 .f32) (harg2 : arg2.IsWhole) (arg3 : Memref sig .tc .vmem S16x1536 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1536x1024 .f32) (harg9 : arg9.IsWhole) (arg10 : Memref sig .tc .vmem S1536x1024 .bf16) (harg10 : arg10.IsWhole) (arg11 : Memref sig .tc .vmem S1536x1024 .f32) (harg11 : arg11.IsWhole) (arg12 : Memref sig .tc .vmem S16x1536 .f32) (harg12 : arg12.IsWhole) (hc0 : first i) (hc1 : ¬last i)
    (x0 : Vec F S1536x1024 .f32) (x1 : Vec F S16x1536 .f32) (x2 : Vec F S1x1024x1024 .bf16) (x3 : Vec F S1x1024x1024 .bf16) (x4 : Vec F S1x1024x1024 .bf16) (x5 : Vec F S1x1024 .f32) (x6 : Vec F S1x1024 .f32) (xi : Vec F S1536x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi ∗ owns (c : Thread nD τ) arg10 fullShare (k0_pay12 x0) ∗ owns (c : Thread nD τ) arg11 fullShare (expert i x1 (k0_pay14 x1) x2 x3 x4 (k0_pay12 x0) k0_pay13) ∗ owns (c : Thread nD τ) arg12 fullShare (k0_pay14 x1)) -∗ K ⟨⟩))
      ⊢ wp frame (wpE (defs₀ (F := F)) Variants.none c none) E (cc0_moe i arg2 harg2 arg3 harg3 arg4 harg4 arg5 harg5 arg6 harg6 arg7 harg7 arg8 harg8 arg9 harg9 arg10 harg10 arg11 harg11 arg12 harg12) K := by
  simp only [cc0_moe_eq_skeleton]; unfold cc0_moe_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc0 | sl_exact hc1)
  sl_step
  iapply Hk
  isplitl [H0]
  · iexists _; isplitr; swap; · iexact H0
    ipureintro
    exact harg2.read_unread _
  isplitl [H1]
  · iexists _; isplitr; swap; · iexact H1
    ipureintro
    exact harg3.read_unread _
  isplitl [H2]
  · iexists _; isplitr; swap; · iexact H2
    ipureintro
    exact harg4.read_unread _
  isplitl [H3]
  · iexists _; isplitr; swap; · iexact H3
    ipureintro
    exact harg5.read_unread _
  isplitl [H4]
  · iexists _; isplitr; swap; · iexact H4
    ipureintro
    exact harg6.read_unread _
  isplitl [H5]
  · iexists _; isplitr; swap; · iexact H5
    ipureintro
    exact harg7.read_unread _
  isplitl [H6]
  · iexists _; isplitr; swap; · iexact H6
    ipureintro
    exact harg8.read_unread _
  isplitl [H7]
  · iexists _; isplitr; swap; · iexact H7
    ipureintro
    exact harg9.read_unread _
  isplitl [H8]
  · iexists _; isplitr; swap; · iexact H8
    ipureintro
    exact ((View.read_writes_full arg10.view _ inb_S1536x1024_S1536x1024_0_0 _ []).trans (congrArg k0_pay12 ((View.readAt_full arg2.view _ inb_S1536x1024_S1536x1024_0_0).trans (harg2.read_unread x0))))
  isplitl [H9]
  · iexists _; isplitr; swap; · iexact H9
    ipureintro
    exact expert_read (hv5 := rfl) (hv7 := rfl) (hv := rfl) (hw1 := (load_row arg3 (harg3.unread x1) i).trans (congrArg (erow · i) (harg3.read_unread x1))) (hr := (load_row arg12 _ i).trans (congrArg (erow · i) ((View.read_writes_full arg12.view _ inb_S16x1536_S16x1536_0_0 _ []).trans (congrArg k0_pay14 ((View.readAt_full arg3.view _ inb_S16x1536_S16x1536_0_0).trans (harg3.read_unread x1)))))) (h2 := (harg4.read_unread x2)) (h3 := (harg5.read_unread x3)) (h4 := (harg6.read_unread x4)) (hb := ((View.read_writes_full arg10.view _ inb_S1536x1024_S1536x1024_0_0 _ []).trans (congrArg k0_pay12 ((View.readAt_full arg2.view _ inb_S1536x1024_S1536x1024_0_0).trans (harg2.read_unread x0))))) (hG := rfl) (ha := View.read_writes_full arg11.view _ inb_S1536x1024_S1536x1024_0_0 _ []) ..
  iexists _; isplitr; swap; · iexact H10
  ipureintro
  exact ((View.read_writes_full arg12.view _ inb_S16x1536_S16x1536_0_0 _ []).trans (congrArg k0_pay14 ((View.readAt_full arg3.view _ inb_S16x1536_S16x1536_0_0).trans (harg3.read_unread x1))))

set_option maxHeartbeats 2000000 in
/-- At a middle expert: the expert is added into the accumulator. -/
theorem run_middle (c : Dev nD) (i : grid0.Coords) (arg2 : Memref sig .tc .vmem S1536x1024 .f32) (harg2 : arg2.IsWhole) (arg3 : Memref sig .tc .vmem S16x1536 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1536x1024 .f32) (harg9 : arg9.IsWhole) (arg10 : Memref sig .tc .vmem S1536x1024 .bf16) (harg10 : arg10.IsWhole) (arg11 : Memref sig .tc .vmem S1536x1024 .f32) (harg11 : arg11.IsWhole) (arg12 : Memref sig .tc .vmem S16x1536 .f32) (harg12 : arg12.IsWhole) (hc0 : ¬first i) (hc1 : ¬last i)
    (x0 : Vec F S1536x1024 .f32) (x1 : Vec F S16x1536 .f32) (x2 : Vec F S1x1024x1024 .bf16) (x3 : Vec F S1x1024x1024 .bf16) (x4 : Vec F S1x1024x1024 .bf16) (x5 : Vec F S1x1024 .f32) (x6 : Vec F S1x1024 .f32) (xi : Vec F S1536x1024 .f32) (xb : Vec F S1536x1024 .bf16) (acc : Vec F S1536x1024 .f32) (rk : Vec F S16x1536 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi ∗ owns (c : Thread nD τ) arg10 fullShare xb ∗ owns (c : Thread nD τ) arg11 fullShare acc ∗ owns (c : Thread nD τ) arg12 fullShare rk
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi ∗ owns (c : Thread nD τ) arg10 fullShare xb ∗ owns (c : Thread nD τ) arg11 fullShare (expert i x1 rk x2 x3 x4 xb acc) ∗ owns (c : Thread nD τ) arg12 fullShare rk) -∗ K ⟨⟩))
      ⊢ wp frame (wpE (defs₀ (F := F)) Variants.none c none) E (cc0_moe i arg2 harg2 arg3 harg3 arg4 harg4 arg5 harg5 arg6 harg6 arg7 harg7 arg8 harg8 arg9 harg9 arg10 harg10 arg11 harg11 arg12 harg12) K := by
  simp only [cc0_moe_eq_skeleton]; unfold cc0_moe_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec (disch := first | sl_exact hc0 | sl_exact hc1)
  sl_step
  iapply Hk
  isplitl [H0]
  · iexists _; isplitr; swap; · iexact H0
    ipureintro
    exact harg2.read_unread _
  isplitl [H1]
  · iexists _; isplitr; swap; · iexact H1
    ipureintro
    exact harg3.read_unread _
  isplitl [H2]
  · iexists _; isplitr; swap; · iexact H2
    ipureintro
    exact harg4.read_unread _
  isplitl [H3]
  · iexists _; isplitr; swap; · iexact H3
    ipureintro
    exact harg5.read_unread _
  isplitl [H4]
  · iexists _; isplitr; swap; · iexact H4
    ipureintro
    exact harg6.read_unread _
  isplitl [H5]
  · iexists _; isplitr; swap; · iexact H5
    ipureintro
    exact harg7.read_unread _
  isplitl [H6]
  · iexists _; isplitr; swap; · iexact H6
    ipureintro
    exact harg8.read_unread _
  isplitl [H7]
  · iexists _; isplitr; swap; · iexact H7
    ipureintro
    exact harg9.read_unread _
  isplitl [H8]
  · iexists _; isplitr; swap; · iexact H8
    ipureintro
    exact harg10.read_unread _
  isplitl [H9]
  · iexists _; isplitr; swap; · iexact H9
    ipureintro
    exact expert_read' (hv5 := rfl) (hv7 := rfl) (hv := rfl) (hw1 := (load_row arg3 (harg3.unread x1) i).trans (congrArg (erow · i) (harg3.read_unread x1))) (hr := (load_row arg12 _ i).trans (congrArg (erow · i) (harg12.read_unread rk))) (h2 := (harg4.read_unread x2)) (h3 := (harg5.read_unread x3)) (h4 := (harg6.read_unread x4)) (hb := harg10.read_unread xb) (ha := harg11.read_unread acc) ..
  iexists _; isplitr; swap; · iexact H10
  ipureintro
  exact harg12.read_unread _

set_option maxHeartbeats 2000000 in
/-- At the last expert: the expert is added and the normalised sum stored. -/
theorem run_last (c : Dev nD) (i : grid0.Coords) (arg2 : Memref sig .tc .vmem S1536x1024 .f32) (harg2 : arg2.IsWhole) (arg3 : Memref sig .tc .vmem S16x1536 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1536x1024 .f32) (harg9 : arg9.IsWhole) (arg10 : Memref sig .tc .vmem S1536x1024 .bf16) (harg10 : arg10.IsWhole) (arg11 : Memref sig .tc .vmem S1536x1024 .f32) (harg11 : arg11.IsWhole) (arg12 : Memref sig .tc .vmem S16x1536 .f32) (harg12 : arg12.IsWhole) (hc0 : ¬first i) (hc1 : last i)
    (x0 : Vec F S1536x1024 .f32) (x1 : Vec F S16x1536 .f32) (x2 : Vec F S1x1024x1024 .bf16) (x3 : Vec F S1x1024x1024 .bf16) (x4 : Vec F S1x1024x1024 .bf16) (x5 : Vec F S1x1024 .f32) (x6 : Vec F S1x1024 .f32) (xb : Vec F S1536x1024 .bf16) (acc : Vec F S1536x1024 .f32) (rk : Vec F S16x1536 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xb ∗ owns (c : Thread nD τ) arg11 fullShare acc ∗ owns (c : Thread nD τ) arg12 fullShare rk
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay3 x0 (expert i x1 rk x2 x3 x4 xb acc) x5 x6) ∗ owns (c : Thread nD τ) arg10 fullShare xb ∗ owns (c : Thread nD τ) arg11 fullShare (expert i x1 rk x2 x3 x4 xb acc) ∗ owns (c : Thread nD τ) arg12 fullShare rk) -∗ K ⟨⟩))
      ⊢ wp frame (wpE (defs₀ (F := F)) Variants.none c none) E (cc0_moe i arg2 harg2 arg3 harg3 arg4 harg4 arg5 harg5 arg6 harg6 arg7 harg7 arg8 harg8 arg9 harg9 arg10 harg10 arg11 harg11 arg12 harg12) K := by
  simp only [cc0_moe_eq_skeleton]; unfold cc0_moe_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg11.eq_unread hf9; obtain rfl := harg12.eq_unread hf10
  sl_exec (disch := first | sl_exact hc0 | sl_exact hc1)
  sl_step
  iapply Hk
  isplitl [H0]
  · iexists _; isplitr; swap; · iexact H0
    ipureintro
    exact harg2.read_unread _
  isplitl [H1]
  · iexists _; isplitr; swap; · iexact H1
    ipureintro
    exact harg3.read_unread _
  isplitl [H2]
  · iexists _; isplitr; swap; · iexact H2
    ipureintro
    exact harg4.read_unread _
  isplitl [H3]
  · iexists _; isplitr; swap; · iexact H3
    ipureintro
    exact harg5.read_unread _
  isplitl [H4]
  · iexists _; isplitr; swap; · iexact H4
    ipureintro
    exact harg6.read_unread _
  isplitl [H5]
  · iexists _; isplitr; swap; · iexact H5
    ipureintro
    exact harg7.read_unread _
  isplitl [H6]
  · iexists _; isplitr; swap; · iexact H6
    ipureintro
    exact harg8.read_unread _
  isplitl [H7]
  · iexists _; isplitr; swap; · iexact H7
    ipureintro
    exact (View.read_writes_full arg9.view _ inb_S1536x1024_S1536x1024_0_0 _ []).trans (congr (congr (congr (congrArg k0_pay3 ((View.readAt_full arg2.view _ inb_S1536x1024_S1536x1024_0_0).trans (harg2.read_unread x0))) ((View.readAt_full arg11.view _ inb_S1536x1024_S1536x1024_0_0).trans (expert_read' (hv5 := rfl) (hv7 := rfl) (hv := rfl) (hw1 := (load_row arg3 (harg3.unread x1) i).trans (congrArg (erow · i) (harg3.read_unread x1))) (hr := (load_row arg12 _ i).trans (congrArg (erow · i) (harg12.read_unread rk))) (h2 := (harg4.read_unread x2)) (h3 := (harg5.read_unread x3)) (h4 := (harg6.read_unread x4)) (hb := harg10.read_unread xb) (ha := harg11.read_unread acc) ..))) ((View.readAt_full arg7.view _ inb_S1x1024_S1x1024_0_0).trans (harg7.read_unread x5))) ((View.readAt_full arg8.view _ inb_S1x1024_S1x1024_0_0).trans (harg8.read_unread x6)))
  isplitl [H8]
  · iexists _; isplitr; swap; · iexact H8
    ipureintro
    exact harg10.read_unread _
  isplitl [H9]
  · iexists _; isplitr; swap; · iexact H9
    ipureintro
    exact expert_read' (hv5 := rfl) (hv7 := rfl) (hv := rfl) (hw1 := (load_row arg3 (harg3.unread x1) i).trans (congrArg (erow · i) (harg3.read_unread x1))) (hr := (load_row arg12 _ i).trans (congrArg (erow · i) (harg12.read_unread rk))) (h2 := (harg4.read_unread x2)) (h3 := (harg5.read_unread x3)) (h4 := (harg6.read_unread x4)) (hb := harg10.read_unread xb) (ha := harg11.read_unread acc) ..
  iexists _; isplitr; swap; · iexact H10
  ipureintro
  exact harg12.read_unread _

end Moe

end Cert.KernelIdeal

end
-- ==== Proof.Run.lean ====
module

public import proofs.«01_k».proof.Proof.Body
public import Idealize.ShloMosaic.Lib.Claim

/-!
The run of the whole program for any float type: what the scratch buffers hold after each grid point, and what the arrays
hold at the end.
-/

@[expose] public section

set_option maxRecDepth 16384

noncomputable section

namespace Cert.KernelIdeal.Moe

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which point is which -/

/-- The first expert's points. -/
theorem first_iff : ∀ t : Fin cfg0.N, first (grid0.coords t) ↔ t.val % 16 = 0 :=
  (fun t => by
    have ht : t.val < 176 := Nat.lt_of_lt_of_eq t.isLt N_0
    have e1 : (grid0.coords t 1).val = t.val / 1 % 16 := Pipeline.Grid.coords_val t 1 (by decide) rfl
    simp only [first, e1]
    word_cmp
   : ∀ t : Fin grid0.N, first (grid0.coords t) ↔ t.val % 16 = 0)

/-- The last expert's points. -/
theorem last_iff : ∀ t : Fin cfg0.N, last (grid0.coords t) ↔ t.val % 16 = 15 :=
  (fun t => by
    have ht : t.val < 176 := Nat.lt_of_lt_of_eq t.isLt N_0
    have e1 : (grid0.coords t 1).val = t.val / 1 % 16 := Pipeline.Grid.coords_val t 1 (by decide) rfl
    simp only [last, k0_cond2, e1]
    word_cmp
   : ∀ t : Fin grid0.N, last (grid0.coords t) ↔ t.val % 16 = 15)

/-- The result's block is idle except at a last expert's point. -/
theorem idle_out : ∀ t : Fin cfg0.N, ¬last (grid0.coords t) → cfg0.idle 7 (grid0.coords t) = true := by decide +kernel
/-- It is not written back there. -/
theorem keep_out : ∀ t : Fin cfg0.N, ¬last (grid0.coords t) → (cfg0.win 7).flush t = false := by decide +kernel
/-- It is stored at a last expert's point. -/
theorem live_out : ∀ t : Fin cfg0.N, last (grid0.coords t) → cfg0.idle 7 (grid0.coords t) = false := by decide +kernel

/-! ## The scratch buffers after each point -/

/-- The rows in half width, the accumulator and the ranks. -/
abbrev St (F : FTy → Type) [FloatOps F] : Type := Vec F S1536x1024 .bf16 × Vec F S1536x1024 .f32 × Vec F S16x1536 .f32

/-- After the first expert's point `t`. -/
def startSt (c : Dev nD) (t : Fin cfg0.N) : St F :=
  (k0_pay12 (iblk m c 0 t), expert (grid0.coords t) (iblk m c 1 t) (k0_pay14 (iblk m c 1 t)) (iblk m c 2 t) (iblk m c 3 t)
    (iblk m c 4 t) (k0_pay12 (iblk m c 0 t)) k0_pay13, k0_pay14 (iblk m c 1 t))

/-- After a later expert's point `t` that finds `s`. -/
def nextSt (c : Dev nD) (t : Fin cfg0.N) (s : St F) : St F :=
  (s.1, expert (grid0.coords t) (iblk m c 1 t) s.2.2 (iblk m c 2 t) (iblk m c 3 t) (iblk m c 4 t) s.1 s.2.1, s.2.2)

/-- After the point `n`. -/
def st (c : Dev nD) : (n : ℕ) → n < cfg0.N → St F
  | 0, h => startSt m c ⟨0, h⟩
  | n + 1, h => if (n + 1) % 16 = 0 then startSt m c ⟨n + 1, h⟩ else nextSt m c ⟨n + 1, h⟩ (st c n (Nat.lt_of_succ_lt h))

/-- The state after a first expert's point. -/
theorem st_first (c : Dev nD) (t : Fin cfg0.N) (h : t.val % 16 = 0) : st m c t.val t.isLt = startSt m c t := by
  obtain ⟨n, hn⟩ := t
  cases n with
  | zero => rfl
  | succ n => exact if_pos h

/-- The state after a later expert's point. -/
theorem st_next (c : Dev nD) (t : Fin cfg0.N) (h : ¬t.val % 16 = 0) :
    st m c t.val t.isLt = nextSt m c t (st m c (t.val - 1) (lt_of_le_of_lt (Nat.sub_le _ _) t.isLt)) := by
  obtain ⟨n, hn⟩ := t
  cases n with
  | zero => exact absurd rfl h
  | succ n => exact if_neg h

/-- What the region stores at a last expert's point. -/
def outBlock (c : Dev nD) (t : Fin cfg0.N) : Vec F S1536x1024 .f32 :=
  k0_pay3 (iblk m c 0 t) (st m c t.val t.isLt).2.1 (iblk m c 5 t) (iblk m c 6 t)

/-! ## The invariant between points -/

/-- The scratch buffers. -/
abbrev scXb : Memref sig .tc .vmem S1536x1024 .bf16 := Memref.whole cc0_scratch0
/-- The accumulator. -/
abbrev scAcc : Memref sig .tc .vmem S1536x1024 .f32 := Memref.whole cc0_scratch1
/-- The ranks. -/
abbrev scRk : Memref sig .tc .vmem S16x1536 .f32 := Memref.whole cc0_scratch2
/-- Window 0's staging buffer at a point. -/
abbrev stg0 (t : Fin cfg0.N) : Memref sig .tc .vmem S1536x1024 .f32 := win0_0.stage (cfg0.slots t 0)
/-- Window 1's staging buffer at a point. -/
abbrev stg1 (t : Fin cfg0.N) : Memref sig .tc .vmem S16x1536 .f32 := win0_1.stage (cfg0.slots t 1)
/-- Window 2's staging buffer at a point. -/
abbrev stg2 (t : Fin cfg0.N) : Memref sig .tc .vmem S1x1024x1024 .bf16 := win0_2.stage (cfg0.slots t 2)
/-- Window 3's staging buffer at a point. -/
abbrev stg3 (t : Fin cfg0.N) : Memref sig .tc .vmem S1x1024x1024 .bf16 := win0_3.stage (cfg0.slots t 3)
/-- Window 4's staging buffer at a point. -/
abbrev stg4 (t : Fin cfg0.N) : Memref sig .tc .vmem S1x1024x1024 .bf16 := win0_4.stage (cfg0.slots t 4)
/-- Window 5's staging buffer at a point. -/
abbrev stg5 (t : Fin cfg0.N) : Memref sig .tc .vmem S1x1024 .f32 := win0_5.stage (cfg0.slots t 5)
/-- Window 6's staging buffer at a point. -/
abbrev stg6 (t : Fin cfg0.N) : Memref sig .tc .vmem S1x1024 .f32 := win0_6.stage (cfg0.slots t 6)
/-- Window 7's staging buffer at a point. -/
abbrev stg7 (t : Fin cfg0.N) : Memref sig .tc .vmem S1536x1024 .f32 := win0_7.stage (cfg0.slots t 7)

/-- The scratch buffers at anything. -/
theorem any_eq (c : Dev nD) :
    (Pipeline.ΦA spec0 c : sProp 𝕄)
      = iprop(iprop((∃ d, owns (c : Thread nD τ) scXb fullShare d) ∗ (∃ d, owns (c : Thread nD τ) scAcc fullShare d) ∗ (∃ d, owns (c : Thread nD τ) scRk fullShare d)) ∗ (∃ r, prngReg c r)) := by
  unfold Pipeline.ΦA; rw [scopedRest0_eq]; simp only [scXb, scAcc, scRk, owns_whole]; try rfl

/-- The scratch buffers at `s`. -/
def held (c : Dev nD) (s : St F) : sProp 𝕄 :=
  iprop(iprop(owns (c : Thread nD τ) scXb fullShare s.1 ∗ owns (c : Thread nD τ) scAcc fullShare s.2.1 ∗ owns (c : Thread nD τ) scRk fullShare s.2.2) ∗ (∃ r, prngReg c r))

/-- The invariant before point `n`: anything before the first, afterwards what the point before left. -/
def Inv (c : Dev nD) : (n : ℕ) → n ≤ cfg0.N → sProp 𝕄
  | 0, _ => Pipeline.ΦA spec0 c
  | n + 1, h => held c (st m c n h)

/-- Held buffers are held at something. -/
theorem held_any (c : Dev nD) (s : St F) : held c s ⊢ (Pipeline.ΦA spec0 c : sProp 𝕄) := by
  rw [any_eq]; unfold held
  iintro ⟨⟨H0, H1, H2⟩, Hg⟩
  isplitl [H0 H1 H2]
  · isplitl [H0]
    · iexists _; iexact H0
    isplitl [H1]
    · iexists _; iexact H1
    iexists _; iexact H2
  iexact Hg

/-- The invariant gives the buffers at anything. -/
theorem inv_any (c : Dev nD) : ∀ (n : ℕ) (h : n ≤ cfg0.N), Inv m c n h ⊢ (Pipeline.ΦA spec0 c : sProp 𝕄)
  | 0, _ => .rfl
  | n + 1, h => held_any c (st m c n h)

/-- Before a later point the buffers are at what the point before left. -/
theorem inv_pos (c : Dev nD) (n : ℕ) (h : n ≤ cfg0.N) (hz : n ≠ 0) : Inv m c n h = held c (st m c (n - 1) (by omega)) := by
  cases n with
  | zero => exact absurd rfl hz
  | succ n => rfl

/-- The proof data: the arrays as found, each input's buffer left at its block, the result's at `outBlock`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlock m c t
  Φ t := Inv m c t.val (Nat.le_of_lt_succ t.isLt)
  q _ := fullShare
  owed _ := 0

/-- The arrays of the proof data are those found. -/
theorem A_eq (c : Dev nD) (w : Fin cfg0.W) : (dats m 0 c).A w = V m c (Pipeline.arrRef spec0 w) := by
  dsimp only [dats]

/-- The result's buffer after a point. -/
theorem after_out (c : Dev nD) (t : Fin cfg0.N) : (dats m 0 c).after 7 t = outBlock m c t := by dsimp only [dats]

/-- Input 0's buffer holds its block before the body. -/
theorem before0 (c : Dev nD) (t : Fin cfg0.N) (d) : (dats m 0 c).before 0 t d = iblk m c 0 t :=
  before0_0_of m (dats m 0 c) (A_eq m c 0) (fun t => by dsimp only [dats]) t d
/-- Input 0's buffer is left at its block. -/
theorem leaves0 (c : Dev nD) (t : Fin cfg0.N) : (dats m 0 c).leavesExact 0 t = owns (c : Thread nD τ) (stg0 t) fullShare (iblk m c 0 t) := by
  have e : (dats m 0 c).after 0 t = iblk m c 0 t := by dsimp only [dats]
  unfold Dat.leavesExact; rw [show cfg0.idle 0 (grid0.coords t) = false from rfl, e]
/-- Input 1's buffer holds its block before the body. -/
theorem before1 (c : Dev nD) (t : Fin cfg0.N) (d) : (dats m 0 c).before 1 t d = iblk m c 1 t :=
  before0_1_of m (dats m 0 c) (A_eq m c 1) (fun t => by dsimp only [dats]) t d
/-- Input 1's buffer is left at its block. -/
theorem leaves1 (c : Dev nD) (t : Fin cfg0.N) : (dats m 0 c).leavesExact 1 t = owns (c : Thread nD τ) (stg1 t) fullShare (iblk m c 1 t) := by
  have e : (dats m 0 c).after 1 t = iblk m c 1 t := by dsimp only [dats]
  unfold Dat.leavesExact; rw [show cfg0.idle 1 (grid0.coords t) = false from rfl, e]
/-- Input 2's buffer holds its block before the body. -/
theorem before2 (c : Dev nD) (t : Fin cfg0.N) (d) : (dats m 0 c).before 2 t d = iblk m c 2 t :=
  before0_2_of m (dats m 0 c) (A_eq m c 2) (fun t => by dsimp only [dats]) t d
/-- Input 2's buffer is left at its block. -/
theorem leaves2 (c : Dev nD) (t : Fin cfg0.N) : (dats m 0 c).leavesExact 2 t = owns (c : Thread nD τ) (stg2 t) fullShare (iblk m c 2 t) := by
  have e : (dats m 0 c).after 2 t = iblk m c 2 t := by dsimp only [dats]
  unfold Dat.leavesExact; rw [show cfg0.idle 2 (grid0.coords t) = false from rfl, e]
/-- Input 3's buffer holds its block before the body. -/
theorem before3 (c : Dev nD) (t : Fin cfg0.N) (d) : (dats m 0 c).before 3 t d = iblk m c 3 t :=
  before0_3_of m (dats m 0 c) (A_eq m c 3) (fun t => by dsimp only [dats]) t d
/-- Input 3's buffer is left at its block. -/
theorem leaves3 (c : Dev nD) (t : Fin cfg0.N) : (dats m 0 c).leavesExact 3 t = owns (c : Thread nD τ) (stg3 t) fullShare (iblk m c 3 t) := by
  have e : (dats m 0 c).after 3 t = iblk m c 3 t := by dsimp only [dats]
  unfold Dat.leavesExact; rw [show cfg0.idle 3 (grid0.coords t) = false from rfl, e]
/-- Input 4's buffer holds its block before the body. -/
theorem before4 (c : Dev nD) (t : Fin cfg0.N) (d) : (dats m 0 c).before 4 t d = iblk m c 4 t :=
  before0_4_of m (dats m 0 c) (A_eq m c 4) (fun t => by dsimp only [dats]) t d
/-- Input 4's buffer is left at its block. -/
theorem leaves4 (c : Dev nD) (t : Fin cfg0.N) : (dats m 0 c).leavesExact 4 t = owns (c : Thread nD τ) (stg4 t) fullShare (iblk m c 4 t) := by
  have e : (dats m 0 c).after 4 t = iblk m c 4 t := by dsimp only [dats]
  unfold Dat.leavesExact; rw [show cfg0.idle 4 (grid0.coords t) = false from rfl, e]
/-- Input 5's buffer holds its block before the body. -/
theorem before5 (c : Dev nD) (t : Fin cfg0.N) (d) : (dats m 0 c).before 5 t d = iblk m c 5 t :=
  before0_5_of m (dats m 0 c) (A_eq m c 5) (fun t => by dsimp only [dats]) t d
/-- Input 5's buffer is left at its block. -/
theorem leaves5 (c : Dev nD) (t : Fin cfg0.N) : (dats m 0 c).leavesExact 5 t = owns (c : Thread nD τ) (stg5 t) fullShare (iblk m c 5 t) := by
  have e : (dats m 0 c).after 5 t = iblk m c 5 t := by dsimp only [dats]
  unfold Dat.leavesExact; rw [show cfg0.idle 5 (grid0.coords t) = false from rfl, e]
/-- Input 6's buffer holds its block before the body. -/
theorem before6 (c : Dev nD) (t : Fin cfg0.N) (d) : (dats m 0 c).before 6 t d = iblk m c 6 t :=
  before0_6_of m (dats m 0 c) (A_eq m c 6) (fun t => by dsimp only [dats]) t d
/-- Input 6's buffer is left at its block. -/
theorem leaves6 (c : Dev nD) (t : Fin cfg0.N) : (dats m 0 c).leavesExact 6 t = owns (c : Thread nD τ) (stg6 t) fullShare (iblk m c 6 t) := by
  have e : (dats m 0 c).after 6 t = iblk m c 6 t := by dsimp only [dats]
  unfold Dat.leavesExact; rw [show cfg0.idle 6 (grid0.coords t) = false from rfl, e]

/-! ## The body at each point -/

/-- What the body starts with at a point. -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d)))

/-- What it leaves. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4000000 in
/-- The body at a point of the first kind. -/
theorem sound_first (c : Dev nD) (t : Fin cfg0.N) (h0 : t.val % 16 = 0) (h1 : ¬t.val % 16 = 15) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, leaves0, leaves1, leaves2, leaves3, leaves4, leaves5, leaves6]
  rw [show (dats m 0 c).owesAt () t.succ = (dats m 0 c).owesAt () t.castSucc from rfl]
  rw [show (dats m 0 c).Φ t.succ = held c (st m c t.val t.isLt) from rfl]
  rw [Dat.leavesExact_idle (dats m 0 c) 7 t (idle_out t (fun h => h1 ((last_iff t).mp h))) (keep_out t (fun h => h1 ((last_iff t).mp h)))]
  rw [st_first m c t h0]
  refine (sep_mono_left ((show (dats m 0 c).Φ t.castSucc ⊢ (Pipeline.ΦA spec0 c : sProp 𝕄) from inv_any m c t.val (Nat.le_of_lt t.isLt)))).trans ?_
  rw [any_eq]
  unfold held startSt; dsimp only
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_first c (grid0.coords t) _ _ _ _ _ _ _ _ _ _ _ _ _ _ _ _ _ _ _ _ _ _ ((first_iff t).mpr h0) (fun h => h1 ((last_iff t).mp h)) (iblk m c 0 t) (iblk m c 1 t) (iblk m c 2 t) (iblk m c 3 t) (iblk m c 4 t) (iblk m c 5 t) (iblk m c 6 t) _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  iintro ⟨H0, H1, H2, H3, H4, H5, H6, H7, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; iexact H7

set_option maxHeartbeats 4000000 in
/-- The body at a point of the middle kind. -/
theorem sound_middle (c : Dev nD) (t : Fin cfg0.N) (h0 : ¬t.val % 16 = 0) (h1 : ¬t.val % 16 = 15) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, leaves0, leaves1, leaves2, leaves3, leaves4, leaves5, leaves6]
  rw [show (dats m 0 c).owesAt () t.succ = (dats m 0 c).owesAt () t.castSucc from rfl]
  rw [show (dats m 0 c).Φ t.succ = held c (st m c t.val t.isLt) from rfl]
  rw [show (dats m 0 c).Φ t.castSucc = held c (st m c (t.val - 1) (lt_of_le_of_lt (Nat.sub_le _ _) t.isLt)) from
    inv_pos m c t.val (Nat.le_of_lt t.isLt) (fun h => h0 (by rw [h]))]
  rw [Dat.leavesExact_idle (dats m 0 c) 7 t (idle_out t (fun h => h1 ((last_iff t).mp h))) (keep_out t (fun h => h1 ((last_iff t).mp h)))]
  rw [st_next m c t h0]
  generalize st m c (t.val - 1) (lt_of_le_of_lt (Nat.sub_le _ _) t.isLt) = s
  unfold held nextSt; dsimp only
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_middle c (grid0.coords t) _ _ _ _ _ _ _ _ _ _ _ _ _ _ _ _ _ _ _ _ _ _ (fun h => h0 ((first_iff t).mp h)) (fun h => h1 ((last_iff t).mp h)) (iblk m c 0 t) (iblk m c 1 t) (iblk m c 2 t) (iblk m c 3 t) (iblk m c 4 t) (iblk m c 5 t) (iblk m c 6 t) _ s.1 s.2.1 s.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  iintro ⟨H0, H1, H2, H3, H4, H5, H6, H7, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; iexact H7

set_option maxHeartbeats 4000000 in
/-- The body at a point of the last kind. -/
theorem sound_last (c : Dev nD) (t : Fin cfg0.N) (h0 : ¬t.val % 16 = 0) (h1 : t.val % 16 = 15) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, leaves0, leaves1, leaves2, leaves3, leaves4, leaves5, leaves6]
  rw [show (dats m 0 c).owesAt () t.succ = (dats m 0 c).owesAt () t.castSucc from rfl]
  rw [show (dats m 0 c).Φ t.succ = held c (st m c t.val t.isLt) from rfl]
  rw [show (dats m 0 c).Φ t.castSucc = held c (st m c (t.val - 1) (lt_of_le_of_lt (Nat.sub_le _ _) t.isLt)) from
    inv_pos m c t.val (Nat.le_of_lt t.isLt) (fun h => h0 (by rw [h]))]
  rw [show (dats m 0 c).leavesExact 7 t = owns (c : Thread nD τ) (stg7 t) fullShare (outBlock m c t) from by
    unfold Dat.leavesExact; rw [live_out t ((last_iff t).mpr h1), after_out]]
  unfold outBlock
  rw [st_next m c t h0]
  generalize st m c (t.val - 1) (lt_of_le_of_lt (Nat.sub_le _ _) t.isLt) = s
  unfold held nextSt; dsimp only
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_last c (grid0.coords t) _ _ _ _ _ _ _ _ _ _ _ _ _ _ _ _ _ _ _ _ _ _ (fun h => h0 ((first_iff t).mp h)) ((last_iff t).mpr h1) (iblk m c 0 t) (iblk m c 1 t) (iblk m c 2 t) (iblk m c 3 t) (iblk m c 4 t) (iblk m c 5 t) (iblk m c 6 t) s.1 s.2.1 s.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  isplitl [HS2]; · iexact HS2
  iintro ⟨H0, H1, H2, H3, H4, H5, H6, H7, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body at any point. -/
theorem sound (c : Dev nD) (t : Fin cfg0.N) :
    bodyPre m c t ⊢ wp frame (wpE (defs₀ (F := F)) Variants.none c none) Set.univ (bodyAt0 t) (fun _ => bodyPost m c t) := by
  by_cases h0 : t.val % 16 = 0
  · exact sound_first m c t h0 (by omega)
  · by_cases h1 : t.val % 16 = 15
    · exact sound_last m c t h0 h1
    · exact sound_middle m c t h0 h1

/-- The body's obligation at every point. -/
theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (sound m c t) rfl .rfl fun _ => .rfl

/-! ## The run -/

set_option backward.isDefEq.respectTransparency.types false in
/-- Every execution of the program ends with the arrays at what the proof data say and every counter at zero. -/
theorem run_all : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m)
    (hin := fun c => (show (Pipeline.ΦA spec0 c : sProp 𝕄) ⊢ (dats m 0 c).Φ 0 from .rfl))
    (hout := fun c => (show (dats m 0 c).Φ (Fin.last cfg0.N) ⊢ (Pipeline.ΦA spec0 c : sProp 𝕄) from inv_any m c (Fin.last cfg0.N).val (Nat.le_of_lt_succ (Fin.last cfg0.N).isLt)))

/-- The run with the arrays as the proof data say. -/
theorem run_post : θ_run defs (onTc (τ := τ) (main (F := F))) (s₀ m ρ) (Pipeline.FramePost cfgs (dats m) 0 (V m)) :=
  (θ_run defs _ _).mono (fun _ h => h.1) (run_all m ρ)

/-- The frame: the arguments end unchanged and every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_post m ρ)) ((θ_run defs _ _).mono (fun _ h => h.2) (run_all m ρ))

end Cert.KernelIdeal.Moe

end
-- ==== Proof.Expert.lean ====
module

public import proofs.«01_k».proof.Proof.Body
public import Idealize.ShloMosaic.Lib.Pointwise
public import Idealize.ShloMosaic.Lib.WordCmp

/-!
What one expert adds to a tile of rows when floats are extended reals. The kernel gathers the tokens of an expert into slots,
a token's slot being the number of routed tokens before it; here it is shown that gathering, running the slots through the
expert and scattering them back is the same as running every routed token in place.
-/

@[expose] public section

set_option maxRecDepth 16384

noncomputable section

namespace Cert.KernelIdeal.Moe

open Idealize.ShloMosaic
open Cert.KernelIdeal.Gen

/-! ## Counting -/

/-- How many tokens before `r` have a positive weight. -/
def below (W : Fin 1536 → EReal) (r : Fin 1536) : ℕ := (Finset.univ.filter fun x : Fin 1536 => x < r ∧ 0 < W x).card

/-- How many tokens have a positive weight. -/
def total (W : Fin 1536 → EReal) : ℕ := (Finset.univ.filter fun x : Fin 1536 => 0 < W x).card

/-- A routed token has fewer routed tokens before it than there are. -/
theorem below_lt_total (W : Fin 1536 → EReal) (r : Fin 1536) (h : 0 < W r) : below W r < total W := by
  unfold below total
  refine Finset.card_lt_card ⟨fun x hx => ?_, fun hsub => ?_⟩
  · rw [Finset.mem_filter] at hx ⊢
    exact ⟨hx.1, hx.2.2⟩
  · have hr := hsub (Finset.mem_filter.mpr ⟨Finset.mem_univ r, h⟩)
    exact absurd (Finset.mem_filter.mp hr).2.1 (lt_irrefl r)

/-- Counts before grow strictly past a routed token. -/
theorem below_strict (W : Fin 1536 → EReal) (a b : Fin 1536) (ha : 0 < W a) (hab : a < b) : below W a < below W b := by
  unfold below
  refine Finset.card_lt_card ⟨fun x hx => ?_, fun hsub => ?_⟩
  · rw [Finset.mem_filter] at hx ⊢
    exact ⟨hx.1, hx.2.1.trans hab, hx.2.2⟩
  · have hr := hsub (Finset.mem_filter.mpr ⟨Finset.mem_univ a, hab, ha⟩)
    exact absurd (Finset.mem_filter.mp hr).2.1 (lt_irrefl a)

/-- Two routed tokens with the same count before are the same. -/
theorem below_inj (W : Fin 1536 → EReal) (a b : Fin 1536) (ha : 0 < W a) (hb : 0 < W b) (h : below W a = below W b) : a = b := by
  rcases lt_trichotomy a b with hl | he | hl
  · exact absurd h (below_strict W a b ha hl).ne
  · exact he
  · exact absurd h (below_strict W b a hb hl).ne'

/-- There are at most 1536 tokens. -/
theorem total_le (W : Fin 1536 → EReal) : total W ≤ 1536 := by
  unfold total
  exact (Finset.card_le_univ _).trans (by rw [Fintype.card_fin])

/-! ## The words -/

/-- The stored ranks are the counts. -/
theorem rank_apply (x : Vec Ideal S16x1536 .f32) (e : Fin 16) (r : Fin 1536) :
    k0_pay14 x (ix2 e r) = ((below (fun y => x (ix2 e y)) r : ℕ) : EReal) := by
  pointwise [k0_pay14]
  have e1 : ∀ y : Fin 1536, Scalar.select (IntOp.cmpi CmpIPredicate.slt (BitVec.ofNat 32 ↑y) (BitVec.ofNat 32 ↑r))
      (if 0 < x (ix2 e y) then (1 : EReal) else 0) 0 = if y < r ∧ 0 < x (ix2 e y) then 1 else 0 := fun y => by
    rw [WordCmp.cmpi_slt_ofNat (by have := y.isLt; omega) (by have := r.isLt; omega), WordCmp.select_ofBool, ite_and]
    simp only [decide_eq_true_eq, Fin.lt_def]
  rw [Finset.sum_congr rfl fun y _ => e1 y, Finset.sum_boole]
  rfl

/-- The count the kernel sums up. -/
theorem count_apply (w : Vec Ideal S1x1536 .f32) : k0_pay17 w = ((total (fun y => w (ix2 0 y)) : ℕ) : EReal) := by
  pointwise [k0_pay17, k0_pay16, k0_pay15]
  rw [Fin.sum_univ_one, Finset.sum_boole]
  rfl

/-- A natural number read as a word. -/
theorem fptosi_nat (n : ℕ) (h : n ≤ 1536) : Ideal.fptosi 32 ((n : ℕ) : EReal) = BitVec.ofNat 32 n := by
  have e : ((n : ℕ) : EReal) = ((n : ℝ) : EReal) := rfl
  rw [e, Ideal.fptosi, Ideal.toIntClamped_coe, if_pos (Nat.cast_nonneg n), Int.floor_natCast]
  have e2 : max (-((2 ^ (32 - 1) : ℕ) : ℤ)) (min (((2 ^ (32 - 1) : ℕ) : ℤ) - 1) (n : ℤ)) = (n : ℤ) := by
    norm_num
    omega
  rw [e2]
  exact BitVec.ofInt_natCast 32 n

/-- The count as a word. -/
theorem cnt_eq (w : Vec Ideal S1x1536 .f32) : cnt w = BitVec.ofNat 32 (total (fun y => w (ix2 0 y))) := by
  unfold cnt
  rw [count_apply]
  exact fptosi_nat _ (total_le _)

/-- The blocks of 256 slots for a count. -/
theorem trips_fin : ∀ n : Fin 1537, (k0_t1_loop (BitVec.ofNat 32 n.val)).trips = (n.val + 255) / 256 := by decide +kernel

/-- The blocks of 256 slots for the kernel's count. -/
theorem trips_eq (w : Vec Ideal S1x1536 .f32) : (k0_t1_loop (cnt w)).trips = (total (fun y => w (ix2 0 y)) + 255) / 256 := by
  rw [cnt_eq]
  exact trips_fin ⟨total _, Nat.lt_succ_of_le (total_le _)⟩

/-- There are at most six blocks. -/
theorem trip_lt (w : Vec Ideal S1x1536 .f32) (k : Fin (k0_t1_loop (cnt w)).trips) : k.val < 6 := by
  have h := k.isLt
  have h1 := trips_eq w
  have h2 := total_le (fun y => w (ix2 0 y))
  omega

/-- The words of a block's first slot. -/
theorem base_word : ∀ k : Fin 6, (Scalar.muli (Scf.iv 0#32 1#32 k.val) 256#32).toInt = ((256 * k.val : ℕ) : ℤ) := by decide
/-- The words of the slots of a block. -/
theorem slot_word : ∀ s : Fin 256, (BitVec.ofNat 32 s.val).toInt = ((s.val : ℕ) : ℤ) := by decide +kernel

/-- A rank meets a slot of block `k` exactly when the numbers do. -/
theorem meets (n s k : ℕ) (hs : s < 256) (hk : k < 6) :
    (((n : ℕ) : EReal) = (FloatOps.sitofp (F := Ideal) FTy.f32 (BitVec.ofNat 32 s) : EReal) + ((((Scalar.muli (Scf.iv 0#32 1#32 k) 256#32).toInt : ℤ) : ℝ) : EReal))
      ↔ n = s + 256 * k := by
  have e1 : (FloatOps.sitofp (F := Ideal) FTy.f32 (BitVec.ofNat 32 s) : EReal) = (((s : ℕ) : ℝ) : EReal) := by
    show ((((BitVec.ofNat 32 s).toInt : ℤ) : ℝ) : EReal) = _
    rw [slot_word ⟨s, hs⟩]
    norm_cast
  have e2 : ((((Scalar.muli (Scf.iv 0#32 1#32 k) 256#32).toInt : ℤ) : ℝ) : EReal) = (((256 * k : ℕ) : ℝ) : EReal) := by
    rw [base_word ⟨k, hk⟩]
    norm_cast
  rw [e1, e2, ← EReal.coe_add, ← Nat.cast_add]
  have e3 : ((n : ℕ) : EReal) = (((n : ℕ) : ℝ) : EReal) := rfl
  rw [e3, EReal.coe_eq_coe_iff, Nat.cast_inj]

/-! ## The slots -/

/-- A token sits in slot `s` of block `k`: it is routed, and as many routed tokens come before it. -/
abbrev sits (w : Vec Ideal S1x1536 .f32) (k : ℕ) (s : Fin 256) (r : Fin 1536) : Prop :=
  0 < w (ix2 0 r) ∧ below (fun y => w (ix2 0 y)) r = s.val + 256 * k

/-- The selection matrix. -/
theorem sel_apply (w rk : Vec Ideal S1x1536 .f32) (hrk : ∀ r, rk (ix2 0 r) = ((below (fun y => w (ix2 0 y)) r : ℕ) : EReal))
    (k : Fin (k0_t1_loop (cnt w)).trips) (s : Fin 256) (r : Fin 1536) :
    k0_pay5 (k0_pay16 w) rk (cnt w) 0#32 1#32 k (ix2 s r) = if sits w k.val s r then (1 : EReal) else 0 := by
  pointwise [k0_pay5, k0_pay4, k0_pay16, k0_pay15]
  rw [hrk, WordCmp.andi_ofBool, WordCmp.select_ofBool]
  refine if_congr ?_ rfl rfl
  rw [Bool.and_eq_true, decide_eq_true_eq, decide_eq_true_eq, meets _ _ _ s.isLt (trip_lt w k)]

/-- The weights of the slots. -/
theorem wslot_apply (w rk : Vec Ideal S1x1536 .f32) (hrk : ∀ r, rk (ix2 0 r) = ((below (fun y => w (ix2 0 y)) r : ℕ) : EReal))
    (k : Fin (k0_t1_loop (cnt w)).trips) (s : Fin 256) :
    k0_pay6 (k0_pay15 w) (k0_pay16 w) rk (cnt w) 0#32 1#32 k (ix2 s 0) = ∑ x : Fin 1536, if sits w k.val s x then w (ix2 0 x) else 0 := by
  pointwise [k0_pay6, k0_pay4, k0_pay16, k0_pay15]
  refine Finset.sum_congr rfl fun r _ => ?_
  rw [hrk, WordCmp.andi_ofBool, WordCmp.select_ofBool]
  refine if_congr ?_ rfl rfl
  rw [Bool.and_eq_true, decide_eq_true_eq, decide_eq_true_eq, meets _ _ _ s.isLt (trip_lt w k)]

/-- A sum over the tokens of a slot that token `r` sits in is the term of `r`. -/
theorem slot_sum (w : Vec Ideal S1x1536 .f32) (k : ℕ) (s : Fin 256) (r : Fin 1536) (h : sits w k s r) (f : Fin 1536 → EReal) :
    (∑ x : Fin 1536, if sits w k s x then f x else 0) = f r := by
  rw [Finset.sum_eq_single r (fun x _ hx => if_neg fun h' => hx (below_inj _ x r h'.1 h.1 (h'.2.trans h.2.symm)))
    (fun hn => absurd (Finset.mem_univ r) hn), if_pos h]

/-- The same with the selection as a factor. -/
theorem slot_sum_mul (w : Vec Ideal S1x1536 .f32) (k : ℕ) (s : Fin 256) (r : Fin 1536) (h : sits w k s r) (f : Fin 1536 → EReal) :
    (∑ x : Fin 1536, (if sits w k s x then (1 : EReal) else 0) * f x) = f r := by
  rw [← slot_sum w k s r h f]
  refine Finset.sum_congr rfl fun x _ => ?_
  split
  · exact one_mul _
  · exact zero_mul _

/-! ## The expert -/

/-- A gated unit of an expert on the row `x`: the gate's projection times its logistic value times the other projection. -/
def unit (x : Fin 1024 → EReal) (wg wu : Fin 1024 → Fin 1024 → EReal) (f : Fin 1024) : EReal :=
  (∑ c, x c * wg c f) * Ideal.div 1 (1 + Ideal.exp (0 - ∑ c, x c * wg c f)) * ∑ c, x c * wu c f

/-- An expert's output on the row `x`. -/
def ffn (x : Fin 1024 → EReal) (wg wu wd : Fin 1024 → Fin 1024 → EReal) (d : Fin 1024) : EReal :=
  ∑ f, unit x wg wu f * wd f d

/-- A block adds, at each token that sits in it, the expert's output on the token's row times the token's weight. -/
theorem step_apply (w rk : Vec Ideal S1x1536 .f32) (hrk : ∀ r, rk (ix2 0 r) = ((below (fun y => w (ix2 0 y)) r : ℕ) : EReal))
    (x2 x3 x4 : Vec Ideal S1x1024x1024 .bf16) (xb : Vec Ideal S1536x1024 .bf16) (k : Fin (k0_t1_loop (cnt w)).trips)
    (acc : Vec Ideal S1536x1024 .f32) (r : Fin 1536) (d : Fin 1024) :
    stepAcc w rk (cnt w) x2 x3 x4 xb k acc (ix2 r d) = (acc (ix2 r d) : EReal)
      + if 0 < w (ix2 0 r) ∧ below (fun y => w (ix2 0 y)) r / 256 = k.val then
          ffn (fun c => xb (ix2 r c)) (fun c f => x2 (ix3 0 c f)) (fun c f => x3 (ix3 0 c f)) (fun f d => x4 (ix3 0 f d)) d * w (ix2 0 r)
        else 0 := by
  unfold stepAcc
  pointwise [k0_pay1]
  refine congrArg ((acc (ix2 r d) : EReal) + ·) ?_
  have e : ∀ s : Fin 256, (k0_pay5 (k0_pay16 w) rk (cnt w) 0#32 1#32 k (ix2 s r) : EReal)
      * ((∑ f : Fin 1024, (k0_pay7 (k0_pay16 w) rk (cnt w) 0#32 1#32 k xb x2 x3 (ix2 s f) : EReal) * x4 (ix3 0 f d))
        * k0_pay6 (k0_pay15 w) (k0_pay16 w) rk (cnt w) 0#32 1#32 k (ix2 s 0))
      = if sits w k.val s r then
          ffn (fun c => xb (ix2 r c)) (fun c f => x2 (ix3 0 c f)) (fun c f => x3 (ix3 0 c f)) (fun f d => x4 (ix3 0 f d)) d * w (ix2 0 r)
        else 0 := fun s => by
    rw [sel_apply w rk hrk]
    split
    next h =>
      rw [one_mul, wslot_apply w rk hrk, slot_sum w k.val s r h]
      refine congrArg (· * (w (ix2 0 r) : EReal)) (Finset.sum_congr rfl fun f _ => congrArg (· * (x4 (ix3 0 f d) : EReal)) ?_)
      pointwise [k0_pay7]
      simp only [sel_apply w rk hrk, slot_sum_mul w k.val s r h]
      rfl
    next h => exact zero_mul _
  refine (Finset.sum_congr rfl fun s _ => e s).trans ?_
  by_cases h : 0 < (w (ix2 0 r) : EReal) ∧ below (fun y => w (ix2 0 y)) r / 256 = k.val
  · rw [if_pos h, Finset.sum_eq_single (⟨below (fun y => w (ix2 0 y)) r % 256, Nat.mod_lt _ (by decide)⟩ : Fin 256)]
    · rw [if_pos]
      refine ⟨h.1, ?_⟩
      have := h.2
      show _ = _ % 256 + 256 * k.val
      omega
    · intro s _ hs
      refine if_neg fun hh => hs (Fin.ext ?_)
      have := hh.2
      have := s.isLt
      show s.val = _ % 256
      omega
    · exact fun hn => absurd (Finset.mem_univ _) hn
  · rw [if_neg h]
    refine Finset.sum_eq_zero fun s _ => if_neg fun hh => h ⟨hh.1, ?_⟩
    have := hh.2
    have := s.isLt
    omega

/-- The blocks before `n` add the expert's weighted output at the tokens that sit in them. -/
theorem after_apply (w rk : Vec Ideal S1x1536 .f32) (hrk : ∀ r, rk (ix2 0 r) = ((below (fun y => w (ix2 0 y)) r : ℕ) : EReal))
    (x2 x3 x4 : Vec Ideal S1x1024x1024 .bf16) (xb : Vec Ideal S1536x1024 .bf16)
    (acc : Vec Ideal S1536x1024 .f32) (r : Fin 1536) (d : Fin 1024) : ∀ n : ℕ, n ≤ (k0_t1_loop (cnt w)).trips →
    accAfter w rk (cnt w) x2 x3 x4 xb acc n (ix2 r d) = (acc (ix2 r d) : EReal)
      + if 0 < w (ix2 0 r) ∧ below (fun y => w (ix2 0 y)) r / 256 < n then
          ffn (fun c => xb (ix2 r c)) (fun c f => x2 (ix3 0 c f)) (fun c f => x3 (ix3 0 c f)) (fun f d => x4 (ix3 0 f d)) d * w (ix2 0 r)
        else 0
  | 0, _ => by
    rw [if_neg (fun h => absurd h.2 (Nat.not_lt_zero _)), add_zero]
    rfl
  | n + 1, h => by
    have hlt : n < (k0_t1_loop (cnt w)).trips := h
    rw [accAfter, dif_pos hlt, step_apply w rk hrk, after_apply w rk hrk x2 x3 x4 xb acc r d n (Nat.le_of_lt hlt), add_assoc]
    refine congrArg ((acc (ix2 r d) : EReal) + ·) ?_
    by_cases hw : 0 < (w (ix2 0 r) : EReal)
    · rcases lt_trichotomy (below (fun y => w (ix2 0 y)) r / 256) n with hc | hc | hc
      · rw [if_pos ⟨hw, hc⟩, if_neg (fun hh => absurd hh.2 hc.ne), if_pos ⟨hw, hc.trans (Nat.lt_succ_self n)⟩, add_zero]
      · rw [if_neg (fun hh => absurd hh.2 (by omega)), if_pos ⟨hw, hc⟩, if_pos ⟨hw, by omega⟩, zero_add]
      · rw [if_neg (fun hh => absurd hh.2 (by omega)), if_neg (fun hh => absurd hh.2 hc.ne'), if_neg (fun hh => absurd hh.2 (by omega)), zero_add]
    · rw [if_neg (fun hh => hw hh.1), if_neg (fun hh => hw hh.1), if_neg (fun hh => hw hh.1), zero_add]

/-- All blocks add the weighted output at every routed token; at a token of weight zero that is zero as well. -/
theorem all_apply (w rk : Vec Ideal S1x1536 .f32) (hrk : ∀ r, rk (ix2 0 r) = ((below (fun y => w (ix2 0 y)) r : ℕ) : EReal))
    (hw : ∀ r, 0 ≤ (w (ix2 0 r) : EReal)) (x2 x3 x4 : Vec Ideal S1x1024x1024 .bf16) (xb : Vec Ideal S1536x1024 .bf16)
    (acc : Vec Ideal S1536x1024 .f32) (r : Fin 1536) (d : Fin 1024) :
    accAfter w rk (cnt w) x2 x3 x4 xb acc (k0_t1_loop (cnt w)).trips (ix2 r d) = (acc (ix2 r d) : EReal)
      + w (ix2 0 r) * ffn (fun c => xb (ix2 r c)) (fun c f => x2 (ix3 0 c f)) (fun c f => x3 (ix3 0 c f)) (fun f d => x4 (ix3 0 f d)) d := by
  rw [after_apply w rk hrk x2 x3 x4 xb acc r d _ le_rfl]
  refine congrArg ((acc (ix2 r d) : EReal) + ·) ?_
  by_cases h : 0 < (w (ix2 0 r) : EReal)
  · have h1 := trips_eq w
    have h2 := below_lt_total (fun y => w (ix2 0 y)) r h
    rw [if_pos ⟨h, by omega⟩, mul_comm]
  · rw [if_neg (fun hh => h hh.1), le_antisymm (not_lt.mp h) (hw r), zero_mul]

end Cert.KernelIdeal.Moe

end
-- ==== Proof.Blocks.lean ====
module

public import proofs.«01_k».proof.Proof.Run
public import proofs.«01_k».proof.Proof.Expert
public import Idealize.ShloMosaic.Lib.Pipeline.ValueKit

/-!
The launch's blocks read at an index, and what the buffers hold after each expert of a tile of rows.
-/

@[expose] public section

set_option maxRecDepth 16384

noncomputable section

namespace Cert.KernelIdeal.Moe

open Idealize.ShloMosaic Idealize.SL.Sem
open Cert.KernelIdeal.Gen

variable (m : (ℓ : Loc nD τ sig) → Buf (Elt Ideal) ℓ) (c : Dev nD)

/-! ## Where the blocks lie -/

/-- The block that each window takes at a point. -/
theorem idx : ∀ t : Fin cfg0.N, ((cfg0.win 0).index t 0 = t.val / 16 ∧ (cfg0.win 0).index t 1 = 0)
    ∧ ((cfg0.win 1).index t 0 = 0 ∧ (cfg0.win 1).index t 1 = t.val / 16)
    ∧ ((cfg0.win 2).index t 0 = t.val % 16 ∧ (cfg0.win 2).index t 1 = 0 ∧ (cfg0.win 2).index t 2 = 0)
    ∧ ((cfg0.win 3).index t 0 = t.val % 16 ∧ (cfg0.win 3).index t 1 = 0 ∧ (cfg0.win 3).index t 2 = 0)
    ∧ ((cfg0.win 4).index t 0 = t.val % 16 ∧ (cfg0.win 4).index t 1 = 0 ∧ (cfg0.win 4).index t 2 = 0)
    ∧ ((cfg0.win 5).index t 0 = 0 ∧ (cfg0.win 5).index t 1 = 0)
    ∧ ((cfg0.win 6).index t 0 = 0 ∧ (cfg0.win 6).index t 1 = 0)
    ∧ ((cfg0.win 7).index t 0 = t.val / 16 ∧ (cfg0.win 7).index t 1 = 0) := by decide +kernel

/-- The expert of a point. -/
theorem coord1 : ∀ t : Fin cfg0.N, ((grid0.coords t) 1).val = t.val % 16 := by decide +kernel

/-- There are 176 points. -/
theorem point_lt (t : Fin cfg0.N) : t.val < 176 := t.isLt

/-- The row of the array at place `r` of the point's tile. -/
def grow (t : Fin cfg0.N) (r : Fin 1536) : Fin 16896 := ⟨t.val / 16 * 1536 + r.val, by
  have := point_lt t
  have := r.isLt
  omega⟩
/-- The expert of a point. -/
def eix (t : Fin cfg0.N) : Fin 16 := ⟨t.val % 16, Nat.mod_lt _ (by decide)⟩

/-- A row block of the first operand. -/
theorem block0 (t : Fin cfg0.N) (r : Fin 1536) (d : Fin 1024) :
    iblk m c 0 t (ix2 r d) = m ((c.tc : Thread nD τ).loc main_arg0) (ix2 (grow t r) d) := by
  blk_ext [iblk, V, idx t]
  all_goals rfl

/-- A block of the weights, transposed by the host. -/
theorem block1 (t : Fin cfg0.N) (e : Fin 16) (r : Fin 1536) :
    iblk m c 1 t (ix2 e r) = m ((c.tc : Thread nD τ).loc main_arg1) (ix2 (grow t r) e) := by
  blk_simp [iblk, idx t]
  entry_read
  pointwise []
  refine congrArg (m ((c.tc : Thread nD τ).loc main_arg1)) ?_
  blk_ext [idx t]
  all_goals rfl

/-- An expert's gate matrix. -/
theorem block2 (t : Fin cfg0.N) (x : Fin 1024) (f : Fin 1024) :
    iblk m c 2 t (ix3 0 x f) = m ((c.tc : Thread nD τ).loc main_arg2) (ix3 (eix t) x f) := by
  blk_simp [iblk, idx t]
  entry_read
  pointwise []
  refine congrArg (m ((c.tc : Thread nD τ).loc main_arg2)) ?_
  blk_ext [idx t]
  all_goals (first | rfl | exact Nat.add_zero _)

/-- An expert's other matrix in. -/
theorem block3 (t : Fin cfg0.N) (x : Fin 1024) (f : Fin 1024) :
    iblk m c 3 t (ix3 0 x f) = m ((c.tc : Thread nD τ).loc main_arg3) (ix3 (eix t) x f) := by
  blk_simp [iblk, idx t]
  entry_read
  pointwise []
  refine congrArg (m ((c.tc : Thread nD τ).loc main_arg3)) ?_
  blk_ext [idx t]
  all_goals (first | rfl | exact Nat.add_zero _)

/-- An expert's matrix out. -/
theorem block4 (t : Fin cfg0.N) (x : Fin 1024) (f : Fin 1024) :
    iblk m c 4 t (ix3 0 x f) = m ((c.tc : Thread nD τ).loc main_arg4) (ix3 (eix t) x f) := by
  blk_simp [iblk, idx t]
  entry_read
  pointwise []
  refine congrArg (m ((c.tc : Thread nD τ).loc main_arg4)) ?_
  blk_ext [idx t]
  all_goals (first | rfl | exact Nat.add_zero _)

/-- The scale of the norm. -/
theorem block5 (t : Fin cfg0.N) (d : Fin 1024) :
    iblk m c 5 t (ix2 0 d) = m ((c.tc : Thread nD τ).loc main_arg5) (ix1 d) := by
  blk_simp [iblk, idx t]
  entry_read
  pointwise []
  refine congrArg (m ((c.tc : Thread nD τ).loc main_arg5)) ?_
  blk_ext [idx t]

/-- The shift of the norm. -/
theorem block6 (t : Fin cfg0.N) (d : Fin 1024) :
    iblk m c 6 t (ix2 0 d) = m ((c.tc : Thread nD τ).loc main_arg6) (ix1 d) := by
  blk_simp [iblk, idx t]
  entry_read
  pointwise []
  refine congrArg (m ((c.tc : Thread nD τ).loc main_arg6)) ?_
  blk_ext [idx t]

/-- Where an expert's row starts. -/
theorem off1 : ∀ t : Fin cfg0.N, k0_off1 (grid0.coords t) 0 = t.val % 16 := by decide +kernel

/-- The row of a point's expert. -/
theorem erow_apply (t : Fin cfg0.N) (x : Vec Ideal S16x1536 .f32) (r : Fin 1536) :
    erow x (grid0.coords t) (ix2 0 r) = x (ix2 (eix t) r) := by
  unfold erow
  rw [VecWindow.window]
  refine congrArg x (funext fun a => Fin.ext ?_)
  rw [Rect.emb_apply]
  fin_cases a
  · show k0_off1 (grid0.coords t) 0 + 1 * 0 = t.val % 16
    rw [off1, Nat.mul_zero, Nat.add_zero]
  · show 0 + 1 * r.val = r.val
    omega

/-! ## What the experts add -/

/-- What expert `e` adds to the row `R` of the array: its weight there times its output. -/
def share (x : S16896x1024.Idx → EReal) (w : S16896x16.Idx → EReal) (wg wu wd : S16x1024x1024.Idx → EReal)
    (e : Fin 16) (R : Fin 16896) (d : Fin 1024) : EReal :=
  w (ix2 R e) * ffn (fun c => x (ix2 R c)) (fun c f => wg (ix3 e c f)) (fun c f => wu (ix3 e c f)) (fun f d => wd (ix3 e f d)) d

/-- The sum of what the experts before `n` add. -/
def mixture (x : S16896x1024.Idx → EReal) (w : S16896x16.Idx → EReal) (wg wu wd : S16x1024x1024.Idx → EReal)
    (R : Fin 16896) (d : Fin 1024) : ℕ → EReal
  | 0 => 0
  | n + 1 => mixture x w wg wu wd R d n + share x w wg wu wd ⟨n % 16, Nat.mod_lt _ (by decide)⟩ R d

/-- The share on the operands found. -/
abbrev gain (e : Fin 16) (R : Fin 16896) (d : Fin 1024) : EReal :=
  share (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) e R d
/-- The sum on the operands found. -/
abbrev mix (R : Fin 16896) (d : Fin 1024) (n : ℕ) : EReal :=
  mixture (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) R d n

/-- A point whose buffers hold the tile's rows and ranks adds its expert's share to the accumulator. -/
theorem expert_apply (hw : ∀ R e, (0 : EReal) ≤ m ((c.tc : Thread nD τ).loc main_arg1) (ix2 R e)) (t : Fin cfg0.N)
    (rk : Vec Ideal S16x1536 .f32) (xb : Vec Ideal S1536x1024 .bf16) (acc : Vec Ideal S1536x1024 .f32)
    (hrk : ∀ e r, rk (ix2 e r) = ((below (fun y => m ((c.tc : Thread nD τ).loc main_arg1) (ix2 (grow t y) e)) r : ℕ) : EReal))
    (hxb : ∀ r d, xb (ix2 r d) = m ((c.tc : Thread nD τ).loc main_arg0) (ix2 (grow t r) d)) (r : Fin 1536) (d : Fin 1024) :
    expert (grid0.coords t) (iblk m c 1 t) rk (iblk m c 2 t) (iblk m c 3 t) (iblk m c 4 t) xb acc (ix2 r d)
      = (acc (ix2 r d) : EReal) + gain m c (eix t) (grow t r) d := by
  have hrow : ∀ y, (erow (iblk m c 1 t) (grid0.coords t) (ix2 0 y) : EReal) = m ((c.tc : Thread nD τ).loc main_arg1) (ix2 (grow t y) (eix t)) :=
    fun y => (erow_apply t _ y).trans (block1 m c t _ y)
  unfold expert
  rw [all_apply _ _ (fun y => ?_) (fun y => ?_)]
  · refine congrArg ((acc (ix2 r d) : EReal) + ·) ?_
    rw [hrow]
    unfold gain share
    simp only [hxb, block2, block3, block4]
  · rw [erow_apply, hrk]
    simp only [hrow]
  · rw [hrow]
    exact hw _ _

/-- Two points of a tile see the same rows. -/
theorem grow_pred (t : Fin cfg0.N) (h : ¬t.val % 16 = 0) (h' : t.val - 1 < cfg0.N) (r : Fin 1536) : grow ⟨t.val - 1, h'⟩ r = grow t r := by
  refine Fin.ext ?_
  show (t.val - 1) / 16 * 1536 + r.val = t.val / 16 * 1536 + r.val
  have : (t.val - 1) / 16 = t.val / 16 := by omega
  rw [this]

/-- What the buffers hold after each point: the tile's rows, the sum of the experts so far, and the ranks. -/
theorem st_apply (hw : ∀ R e, (0 : EReal) ≤ m ((c.tc : Thread nD τ).loc main_arg1) (ix2 R e)) : ∀ (n : ℕ) (h : n < cfg0.N),
    (∀ r d, (st m c n h).1 (ix2 r d) = m ((c.tc : Thread nD τ).loc main_arg0) (ix2 (grow ⟨n, h⟩ r) d))
    ∧ (∀ r d, (st m c n h).2.1 (ix2 r d) = mix m c (grow ⟨n, h⟩ r) d (n % 16 + 1))
    ∧ (∀ e r, (st m c n h).2.2 (ix2 e r) = ((below (fun y => m ((c.tc : Thread nD τ).loc main_arg1) (ix2 (grow ⟨n, h⟩ y) e)) r : ℕ) : EReal)) := by
  intro n
  induction n using Nat.strong_induction_on with
  | _ n ih =>
    intro h
    by_cases h0 : n % 16 = 0
    · have e := st_first m c ⟨n, h⟩ h0
      have hrk : ∀ e r, (startSt m c ⟨n, h⟩).2.2 (ix2 e r)
          = ((below (fun y => m ((c.tc : Thread nD τ).loc main_arg1) (ix2 (grow ⟨n, h⟩ y) e)) r : ℕ) : EReal) := fun e r => by
        refine (rank_apply _ e r).trans ?_
        simp only [block1]
      have hxb : ∀ r d, (startSt m c ⟨n, h⟩).1 (ix2 r d) = m ((c.tc : Thread nD τ).loc main_arg0) (ix2 (grow ⟨n, h⟩ r) d) := fun r d => by
        refine Eq.trans ?_ (block0 m c ⟨n, h⟩ r d)
        show k0_pay12 (iblk m c 0 ⟨n, h⟩) (ix2 r d) = _
        pointwise [k0_pay12]
      dsimp only at e
      rw [e]
      refine ⟨hxb, fun r d => ?_, hrk⟩
      refine (expert_apply m c hw ⟨n, h⟩ _ _ _ hrk hxb r d).trans ?_
      have hz : (k0_pay13 (F := Ideal) (ix2 r d) : EReal) = 0 := by pointwise [k0_pay13]
      rw [hz, h0, zero_add]
      show _ = (0 : EReal) + _
      rw [zero_add]
      exact congrArg (fun e => gain m c e (grow ⟨n, h⟩ r) d) (Fin.ext h0)
    · have hp : n - 1 < cfg0.N := by omega
      obtain ⟨i1, i2, i3⟩ := ih (n - 1) (by omega) hp
      have e := st_next m c ⟨n, h⟩ h0
      dsimp only at e
      rw [e]
      have g := grow_pred ⟨n, h⟩ h0 hp
      dsimp only at g
      simp only [g] at i1 i2 i3
      refine ⟨i1, fun r d => ?_, i3⟩
      refine (expert_apply m c hw ⟨n, h⟩ _ _ _ i3 i1 r d).trans ?_
      rw [i2, show (n - 1) % 16 + 1 = n % 16 from by omega]
      show _ = mix m c _ d (n % 16) + gain m c _ _ d
      refine congrArg (mix m c (grow ⟨n, h⟩ r) d (n % 16) + ·) (congrArg (fun e => gain m c e (grow ⟨n, h⟩ r) d) (Fin.ext ?_))
      show n % 16 = n % 16 % 16
      omega

end Cert.KernelIdeal.Moe
-- ==== Proof.Final.lean ====
module

public import proofs.«01_k».proof.Proof.Blocks

/-!
The result array after the run, at an index.
-/

@[expose] public section

set_option maxRecDepth 16384

noncomputable section

namespace Cert.KernelIdeal.Moe

open Idealize.ShloMosaic Idealize.SL.Sem
open Cert.KernelIdeal.Gen

/-- A layer norm of the row `a` at `d`, with the rounded constants that the programs print. -/
def norm (a g b : Fin 1024 → EReal) (d : Fin 1024) : EReal :=
  (a d - Ideal.div (∑ x, a x) (Ideal.ofBits .f32 1149239296#32))
    * Ideal.rsqrt (Ideal.div (∑ y, (a y - Ideal.div (∑ x, a x) (Ideal.ofBits .f32 1149239296#32))
        * (a y - Ideal.div (∑ x, a x) (Ideal.ofBits .f32 1149239296#32))) (Ideal.ofBits .f32 1149239296#32) + Ideal.ofBits .f32 925353388#32)
    * g d + b d

/-- The mixture of experts with its residual and norm, at a row and a column. -/
def layer (x : S16896x1024.Idx → EReal) (w : S16896x16.Idx → EReal) (wg wu wd : S16x1024x1024.Idx → EReal) (g b : S1024.Idx → EReal)
    (R : Fin 16896) (d : Fin 1024) : EReal :=
  norm (fun y => Ideal.ofBits .f32 1068827891#32 * x (ix2 R y) + mixture x w wg wu wd R y 16) (fun y => g (ix1 y)) (fun y => b (ix1 y)) d

variable (m : (ℓ : Loc nD τ sig) → Buf (Elt Ideal) ℓ) (c : Dev nD)

/-- The result on the operands found. -/
abbrev res (R : Fin 16896) (d : Fin 1024) : EReal :=
  layer (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) R d

/-- The last expert's point of a tile stores the layer's rows. -/
theorem outBlock_apply (hw : ∀ R e, (0 : EReal) ≤ m ((c.tc : Thread nD τ).loc main_arg1) (ix2 R e)) (t : Fin cfg0.N) (h : t.val % 16 = 15)
    (r : Fin 1536) (d : Fin 1024) : outBlock m c t (ix2 r d) = res m c (grow t r) d := by
  have e := (st_apply m c hw t.val t.isLt).2.1
  simp only [h] at e
  unfold outBlock
  pointwise [k0_pay3]
  simp only [e, block0, block5, block6]
  rfl

/-- The result array after the run. -/
theorem out_eq (hw : ∀ R e, (0 : EReal) ≤ m ((c.tc : Thread nD τ).loc main_arg1) (ix2 R e)) :
    (dats m 0 c).arrAt 7 cfg0.N = fun i : S16896x1024.Idx => res m c (i 0) (i 1) := by
  refine (dats m 0 c).arrAt_eq_of_covers 7 _ (by decide +kernel) fun t hf y => ?_
  blk_simp
  rw [after_out]
  have h := (flush0_7 t).mp hf
  obtain ⟨r, d, rfl⟩ : ∃ (r : Fin 1536) (d : Fin 1024), y = ix2 r d := ⟨y 0, y 1, eq_ix2 y⟩
  refine (outBlock_apply m c hw t h r d).trans ?_
  refine congrArg₂ (res m c) ?_ ?_
  · refine Fin.ext ?_
    blk_simp [idx t]
    try rfl
  · refine Fin.ext ?_
    blk_simp [idx t]

end Cert.KernelIdeal.Moe
-- ==== Proof.Ref.lean ====
module

public import proofs.«01_k».proof.Proof.Gen.ReferenceIdeal.Run
public import proofs.«01_k».proof.Proof.Final

/-!
The reference's composed term, read at a row and a column.
-/

@[expose] public section

set_option maxRecDepth 16384

noncomputable section

namespace Cert.ReferenceIdeal.Moe

open Idealize.ShloMosaic Idealize.SL.Sem Idealize.ShloMosaic.StableHlo
open Cert.ReferenceIdeal Cert.ReferenceIdeal.Gen Cert.ReferenceIdeal.Value
open Cert.KernelIdeal.Moe (share mixture layer norm ffn unit)

/-- A projection of the rows by the matrix of expert `k`. -/
def proj (k : ℕ) (h : S16x1024x1024.Slices ![k, 0, 0] S1x1024x1024) (x : FVec Ideal S16896x1024 .f32) (w : FVec Ideal S16x1024x1024 .f32) :
    FVec Ideal S16896x1024 .f32 :=
  Host.dotGeneral dot_S16896x1024_S1024x1024_S16896x1024_1_0_0_1_n_n none x
    (shapeCast S1024x1024 (extractStridedSlice S1x1024x1024 ![k, 0, 0] w h) shapeCasts_S1x1024x1024_S1024x1024)

/-- The projection at a row and a column. -/
theorem proj_apply (k : ℕ) (hk : k < 16) (h : S16x1024x1024.Slices ![k, 0, 0] S1x1024x1024) (x : FVec Ideal S16896x1024 .f32)
    (w : FVec Ideal S16x1024x1024 .f32) (R : Fin 16896) (d : Fin 1024) :
    proj k h x w (ix2 R d) = ∑ c : Fin 1024, (x (ix2 R c) : EReal) * w (ix3 ⟨k, hk⟩ c d) := by
  pointwise [proj]

/-- The share of expert `k`, as the reference computes it. -/
def term (k : ℕ) (h : S16x1024x1024.Slices ![k, 0, 0] S1x1024x1024) (h' : S16896x16.Slices ![0, k] S16896x1)
    (x : FVec Ideal S16896x1024 .f32) (w : FVec Ideal S16896x16 .f32) (wg wu wd : FVec Ideal S16x1024x1024 .f32) : FVec Ideal S16896x1024 .f32 :=
  mulf (broadcastInDim S16896x1024 ![0, 1] bcast_S16896x1_S16896x1024_0_1 (extractStridedSlice S16896x1 ![0, k] w h'))
    (proj k h (mulf (mulf (proj k h x wg) (Host.divf (broadcastInDim S16896x1024 ![] bcast_S_S16896x1024 (constant S_ .f32 0x3F800000#32))
      (addf (broadcastInDim S16896x1024 ![] bcast_S_S16896x1024 (constant S_ .f32 0x3F800000#32)) (Host.exp (Host.negf (proj k h x wg))))))
      (proj k h x wu)) wd)

/-- The share at a row and a column. -/
theorem term_apply (k : ℕ) (hk : k < 16) (h : S16x1024x1024.Slices ![k, 0, 0] S1x1024x1024) (h' : S16896x16.Slices ![0, k] S16896x1)
    (x : FVec Ideal S16896x1024 .f32) (w : FVec Ideal S16896x16 .f32) (wg wu wd : FVec Ideal S16x1024x1024 .f32) (R : Fin 16896) (d : Fin 1024) :
    term k h h' x w wg wu wd (ix2 R d) = share x w wg wu wd ⟨k, hk⟩ R d := by
  pointwise [term]
  simp only [proj_apply k hk]
  unfold share ffn
  refine congrArg ((w (ix2 R ⟨k, hk⟩) : EReal) * ·) (Finset.sum_congr rfl fun c _ => congrArg (· * (wd (ix3 ⟨k, hk⟩ c d) : EReal)) ?_)
  pointwise []
  simp only [proj_apply k hk]
  unfold unit
  rw [zero_sub]

variable (V0 : Valuation τ sig (Elt Ideal))

/-- Expert `k`'s share on the reference's operands. -/
abbrev at' (k : ℕ) (h : S16x1024x1024.Slices ![k, 0, 0] S1x1024x1024) (h' : S16896x16.Slices ![0, k] S16896x1) : FVec Ideal S16896x1024 .f32 :=
  term k h h' (V0 (Proc.devRef .tc main_arg0)) (V0 (Proc.devRef .tc main_arg1)) (V0 (Proc.devRef .tc main_arg2)) (V0 (Proc.devRef .tc main_arg3)) (V0 (Proc.devRef .tc main_arg4))

/-- The sum of the first five experts. -/
theorem v75_eq : res_main_v75 V0 = addf (addf (addf (addf (addf (broadcastInDim S16896x1024 ![] bcast_S_S16896x1024 (constant S_ .f32 0x00000000#32))
    (at' V0 0 slices_S16x1024x1024_S1x1024x1024_0_0_0 slices_S16896x16_S16896x1_0_0))
    (at' V0 1 slices_S16x1024x1024_S1x1024x1024_1_0_0 slices_S16896x16_S16896x1_0_1))
    (at' V0 2 slices_S16x1024x1024_S1x1024x1024_2_0_0 slices_S16896x16_S16896x1_0_2))
    (at' V0 3 slices_S16x1024x1024_S1x1024x1024_3_0_0 slices_S16896x16_S16896x1_0_3))
    (at' V0 4 slices_S16x1024x1024_S1x1024x1024_4_0_0 slices_S16896x16_S16896x1_0_4) := rfl

/-- The sum of the first ten experts. -/
theorem v150_eq : res_main_v150 V0 = addf (addf (addf (addf (addf (res_main_v75 V0)
    (at' V0 5 slices_S16x1024x1024_S1x1024x1024_5_0_0 slices_S16896x16_S16896x1_0_5))
    (at' V0 6 slices_S16x1024x1024_S1x1024x1024_6_0_0 slices_S16896x16_S16896x1_0_6))
    (at' V0 7 slices_S16x1024x1024_S1x1024x1024_7_0_0 slices_S16896x16_S16896x1_0_7))
    (at' V0 8 slices_S16x1024x1024_S1x1024x1024_8_0_0 slices_S16896x16_S16896x1_0_8))
    (at' V0 9 slices_S16x1024x1024_S1x1024x1024_9_0_0 slices_S16896x16_S16896x1_0_9) := rfl

/-- The sum of the first fifteen experts. -/
theorem v225_eq : res_main_v225 V0 = addf (addf (addf (addf (addf (res_main_v150 V0)
    (at' V0 10 slices_S16x1024x1024_S1x1024x1024_10_0_0 slices_S16896x16_S16896x1_0_10))
    (at' V0 11 slices_S16x1024x1024_S1x1024x1024_11_0_0 slices_S16896x16_S16896x1_0_11))
    (at' V0 12 slices_S16x1024x1024_S1x1024x1024_12_0_0 slices_S16896x16_S16896x1_0_12))
    (at' V0 13 slices_S16x1024x1024_S1x1024x1024_13_0_0 slices_S16896x16_S16896x1_0_13))
    (at' V0 14 slices_S16x1024x1024_S1x1024x1024_14_0_0 slices_S16896x16_S16896x1_0_14) := rfl

/-- The residual and the sum of all experts. -/
theorem v243_eq : res_main_v243 V0 = addf (mulf (broadcastInDim S16896x1024 ![] bcast_S_S16896x1024 (constant S_ .f32 0x3FB504F3#32)) (V0 (Proc.devRef .tc main_arg0)))
    (addf (res_main_v225 V0) (at' V0 15 slices_S16x1024x1024_S1x1024x1024_15_0_0 slices_S16896x16_S16896x1_0_15)) := rfl

/-- The sum of the experts before `n`. -/
abbrev mix (R : Fin 16896) (d : Fin 1024) (n : ℕ) : EReal :=
  mixture (V0 (Proc.devRef .tc main_arg0)) (V0 (Proc.devRef .tc main_arg1)) (V0 (Proc.devRef .tc main_arg2)) (V0 (Proc.devRef .tc main_arg3)) (V0 (Proc.devRef .tc main_arg4)) R d n

/-- The first five experts' sum. -/
theorem v75_apply (R : Fin 16896) (d : Fin 1024) : res_main_v75 V0 (ix2 R d) = mix V0 R d 5 := by
  rw [v75_eq]
  pointwise []
  simp only [term_apply _ (by decide : (0 : ℕ) < 16), term_apply _ (by decide : (1 : ℕ) < 16), term_apply _ (by decide : (2 : ℕ) < 16),
    term_apply _ (by decide : (3 : ℕ) < 16), term_apply _ (by decide : (4 : ℕ) < 16)]
  show _ = 0 + _ + _ + _ + _ + _
  rw [zero_add]

/-- The first ten experts' sum. -/
theorem v150_apply (R : Fin 16896) (d : Fin 1024) : res_main_v150 V0 (ix2 R d) = mix V0 R d 10 := by
  rw [v150_eq]
  pointwise []
  simp only [v75_apply, term_apply _ (by decide : (5 : ℕ) < 16), term_apply _ (by decide : (6 : ℕ) < 16), term_apply _ (by decide : (7 : ℕ) < 16), term_apply _ (by decide : (8 : ℕ) < 16), term_apply _ (by decide : (9 : ℕ) < 16)]
  rfl

/-- The first fifteen experts' sum. -/
theorem v225_apply (R : Fin 16896) (d : Fin 1024) : res_main_v225 V0 (ix2 R d) = mix V0 R d 15 := by
  rw [v225_eq]
  pointwise []
  simp only [v150_apply, term_apply _ (by decide : (10 : ℕ) < 16), term_apply _ (by decide : (11 : ℕ) < 16), term_apply _ (by decide : (12 : ℕ) < 16), term_apply _ (by decide : (13 : ℕ) < 16), term_apply _ (by decide : (14 : ℕ) < 16)]
  rfl

/-- The rows before the norm. -/
theorem v243_apply (R : Fin 16896) (d : Fin 1024) :
    res_main_v243 V0 (ix2 R d) = Ideal.ofBits .f32 1068827891#32 * (V0 (Proc.devRef .tc main_arg0) (ix2 R d) : EReal) + mix V0 R d 16 := by
  rw [v243_eq]
  pointwise []
  rw [v225_apply, at', term_apply _ (by decide : (15 : ℕ) < 16)]
  rfl

/-- The reference's result. -/
def out : FVec Ideal S16896x1024 .f32 :=
  addf (mulf (mulf (subf (res_main_v243 V0) (broadcastInDim S16896x1024 ![0, 1] bcast_S16896x1_S16896x1024_0_1 (res_main_v247 V0)))
    (broadcastInDim S16896x1024 ![0, 1] bcast_S16896x1_S16896x1024_0_1 (Host.rsqrt (addf (Host.divf (broadcastInDim S16896x1 ![0] bcast_S16896_S16896x1_0
      (Host.reduceAdd (mulf (res_main_v249 V0) (res_main_v249 V0)) (constant S_ .f32 0x00000000#32) reducesTo_S16896x1024_S16896_d1 h_S_))
      (broadcastInDim S16896x1 ![] bcast_S_S16896x1 (constant S_ .f32 0x44800000#32)))
      (broadcastInDim S16896x1 ![] bcast_S_S16896x1 (constant S_ .f32 0x3727C5AC#32))))))
    (broadcastInDim S16896x1024 ![0, 1] bcast_S1x1024_S16896x1024_0_1 (broadcastInDim S1x1024 ![1] bcast_S1024_S1x1024_1 (V0 (Proc.devRef .tc main_arg5)))))
    (broadcastInDim S16896x1024 ![0, 1] bcast_S1x1024_S16896x1024_0_1 (broadcastInDim S1x1024 ![1] bcast_S1024_S1x1024_1 (V0 (Proc.devRef .tc main_arg6))))

/-- The reference's result at a row and a column. -/
theorem out_apply (R : Fin 16896) (d : Fin 1024) : out V0 (ix2 R d)
    = layer (V0 (Proc.devRef .tc main_arg0)) (V0 (Proc.devRef .tc main_arg1)) (V0 (Proc.devRef .tc main_arg2)) (V0 (Proc.devRef .tc main_arg3))
        (V0 (Proc.devRef .tc main_arg4)) (V0 (Proc.devRef .tc main_arg5)) (V0 (Proc.devRef .tc main_arg6)) R d := by
  pointwise [out, res_main_v249, res_main_v247]
  simp only [v243_apply]
  rfl

end Cert.ReferenceIdeal.Moe
-- ==== Proof.Same.lean ====
module

public import proofs.«01_k».proof.Defs
public import proofs.«01_k».proof.Proof.Gen.Kernel
public import proofs.«01_k».proof.Proof.Gen.KernelIdeal

/-!
The kernel and its idealization are one text: their body tables are equal.
-/

@[expose] public section

set_option maxRecDepth 16384

namespace Cert.Proof

open Idealize.ShloMosaic

/-- The bodies are equal. -/
theorem same_body : @Cert.Kernel.cc0_moe Bits _ _ = @Cert.KernelIdeal.cc0_moe Bits _ _ := rfl

/-- The kernels' tables are equal. -/
theorem same_table : Cert.Kernel.defs₀ (F := Bits) = Cert.KernelIdeal.defs₀ (F := Bits) := by
  unfold Cert.Kernel.defs₀ Cert.KernelIdeal.defs₀
  refine congrArg (Defs.onTc (Λ := Cert.KernelIdeal.Λ₀)) (funext fun l => funext fun a => ?_)
  match l, a with
  | ⟨0, _⟩, (t, s) =>
    exact congrFun (congrFun (congrFun (congrFun (congrFun (congrFun (congrFun (congrFun (congrFun (congrFun (congrFun (congrFun (congrFun (congrFun
      (congrFun (congrFun (congrFun (congrFun (congrFun (congrFun (congrFun (congrFun (congrFun same_body _) _) _) _) _) _) _) _) _) _) _) _) _) _) _) _) _) _) _) _) _) _) _
  | ⟨_ + 1, h⟩, _ => exact absurd h (Nat.not_lt.2 (Nat.le_add_left _ _))

/-- The whole tables are equal. -/
theorem same_defs : Cert.Kernel.defs (F := Bits) = Cert.KernelIdeal.defs (F := Bits) :=
  congrArg (Pipeline.defs (Cert.KernelIdeal.pcfgs (F := Bits))) same_table

end Cert.Proof
-- ==== Proof.lean ====
module

public import proofs.«01_k».proof.Proof.AttnClaim
public import proofs.«01_k».proof.Proof.Ref
public import proofs.«01_k».proof.Proof.Same
public import proofs.«01_k».proof.Defs
public import proofs.«01_k».proof.Proof.Gen.Kernel
public import proofs.«01_k».proof.Proof.Gen.Pre_nonneg
public import Idealize.ShloMosaic.Lib.ReduceAll
public import Idealize.ShloMosaic.Adequacy
public import Idealize.ShloMosaic.Init

@[expose] public section

set_option maxRecDepth 16384

noncomputable section

namespace Cert.Proof

open Idealize.ShloMosaic Idealize.SL.Sem

/-! ## The frames -/

/-- The kernel's frame, from the one run over any floats. -/
theorem frame_kernel : Cert.quiescent_Kernel := fun m ρ _ =>
  Eq.mpr (congrArg (fun D => θ_run D (onTc (τ := Cert.KernelIdeal.τ) (Cert.KernelIdeal.main (F := Bits))) ⟨m, fun _ => 0, ρ⟩ _) same_defs)
    (Cert.KernelIdeal.Moe.frame_all (F := Bits) m ρ)

/-- The idealized kernel's frame. -/
theorem frame_ideal : Cert.quiescent_KernelIdeal := fun m ρ _ => Cert.KernelIdeal.Moe.frame_all (F := Ideal) m ρ

/-- The same under the precondition. -/
theorem frame_ideal_pre : Cert.quiescent_KernelIdeal_pre_nonneg := fun m ρ _ => Cert.KernelIdeal.Moe.frame_all (F := Ideal) m ρ

/-- The reference's frame. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same under the precondition. -/
theorem frame_reference_pre : Cert.quiescent_ReferenceIdeal_pre_nonneg := fun m ρ _ => frame_reference m ρ trivial

/-! ## The value -/

/-- The precondition says that no combine weight is negative. -/
theorem weights_nonneg (m : (ℓ : Loc Cert.KernelIdeal.nD Cert.KernelIdeal.τ Cert.KernelIdeal.sig) → Buf (Elt Ideal) ℓ)
    (h : Cert.Pre_KernelIdeal_nonneg m) (c : Dev Cert.KernelIdeal.nD) (R : Fin 16896) (e : Fin 16) :
    (0 : EReal) ≤ m ((c.tc : Thread Cert.KernelIdeal.nD Cert.KernelIdeal.τ).loc Cert.KernelIdeal.main_arg1) (ix2 R e) := by
  have h1 := congrFun (h c) ix0
  have h2 := Host.reduce_andi_all _ _ _ _ ix0 h1 (ix2 R e)
  pointwise [] at h2
  by_contra hn
  rw [decide_eq_false hn] at h2
  exact absurd h2 (by decide)

/-- The kernel's run with its result. -/
theorem run_kernel (m : (ℓ : Loc Cert.KernelIdeal.nD Cert.KernelIdeal.τ Cert.KernelIdeal.sig) → Buf (Elt Ideal) ℓ) (ρ : Dev Cert.KernelIdeal.nD → PrngReg)
    (hw : ∀ (c : Dev Cert.KernelIdeal.nD) (R : Fin 16896) (e : Fin 16), (0 : EReal) ≤ m ((c.tc : Thread Cert.KernelIdeal.nD Cert.KernelIdeal.τ).loc Cert.KernelIdeal.main_arg1) (ix2 R e)) :
    θ_run (Cert.KernelIdeal.defs (F := Ideal)) (onTc (τ := Cert.KernelIdeal.τ) (Cert.KernelIdeal.main (F := Ideal))) ⟨m, fun _ => 0, ρ⟩ (fun r =>
      (∀ c : Dev Cert.KernelIdeal.nD, r.2.mem ((c.tc : Thread Cert.KernelIdeal.nD Cert.KernelIdeal.τ).loc Cert.KernelIdeal.main_v6)
        = fun i : Cert.KernelIdeal.S16896x1024.Idx => Cert.KernelIdeal.Moe.res m c (i 0) (i 1))) :=
  (θ_run Cert.KernelIdeal.defs _ _).mono (fun _ h c => ((h c).1 7).trans (Cert.KernelIdeal.Moe.out_eq m c (hw c)))
    (Cert.KernelIdeal.Moe.run_post (F := Ideal) m ρ)

/-- The reference's run with its result. -/
theorem run_reference (m : (ℓ : Loc Cert.ReferenceIdeal.nD Cert.ReferenceIdeal.τ Cert.ReferenceIdeal.sig) → Buf (Elt Ideal) ℓ) (c : Dev Cert.ReferenceIdeal.nD) :
    Cert.ReferenceIdeal.Moe.out (StableHlo.launchContents m c) = fun i : Cert.ReferenceIdeal.S16896x1024.Idx =>
      Cert.KernelIdeal.Moe.layer (m ((c.tc : Thread Cert.ReferenceIdeal.nD Cert.ReferenceIdeal.τ).loc Cert.ReferenceIdeal.main_arg0))
        (m ((c.tc : Thread Cert.ReferenceIdeal.nD Cert.ReferenceIdeal.τ).loc Cert.ReferenceIdeal.main_arg1))
        (m ((c.tc : Thread Cert.ReferenceIdeal.nD Cert.ReferenceIdeal.τ).loc Cert.ReferenceIdeal.main_arg2))
        (m ((c.tc : Thread Cert.ReferenceIdeal.nD Cert.ReferenceIdeal.τ).loc Cert.ReferenceIdeal.main_arg3))
        (m ((c.tc : Thread Cert.ReferenceIdeal.nD Cert.ReferenceIdeal.τ).loc Cert.ReferenceIdeal.main_arg4))
        (m ((c.tc : Thread Cert.ReferenceIdeal.nD Cert.ReferenceIdeal.τ).loc Cert.ReferenceIdeal.main_arg5))
        (m ((c.tc : Thread Cert.ReferenceIdeal.nD Cert.ReferenceIdeal.τ).loc Cert.ReferenceIdeal.main_arg6)) (i 0) (i 1) := by
  funext i
  obtain ⟨R, d, rfl⟩ : ∃ (R : Fin 16896) (d : Fin 1024), i = ix2 R d := ⟨i 0, i 1, eq_ix2 i⟩
  exact Cert.ReferenceIdeal.Moe.out_apply _ R d

/-- Kernel and reference end with equal results. -/
theorem value : Cert.algebraic_KernelIdeal_ReferenceIdeal_pre_nonneg := fun m g m' g' hpre hag =>
  ⟨fun c => fun i : Cert.KernelIdeal.S16896x1024.Idx => Cert.KernelIdeal.Moe.res m c (i 0) (i 1),
    (θ_run Cert.KernelIdeal.defs _ _).mono (fun _ h c => ⟨h.1 c, h.2.1 c⟩)
      (θ_run_and (run_kernel m g (weights_nonneg m hpre)) (Cert.KernelIdeal.Moe.frame_all (F := Ideal) m g)),
    (θ_run Cert.ReferenceIdeal.defs _ _).mono (fun _ h c => ⟨((h c).1.trans (run_reference m' c)).trans (by
      obtain ⟨h0, h1, h2, h3, h4, h5, h6⟩ := hag c
      rw [h0, h1, h2, h3, h4, h5, h6]), (h c).2⟩)
      (Cert.ReferenceIdeal.Value.run (F := Ideal) m' g')⟩

/-- Every claim. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Pre_nonneg.Gen.facts, Cert.Pre_finite.Gen.facts,
  frame_kernel, frame_ideal, frame_ideal_pre, frame_reference, frame_reference_pre, frame_kernel2, frame_ideal2, frame_ideal2_pre, frame_reference2, frame_reference2_pre,
  trivial, value, preserves2, value2⟩

end Cert.Proof

end
